-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_experts_named : Cert.Pre_experts_named.Facts] (m : (ℓ : Loc Cert.Kernel2.nD Cert.Kernel2.τ Cert.Kernel2.sig) → Buf (Elt Bits) ℓ) : Prop :=
  ∀ c : Dev Cert.Kernel2.nD,
    (Cert.Pre_experts_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_experts_named : Cert.Pre_experts_named.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_named [hPre_experts_named : Cert.Pre_experts_named.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_experts_named : Cert.Pre_experts_named.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_experts_named [hReference2Ideal : Cert.Reference2Ideal.Facts] [hPre_experts_named : Cert.Pre_experts_named.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_named m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_v16) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v45) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v27) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  IdealRules.named_const.Statement Cert.Kernel9Ideal.κ "share" .f32 0x3BAAAAAB#32 ((192⁻¹ : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v66_0)) (v1 : (c : Dev Cert.Kernel9Ideal.nD) → Buf (Elt Ideal) ((c.tc : Thread Cert.Kernel9Ideal.nD Cert.Kernel9Ideal.τ).loc Cert.Kernel9Ideal.main_v66_1)) (v2 : (c : Dev Cert.Kernel9Ideal.nD) → Buf (Elt Ideal) ((c.tc : Thread Cert.Kernel9Ideal.nD Cert.Kernel9Ideal.τ).loc Cert.Kernel9Ideal.main_v66_2)) (v3 : (c : Dev Cert.Kernel9Ideal.nD) → Buf (Elt Ideal) ((c.tc : Thread Cert.Kernel9Ideal.nD Cert.Kernel9Ideal.τ).loc Cert.Kernel9Ideal.main_v66_3)) (v4 : (c : Dev Cert.Kernel9Ideal.nD) → Buf (Elt Ideal) ((c.tc : Thread Cert.Kernel9Ideal.nD Cert.Kernel9Ideal.τ).loc Cert.Kernel9Ideal.main_v66_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v66_0) = v0 c
          ∧ r.2.mem ((c.tc : Thread Cert.Kernel9Ideal.nD Cert.Kernel9Ideal.τ).loc Cert.Kernel9Ideal.main_v66_1) = v1 c
          ∧ r.2.mem ((c.tc : Thread Cert.Kernel9Ideal.nD Cert.Kernel9Ideal.τ).loc Cert.Kernel9Ideal.main_v66_2) = v2 c
          ∧ r.2.mem ((c.tc : Thread Cert.Kernel9Ideal.nD Cert.Kernel9Ideal.τ).loc Cert.Kernel9Ideal.main_v66_3) = v3 c
          ∧ r.2.mem ((c.tc : Thread Cert.Kernel9Ideal.nD Cert.Kernel9Ideal.τ).loc Cert.Kernel9Ideal.main_v66_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v139) = v0 c
          ∧ r.2.mem ((c.tc : Thread Cert.Reference9Ideal.nD Cert.Reference9Ideal.τ).loc Cert.Reference9Ideal.main_v143) = v1 c
          ∧ r.2.mem ((c.tc : Thread Cert.Reference9Ideal.nD Cert.Reference9Ideal.τ).loc Cert.Reference9Ideal.main_v146) = v2 c
          ∧ r.2.mem ((c.tc : Thread Cert.Reference9Ideal.nD Cert.Reference9Ideal.τ).loc Cert.Reference9Ideal.main_v148) = v3 c
          ∧ r.2.mem ((c.tc : Thread Cert.Reference9Ideal.nD Cert.Reference9Ideal.τ).loc Cert.Reference9Ideal.main_v150) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_scores : Cert.Pre_finite_scores.Facts) (hPre_experts_named : Cert.Pre_experts_named.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_experts_named := hPre_experts_named)
    ∧ quiescent_Kernel2Ideal (hKernel2Ideal := hKernel2Ideal) (hPre_experts_named := hPre_experts_named)
    ∧ quiescent_Reference2Ideal (hReference2Ideal := hReference2Ideal)
    ∧ quiescent_Reference2Ideal_pre_experts_named (hReference2Ideal := hReference2Ideal) (hPre_experts_named := hPre_experts_named)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_experts_named := hPre_experts_named)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_experts_named.lean ====
abbrev S72 : Shape := ⟨1, ![72]⟩
abbrev S1 : Shape := ⟨1, ![1]⟩
abbrev S73728x2048 : Shape := ⟨2, ![73728, 2048]⟩
abbrev S8x2048x5632 : Shape := ⟨3, ![8, 2048, 5632]⟩
abbrev S8x5632x2048 : Shape := ⟨3, ![8, 5632, 2048]⟩
abbrev S73728x1 : Shape := ⟨2, ![73728, 1]⟩
abbrev S_ : Shape := ⟨0, ![]⟩

class Facts : Prop where
  bcast_S_S72 : S_.BroadcastsInDim S72 (![] : Fin 0 → Fin S72.rank)

variable [Facts]

def fn {F : FTy → Type} [FloatOps F] (main_arg0 : IVec S72 32) (main_arg1 : IVec S1 32) (main_arg2 : FVec F S73728x2048 .bf16) (main_arg3 : FVec F S8x2048x5632 .bf16) (main_arg4 : FVec F S8x2048x5632 .bf16) (main_arg5 : FVec F S8x5632x2048 .bf16) (main_arg6 : FVec F S73728x1 .f32) : IVec S72 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  main_v4
-- ==== Pre_finite_scores.lean ====
abbrev S32768x1024 : Shape := ⟨2, ![32768, 1024]⟩
abbrev S32768x512 : Shape := ⟨2, ![32768, 512]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_

variable [Facts]

def fn_part1 {F : FTy → Type} [FloatOps F] (main_v16 : IVec S_ 1) (main_v17 : FVec F S32768x512 .f32) : IVec S_ 1 :=
  let main_v18 : FVec F S32768x512 .f32 := Host.absf main_v17
  let main_cst_4 : FVec F S_ .f32 := constant S_ .f32 0x7F800000#32
  let main_v19 : FVec F S32768x512 .f32 := broadcastInDim S32768x512 ![] bcast_S_S32768x512 main_cst_4
  let main_v20 : IVec S32768x512 1 := cmpf .olt main_v18 main_v19
  let main_c_5 : IVec S_ 1 := constantI S_ 1 1#1
  let main_v21 : IVec S_ 1 := (fun x v => Host.reduce IntOp.andi x v reducesTo_S32768x512_S_d0_1 h_S_) main_v20 main_c_5
  let main_v22 : IVec S_ 1 := andi main_v16 main_v21
  main_v22

def fn {F : FTy → Type} [FloatOps F] (main_arg0 : FVec F S32768x1024 .bf16) (main_arg1 : FVec F S32768x512 .bf16) (main_arg2 : FVec F S32768x1024 .bf16) (main_arg3 : FVec F S32768x512 .bf16) (main_arg4 : FVec F S32768x1024 .bf16) : IVec S_ 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S32768x512 .f32 := (extf .f32 · bitsLt_bf16_f32) main_arg1
  let main_v6 : FVec F S32768x512 .f32 := Host.absf main_v5
  let main_cst_0 : FVec F S_ .f32 := constant S_ .f32 0x7F800000#32
  let main_v7 : FVec F S32768x512 .f32 := broadcastInDim S32768x512 ![] bcast_S_S32768x512 main_cst_0
  let main_v8 : IVec S32768x512 1 := cmpf .olt main_v6 main_v7
  let main_c_1 : IVec S_ 1 := constantI S_ 1 1#1
  let main_v9 : IVec S_ 1 := (fun x v => Host.reduce IntOp.andi x v reducesTo_S32768x512_S_d0_1 h_S_) main_v8 main_c_1
  let main_v10 : IVec S_ 1 := andi main_v4 main_v9
  let main_v11 : FVec F S32768x1024 .f32 := (extf .f32 · bitsLt_bf16_f32) main_arg2
  let main_v12 : FVec F S32768x1024 .f32 := Host.absf main_v11
  let main_cst_2 : FVec F S_ .f32 := constant S_ .f32 0x7F800000#32
  let main_v13 : FVec F S32768x1024 .f32 := broadcastInDim S32768x1024 ![] bcast_S_S32768x1024 main_cst_2
  let main_v14 : IVec S32768x1024 1 := cmpf .olt main_v12 main_v13
  let main_c_3 : IVec S_ 1 := constantI S_ 1 1#1
  let main_v15 : IVec S_ 1 := (fun x v => Host.reduce IntOp.andi x v reducesTo_S32768x1024_S_d0_1 h_S_) main_v14 main_c_3
  let main_v16 : IVec S_ 1 := andi main_v10 main_v15
  let main_v17 : FVec F S32768x512 .f32 := (extf .f32 · bitsLt_bf16_f32) main_arg3
  fn_part1 (F := F) main_v16 main_v17
-- ==== Kernel.lean ====
abbrev S32768x1024 : Shape := ⟨2, ![32768, 1024]⟩
abbrev S32768x512 : Shape := ⟨2, ![32768, 512]⟩
abbrev S4x8192x1024 : Shape := ⟨3, ![4, 8192, 1024]⟩
abbrev S4x8192x512 : Shape := ⟨3, ![4, 8192, 512]⟩
abbrev S1x2048x128 : Shape := ⟨3, ![1, 2048, 128]⟩
abbrev S1x1024x128 : Shape := ⟨3, ![1, 1024, 128]⟩
abbrev S2048x256 : Shape := ⟨2, ![2048, 256]⟩
abbrev S2048x1024 : Shape := ⟨2, ![2048, 1024]⟩
abbrev S2048x1 : Shape := ⟨2, ![2048, 1]⟩
abbrev S2048x128 : Shape := ⟨2, ![2048, 128]⟩
abbrev S1024x128 : Shape := ⟨2, ![1024, 128]⟩
abbrev S1024x256 : Shape := ⟨2, ![1024, 256]⟩
abbrev S256x256 : Shape := ⟨2, ![256, 256]⟩
abbrev S256x1024 : Shape := ⟨2, ![256, 1024]⟩
abbrev S256x1 : Shape := ⟨2, ![256, 1]⟩
abbrev S256 : Shape := ⟨1, ![256]⟩

abbrev nBuf : Space → Nat
  | .hbm => 13
  | .vmem => 21
  | .smem => 0
  | _ => 0

abbrev bufTy : (tb : Table) → Fin (tcTables nBuf tb) → BufTy
  | .hbm, ⟨0, _⟩ => ⟨S32768x1024, .bf16⟩
  | .hbm, ⟨1, _⟩ => ⟨S32768x512, .bf16⟩
  | .hbm, ⟨2, _⟩ => ⟨S32768x1024, .bf16⟩
  | .hbm, ⟨3, _⟩ => ⟨S32768x512, .bf16⟩
  | .hbm, ⟨4, _⟩ => ⟨S32768x1024, .bf16⟩
  | .hbm, ⟨5, _⟩ => ⟨S4x8192x1024, .bf16⟩
  | .hbm, ⟨6, _⟩ => ⟨S4x8192x512, .bf16⟩
  | .hbm, ⟨7, _⟩ => ⟨S4x8192x1024, .bf16⟩
  | .hbm, ⟨8, _⟩ => ⟨S4x8192x512, .bf16⟩
  | .hbm, ⟨9, _⟩ => ⟨S4x8192x1024, .bf16⟩
  | .hbm, ⟨10, _⟩ => ⟨S4x8192x512, .bf16⟩
  | .hbm, ⟨11, _⟩ => ⟨S4x8192x1024, .bf16⟩
  | .hbm, ⟨12, _⟩ => ⟨S4x8192x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S2048x256, .bf16⟩
  | .local _ .vmem, ⟨17, _⟩ => ⟨S2048x1024, .f32⟩
  | .local _ .vmem, ⟨18, _⟩ => ⟨S2048x1024, .f32⟩
  | .local _ .vmem, ⟨19, _⟩ => ⟨S2048x1, .f32⟩
  | .local _ .vmem, ⟨20, _⟩ => ⟨S2048x256, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨4, ![4, 8, 4, 8], ![false, false, false, false]⟩

def k0_cond4 (i : grid0.Coords) : BitVec 1 :=
  let arg3 : BitVec 32 := BitVec.ofNat 32 (i 3).val
  let c7_i32 : BitVec 32 := 7#32
  let v29 : BitVec 1 := Scalar.cmpi .eq arg3 c7_i32
  let v30 : BitVec 32 := Scalar.extui v29
  let c0_i32_15 : BitVec 32 := 0#32
  let v31 : BitVec 1 := Scalar.cmpi .ne v30 c0_i32_15
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, arg2.toNat, v16.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.addi arg3 c1_i32
  let c7_i32 : BitVec 32 := 7#32
  let v1 : BitVec 32 := Scalar.minsi v0 c7_i32
  let c0_i32 : BitVec 32 := 0#32
  ![arg0.toNat, v1.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.addi arg3 c1_i32
  let c7_i32 : BitVec 32 := 7#32
  let v1 : BitVec 32 := Scalar.minsi v0 c7_i32
  let c2_i32 : BitVec 32 := 2#32
  let v2 : BitVec 32 := Scalar.divsi arg1 c2_i32
  let c0_i32 : BitVec 32 := 0#32
  let v3 : BitVec 1 := Scalar.cmpi .sgt arg1 c0_i32
  let v4 : BitVec 32 := Scalar.extui v3
  let c0_i32_0 : BitVec 32 := 0#32
  let v5 : BitVec 1 := Scalar.cmpi .slt arg1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi arg1 c2_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  ![arg0.toNat, v1.toNat, v18.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, true]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, true]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true, false]
-- ==== ReferenceIdeal.lean ====
abbrev S32768x1024 : Shape := ⟨2, ![32768, 1024]⟩
abbrev S32768x512 : Shape := ⟨2, ![32768, 512]⟩
abbrev S4x8192x8x128 : Shape := ⟨4, ![4, 8192, 8, 128]⟩
abbrev S4x8192x8x64 : Shape := ⟨4, ![4, 8192, 8, 64]⟩
abbrev S4x8192x8x192 : Shape := ⟨4, ![4, 8192, 8, 192]⟩
abbrev S4x8x8192x8192 : Shape := ⟨4, ![4, 8, 8192, 8192]⟩
abbrev S_ : Shape := ⟨0, ![]⟩
abbrev S4x8x8192 : Shape := ⟨3, ![4, 8, 8192]⟩
abbrev S4x8x8192x1 : Shape := ⟨4, ![4, 8, 8192, 1]⟩
abbrev S4x8x128x8192 : Shape := ⟨4, ![4, 8, 128, 8192]⟩
abbrev S4x8192x1024 : Shape := ⟨3, ![4, 8192, 1024]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x512, .bf16⟩
  | .hbm, ⟨2, _⟩ => ⟨S32768x1024, .bf16⟩
  | .hbm, ⟨3, _⟩ => ⟨S32768x512, .bf16⟩
  | .hbm, ⟨4, _⟩ => ⟨S32768x1024, .bf16⟩
  | .hbm, ⟨5, _⟩ => ⟨S32768x1024, .f32⟩
  | .hbm, ⟨6, _⟩ => ⟨S4x8192x8x128, .f32⟩
  | .hbm, ⟨7, _⟩ => ⟨S32768x512, .f32⟩
  | .hbm, ⟨8, _⟩ => ⟨S4x8192x8x64, .f32⟩
  | .hbm, ⟨9, _⟩ => ⟨S4x8192x8x192, .f32⟩
  | .hbm, ⟨10, _⟩ => ⟨S32768x1024, .f32⟩
  | .hbm, ⟨11, _⟩ => ⟨S4x8192x8x128, .f32⟩
  | .hbm, ⟨12, _⟩ => ⟨S32768x512, .f32⟩
  | .hbm, ⟨13, _⟩ => ⟨S4x8192x8x64, .f32⟩
  | .hbm, ⟨14, _⟩ => ⟨S4x8192x8x192, .f32⟩
  | .hbm, ⟨15, _⟩ => ⟨S4x8x8192x8192, .f32⟩
  | .hbm, ⟨16, _⟩ => ⟨S_, .f32⟩
  | .hbm, ⟨17, _⟩ => ⟨S4x8x8192, .f32⟩
  | .hbm, ⟨18, _⟩ => ⟨S4x8x8192x1, .f32⟩
  | .hbm, ⟨19, _⟩ => ⟨S4x8x8192x8192, .f32⟩
  | .hbm, ⟨20, _⟩ => ⟨S4x8x8192x8192, .f32⟩
  | .hbm, ⟨21, _⟩ => ⟨S_, .f32⟩
  | .hbm, ⟨22, _⟩ => ⟨S4x8x8192x8192, .f32⟩
  | .hbm, ⟨23, _⟩ => ⟨S4x8x8192x8192, .f32⟩
  | .hbm, ⟨24, _⟩ => ⟨S_, .f32⟩
  | .hbm, ⟨25, _⟩ => ⟨S4x8x8192, .f32⟩
  | .hbm, ⟨26, _⟩ => ⟨S4x8x8192x1, .f32⟩
  | .hbm, ⟨27, _⟩ => ⟨S4x8x8192x8192, .f32⟩
  | .hbm, ⟨28, _⟩ => ⟨S4x8x8192x8192, .f32⟩
  | .hbm, ⟨29, _⟩ => ⟨S32768x1024, .f32⟩
  | .hbm, ⟨30, _⟩ => ⟨S4x8192x8x128, .f32⟩
  | .hbm, ⟨31, _⟩ => ⟨S4x8x128x8192, .f32⟩
  | .hbm, ⟨32, _⟩ => ⟨S4x8192x8x128, .f32⟩
  | .hbm, ⟨33, _⟩ => ⟨S4x8192x1024, .f32⟩
  | .hbm, ⟨34, _⟩ => ⟨S4x8192x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel2.lean ====
abbrev S72 : Shape := ⟨1, ![72]⟩
abbrev S1 : Shape := ⟨1, ![1]⟩
abbrev S73728x2048 : Shape := ⟨2, ![73728, 2048]⟩
abbrev S8x2048x5632 : Shape := ⟨3, ![8, 2048, 5632]⟩
abbrev S8x5632x2048 : Shape := ⟨3, ![8, 5632, 2048]⟩
abbrev S73728x1 : Shape := ⟨2, ![73728, 1]⟩
abbrev S1024x2048 : Shape := ⟨2, ![1024, 2048]⟩
abbrev S1x2048x512 : Shape := ⟨3, ![1, 2048, 512]⟩
abbrev S1x512x2048 : Shape := ⟨3, ![1, 512, 2048]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 6
  | .vmem => 13
  | .smem => 2
  | _ => 0

abbrev bufTy : (tb : Table) → Fin (tcTables nBuf tb) → BufTy
  | .hbm, ⟨0, _⟩ => ⟨S73728x2048, .bf16⟩
  | .hbm, ⟨1, _⟩ => ⟨S8x2048x5632, .bf16⟩
  | .hbm, ⟨2, _⟩ => ⟨S8x2048x5632, .bf16⟩
  | .hbm, ⟨3, _⟩ => ⟨S8x5632x2048, .bf16⟩
  | .hbm, ⟨4, _⟩ => ⟨S73728x1, .f32⟩
  | .hbm, ⟨5, _⟩ => ⟨S73728x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1024x1, .f32⟩
  | .local _ .vmem, ⟨9, _⟩ => ⟨S1024x1, .f32⟩
  | .local _ .vmem, ⟨10, _⟩ => ⟨S1024x2048, .bf16⟩
  | .local _ .vmem, ⟨11, _⟩ => ⟨S1024x2048, .bf16⟩
  | .local _ .vmem, ⟨12, _⟩ => ⟨S1024x2048, .f32⟩
  | .local _ .smem, ⟨0, _⟩ => ⟨S72, .i32⟩
  | .local _ .smem, ⟨1, _⟩ => ⟨S1, .i32⟩
  | _, _ => ⟨S73728x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![72, 11], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c10_i32 : BitVec 32 := 10#32
  let v8 : BitVec 1 := Scalar.cmpi .eq arg1 c10_i32
  let v9 : BitVec 1 := Scalar.andi v1 v8
  let v10 : BitVec 32 := Scalar.extui v9
  let c0_i32_2 : BitVec 32 := 0#32
  let v11 : BitVec 1 := Scalar.cmpi .ne v10 c0_i32_2
  v11

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v12 : BitVec 1 := Scalar.xori v1 v_true
  let arg1 : BitVec 32 := BitVec.ofNat 32 (i 1).val
  let c10_i32_3 : BitVec 32 := 10#32
  let v13 : BitVec 1 := Scalar.cmpi .eq arg1 c10_i32_3
  let v14 : BitVec 1 := Scalar.andi v12 v13
  let v15 : BitVec 32 := Scalar.extui v14
  let c0_i32_4 : BitVec 32 := 0#32
  let v16 : BitVec 1 := Scalar.cmpi .ne v15 c0_i32_4
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S72 : Shape := ⟨1, ![72]⟩
abbrev S1 : Shape := ⟨1, ![1]⟩
abbrev S73728x2048 : Shape := ⟨2, ![73728, 2048]⟩
abbrev S8x2048x5632 : Shape := ⟨3, ![8, 2048, 5632]⟩
abbrev S8x5632x2048 : Shape := ⟨3, ![8, 5632, 2048]⟩
abbrev S73728x1 : Shape := ⟨2, ![73728, 1]⟩
abbrev S72x1x1 : Shape := ⟨3, ![72, 1, 1]⟩
abbrev S8 : Shape := ⟨1, ![8]⟩
abbrev S1x1x8 : Shape := ⟨3, ![1, 1, 8]⟩
abbrev S72x1x8 : Shape := ⟨3, ![72, 1, 8]⟩
abbrev S_ : Shape := ⟨0, ![]⟩
abbrev S72x1024x1 : Shape := ⟨3, ![72, 1024, 1]⟩
abbrev S72x1024x8 : Shape := ⟨3, ![72, 1024, 8]⟩
abbrev S73728x8 : Shape := ⟨2, ![73728, 8]⟩
abbrev S8x5632x73728 : Shape := ⟨3, ![8, 5632, 73728]⟩
abbrev S8x73728x5632 : Shape := ⟨3, ![8, 73728, 5632]⟩
abbrev S8x73728x2048 : Shape := ⟨3, ![8, 73728, 2048]⟩

abbrev nBuf : Space → Nat
  | .hbm => 50
  | .vmem => 0
  | .smem => 0
  | _ => 0

abbrev bufTy : (tb : Table) → Fin (tcTables nBuf tb) → BufTy
  | .hbm, ⟨0, _⟩ => ⟨S72, .i32⟩
  | .hbm, ⟨1, _⟩ => ⟨S1, .i32⟩
  | .hbm, ⟨2, _⟩ => ⟨S73728x2048, .bf16⟩
  | .hbm, ⟨3, _⟩ => ⟨S8x2048x5632, .bf16⟩
  | .hbm, ⟨4, _⟩ => ⟨S8x2048x5632, .bf16⟩
  | .hbm, ⟨5, _⟩ => ⟨S8x5632x2048, .bf16⟩
  | .hbm, ⟨6, _⟩ => ⟨S73728x1, .f32⟩
  | .hbm, ⟨7, _⟩ => ⟨S72, .i32⟩
  | .hbm, ⟨8, _⟩ => ⟨S72x1x1, .i32⟩
  | .hbm, ⟨9, _⟩ => ⟨S8, .i32⟩
  | .hbm, ⟨10, _⟩ => ⟨S1x1x8, .i32⟩
  | .hbm, ⟨11, _⟩ => ⟨S72x1x1, .i32⟩
  | .hbm, ⟨12, _⟩ => ⟨S72x1x8, .i32⟩
  | .hbm, ⟨13, _⟩ => ⟨S72x1x8, .i32⟩
  | .hbm, ⟨14, _⟩ => ⟨S72x1x8, .i1⟩
  | .hbm, ⟨15, _⟩ => ⟨S_, .i32⟩
  | .hbm, ⟨16, _⟩ => ⟨S72x1x1, .i32⟩
  | .hbm, ⟨17, _⟩ => ⟨S72x1x1, .i1⟩
  | .hbm, ⟨18, _⟩ => ⟨S72x1x8, .i1⟩
  | .hbm, ⟨19, _⟩ => ⟨S72x1x8, .i1⟩
  | .hbm, ⟨20, _⟩ => ⟨S72x1024x1, .f32⟩
  | .hbm, ⟨21, _⟩ => ⟨S_, .f32⟩
  | .hbm, ⟨22, _⟩ => ⟨S_, .f32⟩
  | .hbm, ⟨23, _⟩ => ⟨S72x1024x8, .i1⟩
  | .hbm, ⟨24, _⟩ => ⟨S72x1024x8, .f32⟩
  | .hbm, ⟨25, _⟩ => ⟨S72x1024x8, .f32⟩
  | .hbm, ⟨26, _⟩ => ⟨S72x1024x8, .f32⟩
  | .hbm, ⟨27, _⟩ => ⟨S73728x8, .f32⟩
  | .hbm, ⟨28, _⟩ => ⟨S73728x2048, .f32⟩
  | .hbm, ⟨29, _⟩ => ⟨S8x2048x5632, .f32⟩
  | .hbm, ⟨30, _⟩ => ⟨S8x5632x73728, .f32⟩
  | .hbm, ⟨31, _⟩ => ⟨S8x73728x5632, .f32⟩
  | .hbm, ⟨32, _⟩ => ⟨S73728x2048, .f32⟩
  | .hbm, ⟨33, _⟩ => ⟨S8x2048x5632, .f32⟩
  | .hbm, ⟨34, _⟩ => ⟨S8x5632x73728, .f32⟩
  | .hbm, ⟨35, _⟩ => ⟨S8x73728x5632, .f32⟩
  | .hbm, ⟨36, _⟩ => ⟨S8x73728x5632, .f32⟩
  | .hbm, ⟨37, _⟩ => ⟨S8x73728x5632, .f32⟩
  | .hbm, ⟨38, _⟩ => ⟨S_, .f32⟩
  | .hbm, ⟨39, _⟩ => ⟨S8x73728x5632, .f32⟩
  | .hbm, ⟨40, _⟩ => ⟨S8x73728x5632, .f32⟩
  | .hbm, ⟨41, _⟩ => ⟨S_, .f32⟩
  | .hbm, ⟨42, _⟩ => ⟨S8x73728x5632, .f32⟩
  | .hbm, ⟨43, _⟩ => ⟨S8x73728x5632, .f32⟩
  | .hbm, ⟨44, _⟩ => ⟨S8x73728x5632, .f32⟩
  | .hbm, ⟨45, _⟩ => ⟨S8x73728x5632, .f32⟩
  | .hbm, ⟨46, _⟩ => ⟨S8x5632x2048, .f32⟩
  | .hbm, ⟨47, _⟩ => ⟨S8x73728x2048, .f32⟩
  | .hbm, ⟨48, _⟩ => ⟨S73728x2048, .f32⟩
  | .hbm, ⟨49, _⟩ => ⟨S73728x2048, .bf16⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]
-- ==== Kernel3.lean ====
abbrev S32768x2048 : Shape := ⟨2, ![32768, 2048]⟩
abbrev S2048x3904 : Shape := ⟨2, ![2048, 3904]⟩
abbrev S2048x2048 : Shape := ⟨2, ![2048, 2048]⟩
abbrev S2048x1536 : Shape := ⟨2, ![2048, 1536]⟩
abbrev S2048x320 : Shape := ⟨2, ![2048, 320]⟩
abbrev S_ : Shape := ⟨0, ![]⟩
abbrev S2048x192 : Shape := ⟨2, ![2048, 192]⟩
abbrev S2048x4096 : Shape := ⟨2, ![2048, 4096]⟩
abbrev S32768x4096 : Shape := ⟨2, ![32768, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x3904, .f32⟩
  | .hbm, ⟨2, _⟩ => ⟨S2048x2048, .f32⟩
  | .hbm, ⟨3, _⟩ => ⟨S2048x1536, .f32⟩
  | .hbm, ⟨4, _⟩ => ⟨S2048x320, .f32⟩
  | .hbm, ⟨5, _⟩ => ⟨S_, .f32⟩
  | .hbm, ⟨6, _⟩ => ⟨S2048x192, .f32⟩
  | .hbm, ⟨7, _⟩ => ⟨S2048x4096, .f32⟩
  | .hbm, ⟨8, _⟩ => ⟨S2048x4096, .bf16⟩
  | .hbm, ⟨9, _⟩ => ⟨S32768x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S32768x2048 : Shape := ⟨2, ![32768, 2048]⟩
abbrev S2048x3904 : Shape := ⟨2, ![2048, 3904]⟩
abbrev S32768x3904 : Shape := ⟨2, ![32768, 3904]⟩
abbrev S32768x320 : Shape := ⟨2, ![32768, 320]⟩
abbrev S32768x1536 : Shape := ⟨2, ![32768, 1536]⟩
abbrev S_ : Shape := ⟨0, ![]⟩
abbrev S32768x192 : Shape := ⟨2, ![32768, 192]⟩
abbrev S32768x4096 : Shape := ⟨2, ![32768, 4096]⟩

abbrev nBuf : Space → Nat
  | .hbm => 11
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x3904, .f32⟩
  | .hbm, ⟨2, _⟩ => ⟨S32768x2048, .f32⟩
  | .hbm, ⟨3, _⟩ => ⟨S32768x3904, .f32⟩
  | .hbm, ⟨4, _⟩ => ⟨S32768x2048, .f32⟩
  | .hbm, ⟨5, _⟩ => ⟨S32768x320, .f32⟩
  | .hbm, ⟨6, _⟩ => ⟨S32768x1536, .f32⟩
  | .hbm, ⟨7, _⟩ => ⟨S_, .f32⟩
  | .hbm, ⟨8, _⟩ => ⟨S32768x192, .f32⟩
  | .hbm, ⟨9, _⟩ => ⟨S32768x4096, .f32⟩
  | .hbm, ⟨10, _⟩ => ⟨S32768x4096, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S32768x2048 : Shape := ⟨2, ![32768, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S2048x2048, .bf16⟩
  | .hbm, ⟨3, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S32768x2048 : Shape := ⟨2, ![32768, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S32768x2048, .f32⟩
  | .hbm, ⟨4, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S32768x2048 : Shape := ⟨2, ![32768, 2048]⟩
abbrev S2048x5632 : Shape := ⟨2, ![2048, 5632]⟩
abbrev S5632x2048 : Shape := ⟨2, ![5632, 2048]⟩
abbrev S1x2048x5632 : Shape := ⟨3, ![1, 2048, 5632]⟩
abbrev S1x5632x2048 : Shape := ⟨3, ![1, 5632, 2048]⟩
abbrev S_ : Shape := ⟨0, ![]⟩
abbrev S32 : Shape := ⟨1, ![32]⟩
abbrev S1 : Shape := ⟨1, ![1]⟩
abbrev S32768x1 : Shape := ⟨2, ![32768, 1]⟩
abbrev S1024x2048 : Shape := ⟨2, ![1024, 2048]⟩
abbrev S1x2048x512 : Shape := ⟨3, ![1, 2048, 512]⟩
abbrev S1x512x2048 : Shape := ⟨3, ![1, 512, 2048]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 15
  | .vmem => 13
  | .smem => 2
  | _ => 0

abbrev bufTy : (tb : Table) → Fin (tcTables nBuf tb) → BufTy
  | .hbm, ⟨0, _⟩ => ⟨S32768x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S1x2048x5632, .f32⟩
  | .hbm, ⟨5, _⟩ => ⟨S1x2048x5632, .bf16⟩
  | .hbm, ⟨6, _⟩ => ⟨S1x2048x5632, .f32⟩
  | .hbm, ⟨7, _⟩ => ⟨S1x2048x5632, .bf16⟩
  | .hbm, ⟨8, _⟩ => ⟨S1x5632x2048, .f32⟩
  | .hbm, ⟨9, _⟩ => ⟨S1x5632x2048, .bf16⟩
  | .hbm, ⟨10, _⟩ => ⟨S_, .i32⟩
  | .hbm, ⟨11, _⟩ => ⟨S_, .i32⟩
  | .hbm, ⟨12, _⟩ => ⟨S_, .f32⟩
  | .hbm, ⟨13, _⟩ => ⟨S32768x1, .f32⟩
  | .hbm, ⟨14, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1024x1, .f32⟩
  | .local _ .vmem, ⟨9, _⟩ => ⟨S1024x1, .f32⟩
  | .local _ .vmem, ⟨10, _⟩ => ⟨S1024x2048, .bf16⟩
  | .local _ .vmem, ⟨11, _⟩ => ⟨S1024x2048, .bf16⟩
  | .local _ .vmem, ⟨12, _⟩ => ⟨S1024x2048, .f32⟩
  | .local _ .smem, ⟨0, _⟩ => ⟨S32, .i32⟩
  | .local _ .smem, ⟨1, _⟩ => ⟨S1, .i32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_0 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v6 : Ref sig .tc := ⟨.smem, 0, rfl⟩
abbrev main_v7 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 11], ![false, false]⟩

abbrev pre0 : Pipeline.Prefetch sig := ⟨2, ![main_v6.idx, main_v7.idx], fun | 0 => main_v6.names | 1 => main_v7.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c10_i32 : BitVec 32 := 10#32
  let v8 : BitVec 1 := Scalar.cmpi .eq arg1 c10_i32
  let v9 : BitVec 1 := Scalar.andi v1 v8
  let v10 : BitVec 32 := Scalar.extui v9
  let c0_i32_2 : BitVec 32 := 0#32
  let v11 : BitVec 1 := Scalar.cmpi .ne v10 c0_i32_2
  v11

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v12 : BitVec 1 := Scalar.xori v1 v_true
  let arg1 : BitVec 32 := BitVec.ofNat 32 (i 1).val
  let c10_i32_3 : BitVec 32 := 10#32
  let v13 : BitVec 1 := Scalar.cmpi .eq arg1 c10_i32_3
  let v14 : BitVec 1 := Scalar.andi v12 v13
  let v15 : BitVec 32 := Scalar.extui v14
  let c0_i32_4 : BitVec 32 := 0#32
  let v16 : BitVec 1 := Scalar.cmpi .ne v15 c0_i32_4
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference5Ideal.lean ====
abbrev S32768x2048 : Shape := ⟨2, ![32768, 2048]⟩
abbrev S2048x5632 : Shape := ⟨2, ![2048, 5632]⟩
abbrev S5632x2048 : Shape := ⟨2, ![5632, 2048]⟩
abbrev S32768x5632 : Shape := ⟨2, ![32768, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S32768x2048, .f32⟩
  | .hbm, ⟨5, _⟩ => ⟨S32768x5632, .f32⟩
  | .hbm, ⟨6, _⟩ => ⟨S32768x5632, .f32⟩
  | .hbm, ⟨7, _⟩ => ⟨S32768x5632, .f32⟩
  | .hbm, ⟨8, _⟩ => ⟨S_, .f32⟩
  | .hbm, ⟨9, _⟩ => ⟨S32768x5632, .f32⟩
  | .hbm, ⟨10, _⟩ => ⟨S32768x5632, .f32⟩
  | .hbm, ⟨11, _⟩ => ⟨S_, .f32⟩
  | .hbm, ⟨12, _⟩ => ⟨S32768x5632, .f32⟩
  | .hbm, ⟨13, _⟩ => ⟨S32768x5632, .f32⟩
  | .hbm, ⟨14, _⟩ => ⟨S32768x5632, .f32⟩
  | .hbm, ⟨15, _⟩ => ⟨S32768x5632, .f32⟩
  | .hbm, ⟨16, _⟩ => ⟨S32768x5632, .f32⟩
  | .hbm, ⟨17, _⟩ => ⟨S32768x2048, .f32⟩
  | .hbm, ⟨18, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Kernel6.lean ====
abbrev S32768x2048 : Shape := ⟨2, ![32768, 2048]⟩
abbrev S2048 : Shape := ⟨1, ![2048]⟩
abbrev S2048x8 : Shape := ⟨2, ![2048, 8]⟩
abbrev S_ : Shape := ⟨0, ![]⟩
abbrev S2048x128 : Shape := ⟨2, ![2048, 128]⟩
abbrev S1x2048 : Shape := ⟨2, ![1, 2048]⟩
abbrev S32768x128 : Shape := ⟨2, ![32768, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048, .f32⟩
  | .hbm, ⟨3, _⟩ => ⟨S2048x8, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S1x2048, .f32⟩
  | .hbm, ⟨8, _⟩ => ⟨S32768x2048, .f32⟩
  | .hbm, ⟨9, _⟩ => ⟨S32768x2048, .bf16⟩
  | .hbm, ⟨10, _⟩ => ⟨S32768x128, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S2048x128, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S512x128, .f32⟩
  | .local _ .vmem, ⟨11, _⟩ => ⟨S512x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S32768x2048 : Shape := ⟨2, ![32768, 2048]⟩
abbrev S2048 : Shape := ⟨1, ![2048]⟩
abbrev S2048x8 : Shape := ⟨2, ![2048, 8]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x8 : Shape := ⟨2, ![32768, 8]⟩
abbrev S32768x128 : Shape := ⟨2, ![32768, 128]⟩

abbrev nBuf : Space → Nat
  | .hbm => 27
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048, .f32⟩
  | .hbm, ⟨3, _⟩ => ⟨S2048x8, .f32⟩
  | .hbm, ⟨4, _⟩ => ⟨S32768x2048, .f32⟩
  | .hbm, ⟨5, _⟩ => ⟨S32768x2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S32768x8, .f32⟩
  | .hbm, ⟨23, _⟩ => ⟨S_, .i32⟩
  | .hbm, ⟨24, _⟩ => ⟨S_, .f32⟩
  | .hbm, ⟨25, _⟩ => ⟨S32768x128, .f32⟩
  | .hbm, ⟨26, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel7.lean ====
abbrev S32768x512 : Shape := ⟨2, ![32768, 512]⟩
abbrev S32768x1024 : Shape := ⟨2, ![32768, 1024]⟩
abbrev S2048 : Shape := ⟨1, ![2048]⟩
abbrev S1x2048 : Shape := ⟨2, ![1, 2048]⟩
abbrev S32768x2048 : Shape := ⟨2, ![32768, 2048]⟩
abbrev S1024x512 : Shape := ⟨2, ![1024, 512]⟩
abbrev S1024x1024 : Shape := ⟨2, ![1024, 1024]⟩
abbrev S1024x2048 : Shape := ⟨2, ![1024, 2048]⟩
abbrev S1x512 : Shape := ⟨2, ![1, 512]⟩
abbrev S1024 : Shape := ⟨1, ![1024]⟩
abbrev S1024x1 : Shape := ⟨2, ![1024, 1]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S32768x512, .bf16⟩
  | .hbm, ⟨1, _⟩ => ⟨S32768x1024, .bf16⟩
  | .hbm, ⟨2, _⟩ => ⟨S32768x512, .f32⟩
  | .hbm, ⟨3, _⟩ => ⟨S2048, .f32⟩
  | .hbm, ⟨4, _⟩ => ⟨S1x2048, .f32⟩
  | .hbm, ⟨5, _⟩ => ⟨S32768x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .f32⟩
  | .local _ .vmem, ⟨5, _⟩ => ⟨S1024x512, .f32⟩
  | .local _ .vmem, ⟨6, _⟩ => ⟨S1x2048, .f32⟩
  | .local _ .vmem, ⟨7, _⟩ => ⟨S1024x2048, .bf16⟩
  | .local _ .vmem, ⟨8, _⟩ => ⟨S1024x2048, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S32768x512 : Shape := ⟨2, ![32768, 512]⟩
abbrev S32768x1024 : Shape := ⟨2, ![32768, 1024]⟩
abbrev S2048 : Shape := ⟨1, ![2048]⟩
abbrev S512 : Shape := ⟨1, ![512]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x512 : Shape := ⟨2, ![1, 512]⟩
abbrev S1x1024 : Shape := ⟨2, ![1, 1024]⟩
abbrev S32768x2048 : Shape := ⟨2, ![32768, 2048]⟩

abbrev nBuf : Space → Nat
  | .hbm => 59
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x1024, .bf16⟩
  | .hbm, ⟨2, _⟩ => ⟨S32768x512, .f32⟩
  | .hbm, ⟨3, _⟩ => ⟨S2048, .f32⟩
  | .hbm, ⟨4, _⟩ => ⟨S512, .f32⟩
  | .hbm, ⟨5, _⟩ => ⟨S1024, .f32⟩
  | .hbm, ⟨6, _⟩ => ⟨S512, .f32⟩
  | .hbm, ⟨7, _⟩ => ⟨S32768x512, .f32⟩
  | .hbm, ⟨8, _⟩ => ⟨S32768x512, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x512, .f32⟩
  | .hbm, ⟨20, _⟩ => ⟨S32768x512, .f32⟩
  | .hbm, ⟨21, _⟩ => ⟨S1x512, .f32⟩
  | .hbm, ⟨22, _⟩ => ⟨S32768x512, .f32⟩
  | .hbm, ⟨23, _⟩ => ⟨S32768x512, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S32768x1, .f32⟩
  | .hbm, ⟨36, _⟩ => ⟨S32768x1024, .f32⟩
  | .hbm, ⟨37, _⟩ => ⟨S32768x1024, .f32⟩
  | .hbm, ⟨38, _⟩ => ⟨S1x1024, .f32⟩
  | .hbm, ⟨39, _⟩ => ⟨S32768x1024, .f32⟩
  | .hbm, ⟨40, _⟩ => ⟨S32768x1024, .f32⟩
  | .hbm, ⟨41, _⟩ => ⟨S32768x512, .f32⟩
  | .hbm, ⟨42, _⟩ => ⟨S_, .f32⟩
  | .hbm, ⟨43, _⟩ => ⟨S32768, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S32768x1, .f32⟩
  | .hbm, ⟨52, _⟩ => ⟨S32768x512, .f32⟩
  | .hbm, ⟨53, _⟩ => ⟨S32768x512, .f32⟩
  | .hbm, ⟨54, _⟩ => ⟨S1x512, .f32⟩
  | .hbm, ⟨55, _⟩ => ⟨S32768x512, .f32⟩
  | .hbm, ⟨56, _⟩ => ⟨S32768x512, .f32⟩
  | .hbm, ⟨57, _⟩ => ⟨S32768x2048, .f32⟩
  | .hbm, ⟨58, _⟩ => ⟨S32768x2048, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== Kernel8.lean ====
abbrev S32768x4096 : Shape := ⟨2, ![32768, 4096]⟩
abbrev S3x1536 : Shape := ⟨2, ![3, 1536]⟩
abbrev S1536 : Shape := ⟨1, ![1536]⟩
abbrev S1x1536 : Shape := ⟨2, ![1, 1536]⟩
abbrev S32768x1536 : Shape := ⟨2, ![32768, 1536]⟩
abbrev S1024x512 : Shape := ⟨2, ![1024, 512]⟩
abbrev S16x512 : Shape := ⟨2, ![16, 512]⟩
abbrev S3x512 : Shape := ⟨2, ![3, 512]⟩
abbrev S1x512 : Shape := ⟨2, ![1, 512]⟩

abbrev nBuf : Space → Nat
  | .hbm => 5
  | .vmem => 12
  | .smem => 0
  | _ => 0

abbrev bufTy : (tb : Table) → Fin (tcTables nBuf tb) → BufTy
  | .hbm, ⟨0, _⟩ => ⟨S32768x4096, .bf16⟩
  | .hbm, ⟨1, _⟩ => ⟨S3x1536, .f32⟩
  | .hbm, ⟨2, _⟩ => ⟨S1536, .f32⟩
  | .hbm, ⟨3, _⟩ => ⟨S1x1536, .f32⟩
  | .hbm, ⟨4, _⟩ => ⟨S32768x1536, .f32⟩
  | .local _ .vmem, ⟨0, _⟩ => ⟨S1024x512, .bf16⟩
  | .local _ .vmem, ⟨1, _⟩ => ⟨S1024x512, .bf16⟩
  | .local _ .vmem, ⟨2, _⟩ => ⟨S16x512, .bf16⟩
  | .local _ .vmem, ⟨3, _⟩ => ⟨S16x512, .bf16⟩
  | .local _ .vmem, ⟨4, _⟩ => ⟨S16x512, .bf16⟩
  | .local _ .vmem, ⟨5, _⟩ => ⟨S16x512, .bf16⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c4_i32 : BitVec 32 := 4#32
  let v3 : BitVec 32 := Scalar.addi c4_i32 arg1
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S32768x4096 : Shape := ⟨2, ![32768, 4096]⟩
abbrev S3x1536 : Shape := ⟨2, ![3, 1536]⟩
abbrev S1536 : Shape := ⟨1, ![1536]⟩
abbrev S32768x1536 : Shape := ⟨2, ![32768, 1536]⟩
abbrev S4x8192x1536 : Shape := ⟨3, ![4, 8192, 1536]⟩
abbrev S_ : Shape := ⟨0, ![]⟩
abbrev S4x8194x1536 : Shape := ⟨3, ![4, 8194, 1536]⟩
abbrev S1x1536 : Shape := ⟨2, ![1, 1536]⟩
abbrev S1x1x1536 : Shape := ⟨3, ![1, 1, 1536]⟩

abbrev nBuf : Space → Nat
  | .hbm => 33
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S3x1536, .f32⟩
  | .hbm, ⟨2, _⟩ => ⟨S1536, .f32⟩
  | .hbm, ⟨3, _⟩ => ⟨S32768x1536, .bf16⟩
  | .hbm, ⟨4, _⟩ => ⟨S32768x1536, .f32⟩
  | .hbm, ⟨5, _⟩ => ⟨S4x8192x1536, .f32⟩
  | .hbm, ⟨6, _⟩ => ⟨S_, .i32⟩
  | .hbm, ⟨7, _⟩ => ⟨S_, .f32⟩
  | .hbm, ⟨8, _⟩ => ⟨S4x8194x1536, .f32⟩
  | .hbm, ⟨9, _⟩ => ⟨S4x8192x1536, .f32⟩
  | .hbm, ⟨10, _⟩ => ⟨S1x1536, .f32⟩
  | .hbm, ⟨11, _⟩ => ⟨S1536, .f32⟩
  | .hbm, ⟨12, _⟩ => ⟨S1x1x1536, .f32⟩
  | .hbm, ⟨13, _⟩ => ⟨S4x8192x1536, .f32⟩
  | .hbm, ⟨14, _⟩ => ⟨S4x8192x1536, .f32⟩
  | .hbm, ⟨15, _⟩ => ⟨S4x8192x1536, .f32⟩
  | .hbm, ⟨16, _⟩ => ⟨S1x1536, .f32⟩
  | .hbm, ⟨17, _⟩ => ⟨S1536, .f32⟩
  | .hbm, ⟨18, _⟩ => ⟨S1x1x1536, .f32⟩
  | .hbm, ⟨19, _⟩ => ⟨S4x8192x1536, .f32⟩
  | .hbm, ⟨20, _⟩ => ⟨S4x8192x1536, .f32⟩
  | .hbm, ⟨21, _⟩ => ⟨S4x8192x1536, .f32⟩
  | .hbm, ⟨22, _⟩ => ⟨S4x8192x1536, .f32⟩
  | .hbm, ⟨23, _⟩ => ⟨S1x1536, .f32⟩
  | .hbm, ⟨24, _⟩ => ⟨S1536, .f32⟩
  | .hbm, ⟨25, _⟩ => ⟨S1x1x1536, .f32⟩
  | .hbm, ⟨26, _⟩ => ⟨S4x8192x1536, .f32⟩
  | .hbm, ⟨27, _⟩ => ⟨S4x8192x1536, .f32⟩
  | .hbm, ⟨28, _⟩ => ⟨S4x8192x1536, .f32⟩
  | .hbm, ⟨29, _⟩ => ⟨S1x1x1536, .f32⟩
  | .hbm, ⟨30, _⟩ => ⟨S4x8192x1536, .f32⟩
  | .hbm, ⟨31, _⟩ => ⟨S4x8192x1536, .f32⟩
  | .hbm, ⟨32, _⟩ => ⟨S32768x1536, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== Kernel9.lean ====
abbrev S32768x4096 : Shape := ⟨2, ![32768, 4096]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S192 : Shape := ⟨1, ![192]⟩
abbrev S512x8x192 : Shape := ⟨3, ![512, 8, 192]⟩
abbrev S512x8x128 : Shape := ⟨3, ![512, 8, 128]⟩
abbrev S512x1024 : Shape := ⟨2, ![512, 1024]⟩
abbrev S512x8x64 : Shape := ⟨3, ![512, 8, 64]⟩
abbrev S512x512 : Shape := ⟨2, ![512, 512]⟩
abbrev S256x8x256 : Shape := ⟨3, ![256, 8, 256]⟩
abbrev S256x8x128 : Shape := ⟨3, ![256, 8, 128]⟩
abbrev S256x1024 : Shape := ⟨2, ![256, 1024]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x512 : Shape := ⟨2, ![1, 512]⟩
abbrev S1x256 : Shape := ⟨2, ![1, 256]⟩
abbrev S128 : Shape := ⟨1, ![128]⟩
abbrev S1x128 : Shape := ⟨2, ![1, 128]⟩
abbrev S64 : Shape := ⟨1, ![64]⟩
abbrev S1x64 : Shape := ⟨2, ![1, 64]⟩
abbrev S2x64 : Shape := ⟨2, ![2, 64]⟩
abbrev S32768x1024 : Shape := ⟨2, ![32768, 1024]⟩
abbrev S32768x512 : Shape := ⟨2, ![32768, 512]⟩
abbrev S512x256 : Shape := ⟨2, ![512, 256]⟩
abbrev S512x128 : Shape := ⟨2, ![512, 128]⟩
abbrev S512x1 : Shape := ⟨2, ![512, 1]⟩
abbrev S512x2048 : Shape := ⟨2, ![512, 2048]⟩

abbrev nBuf : Space → Nat
  | .hbm => 80
  | .vmem => 28
  | .smem => 0
  | _ => 0

abbrev bufTy : (tb : Table) → Fin (tcTables nBuf tb) → BufTy
  | .hbm, ⟨0, _⟩ => ⟨S32768x4096, .bf16⟩
  | .hbm, ⟨1, _⟩ => ⟨S512, .f32⟩
  | .hbm, ⟨2, _⟩ => ⟨S256, .f32⟩
  | .hbm, ⟨3, _⟩ => ⟨S512x1536, .f32⟩
  | .hbm, ⟨4, _⟩ => ⟨S256x2048, .f32⟩
  | .hbm, ⟨5, _⟩ => ⟨S192, .f32⟩
  | .hbm, ⟨6, _⟩ => ⟨S192, .f32⟩
  | .hbm, ⟨7, _⟩ => ⟨S512x8x192, .f32⟩
  | .hbm, ⟨8, _⟩ => ⟨S512x8x128, .f32⟩
  | .hbm, ⟨9, _⟩ => ⟨S512x1024, .f32⟩
  | .hbm, ⟨10, _⟩ => ⟨S512x8x64, .f32⟩
  | .hbm, ⟨11, _⟩ => ⟨S512x512, .f32⟩
  | .hbm, ⟨12, _⟩ => ⟨S512x1536, .f32⟩
  | .hbm, ⟨13, _⟩ => ⟨S512x1536, .bf16⟩
  | .hbm, ⟨14, _⟩ => ⟨S256x8x256, .f32⟩
  | .hbm, ⟨15, _⟩ => ⟨S256x8x128, .f32⟩
  | .hbm, ⟨16, _⟩ => ⟨S256x1024, .f32⟩
  | .hbm, ⟨17, _⟩ => ⟨S256x8x128, .f32⟩
  | .hbm, ⟨18, _⟩ => ⟨S256x1024, .f32⟩
  | .hbm, ⟨19, _⟩ => ⟨S256x2048, .f32⟩
  | .hbm, ⟨20, _⟩ => ⟨S256x2048, .bf16⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S8192, .i32⟩
  | .hbm, ⟨30, _⟩ => ⟨S8192, .f32⟩
  | .hbm, ⟨31, _⟩ => ⟨S8192x1, .f32⟩
  | .hbm, ⟨32, _⟩ => ⟨S1x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S8192x64, .f32⟩
  | .hbm, ⟨39, _⟩ => ⟨S1x8192x1x64, .f32⟩
  | .hbm, ⟨40, _⟩ => ⟨S1x8192x2x64, .f32⟩
  | .hbm, ⟨41, _⟩ => ⟨S8192x128, .f32⟩
  | .hbm, ⟨42, _⟩ => ⟨S8192x32, .f32⟩
  | .hbm, ⟨43, _⟩ => ⟨S8192x64, .f32⟩
  | .hbm, ⟨44, _⟩ => ⟨S1x8192x1x64, .f32⟩
  | .hbm, ⟨45, _⟩ => ⟨S1x8192x2x64, .f32⟩
  | .hbm, ⟨46, _⟩ => ⟨S8192x128, .f32⟩
  | .hbm, ⟨47, _⟩ => ⟨S1x512, .f32⟩
  | .hbm, ⟨48, _⟩ => ⟨S1x512, .f32⟩
  | .hbm, ⟨49, _⟩ => ⟨S512, .f32⟩
  | .hbm, ⟨50, _⟩ => ⟨S1x512, .f32⟩
  | .hbm, ⟨51, _⟩ => ⟨S1x256, .f32⟩
  | .hbm, ⟨52, _⟩ => ⟨S1x256, .f32⟩
  | .hbm, ⟨53, _⟩ => ⟨S256, .f32⟩
  | .hbm, ⟨54, _⟩ => ⟨S1x256, .f32⟩
  | .hbm, ⟨55, _⟩ => ⟨S128, .f32⟩
  | .hbm, ⟨56, _⟩ => ⟨S1x128, .f32⟩
  | .hbm, ⟨57, _⟩ => ⟨S1x128, .f32⟩
  | .hbm, ⟨58, _⟩ => ⟨S128, .f32⟩
  | .hbm, ⟨59, _⟩ => ⟨S1x128, .f32⟩
  | .hbm, ⟨60, _⟩ => ⟨S64, .f32⟩
  | .hbm, ⟨61, _⟩ => ⟨S1x64, .f32⟩
  | .hbm, ⟨62, _⟩ => ⟨S2x64, .f32⟩
  | .hbm, ⟨63, _⟩ => ⟨S128, .f32⟩
  | .hbm, ⟨64, _⟩ => ⟨S1x128, .f32⟩
  | .hbm, ⟨65, _⟩ => ⟨S128, .f32⟩
  | .hbm, ⟨66, _⟩ => ⟨S1x128, .f32⟩
  | .hbm, ⟨67, _⟩ => ⟨S1x128, .f32⟩
  | .hbm, ⟨68, _⟩ => ⟨S128, .f32⟩
  | .hbm, ⟨69, _⟩ => ⟨S1x128, .f32⟩
  | .hbm, ⟨70, _⟩ => ⟨S64, .f32⟩
  | .hbm, ⟨71, _⟩ => ⟨S1x64, .f32⟩
  | .hbm, ⟨72, _⟩ => ⟨S2x64, .f32⟩
  | .hbm, ⟨73, _⟩ => ⟨S128, .f32⟩
  | .hbm, ⟨74, _⟩ => ⟨S1x128, .f32⟩
  | .hbm, ⟨75, _⟩ => ⟨S32768x1024, .bf16⟩
  | .hbm, ⟨76, _⟩ => ⟨S32768x512, .bf16⟩
  | .hbm, ⟨77, _⟩ => ⟨S32768x1024, .bf16⟩
  | .hbm, ⟨78, _⟩ => ⟨S32768x512, .bf16⟩
  | .hbm, ⟨79, _⟩ => ⟨S32768x1024, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S1x512, .f32⟩
  | .local _ .vmem, ⟨7, _⟩ => ⟨S1x256, .f32⟩
  | .local _ .vmem, ⟨8, _⟩ => ⟨S512x1536, .bf16⟩
  | .local _ .vmem, ⟨9, _⟩ => ⟨S256x2048, .bf16⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x1024, .bf16⟩
  | .local _ .vmem, ⟨19, _⟩ => ⟨S512x1024, .bf16⟩
  | .local _ .vmem, ⟨20, _⟩ => ⟨S512x512, .bf16⟩
  | .local _ .vmem, ⟨21, _⟩ => ⟨S512x512, .bf16⟩
  | .local _ .vmem, ⟨22, _⟩ => ⟨S512x1024, .bf16⟩
  | .local _ .vmem, ⟨23, _⟩ => ⟨S512x1024, .bf16⟩
  | .local _ .vmem, ⟨24, _⟩ => ⟨S512x512, .bf16⟩
  | .local _ .vmem, ⟨25, _⟩ => ⟨S512x512, .bf16⟩
  | .local _ .vmem, ⟨26, _⟩ => ⟨S512x1024, .bf16⟩
  | .local _ .vmem, ⟨27, _⟩ => ⟨S512x1024, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66_0 : Ref sig .tc := ⟨.hbm, 75, rfl⟩
abbrev main_v66_1 : Ref sig .tc := ⟨.hbm, 76, rfl⟩
abbrev main_v66_2 : Ref sig .tc := ⟨.hbm, 77, rfl⟩
abbrev main_v66_3 : Ref sig .tc := ⟨.hbm, 78, rfl⟩
abbrev main_v66_4 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_2 (i : grid0.Coords) : Fin 2 → Nat :=
  let arg0 : BitVec 32 := BitVec.ofNat 32 (i 0).val
  let c30_i32 : BitVec 32 := 30#32
  let c0_i32 : BitVec 32 := 0#32
  ![arg0.toNat, c30_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel9Ideal.lean ====
variable {F : FTy → Type} [FloatOps F] [Named F]
def κ : String → Option EReal := fun
  | "share" => some ((192⁻¹ : ℝ) : EReal)
  | _ => none
-- ==== Reference9Ideal.lean ====
abbrev S32768x4096 : Shape := ⟨2, ![32768, 4096]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S192 : Shape := ⟨1, ![192]⟩
abbrev S4x8192x4096 : Shape := ⟨3, ![4, 8192, 4096]⟩
abbrev S4x8192x512 : Shape := ⟨3, ![4, 8192, 512]⟩
abbrev S4x8192x256 : Shape := ⟨3, ![4, 8192, 256]⟩
abbrev S4x8192x64 : Shape := ⟨3, ![4, 8192, 64]⟩
abbrev S8192 : Shape := ⟨1, ![8192]⟩
abbrev S_ : Shape := ⟨0, ![]⟩
abbrev S4x8192 : Shape := ⟨2, ![4, 8192]⟩
abbrev S4x8192x1 : Shape := ⟨3, ![4, 8192, 1]⟩
abbrev S1x1x512 : Shape := ⟨3, ![1, 1, 512]⟩
abbrev S4x8192x1536 : Shape := ⟨3, ![4, 8192, 1536]⟩
abbrev S4x8192x8x192 : Shape := ⟨4, ![4, 8192, 8, 192]⟩
abbrev S1x1x256 : Shape := ⟨3, ![1, 1, 256]⟩
abbrev S4x8192x2048 : Shape := ⟨3, ![4, 8192, 2048]⟩
abbrev S4x8192x8x256 : Shape := ⟨4, ![4, 8192, 8, 256]⟩
abbrev S4x8192x8x128 : Shape := ⟨4, ![4, 8192, 8, 128]⟩
abbrev S4x8192x1x64 : Shape := ⟨4, ![4, 8192, 1, 64]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩
abbrev S1x1x1x192 : Shape := ⟨4, ![1, 1, 1, 192]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S4x8192x8x32 : Shape := ⟨4, ![4, 8192, 8, 32]⟩
abbrev S1x8192x1x32 : Shape := ⟨4, ![1, 8192, 1, 32]⟩
abbrev S32768x1024 : Shape := ⟨2, ![32768, 1024]⟩
abbrev S32768x512 : Shape := ⟨2, ![32768, 512]⟩

abbrev nBuf : Space → Nat
  | .hbm => 176
  | .vmem => 0
  | .smem => 0
  | _ => 0

abbrev hbmTy0_0 (i : Nat) : BufTy := match i % 128 with
  | 0 => ⟨S32768x4096, .bf16⟩
  | 1 => ⟨S512, .f32⟩
  | 2 => ⟨S256, .f32⟩
  | 3 => ⟨S512x1536, .f32⟩
  | 4 => ⟨S256x2048, .f32⟩
  | 5 => ⟨S192, .f32⟩
  | 6 => ⟨S192, .f32⟩
  | 7 => ⟨S32768x4096, .f32⟩
  | 8 => ⟨S4x8192x4096, .f32⟩
  | 9 => ⟨S4x8192x512, .f32⟩
  | 10 => ⟨S4x8192x256, .f32⟩
  | 11 => ⟨S4x8192x64, .f32⟩
  | 12 => ⟨S8192, .i32⟩
  | 13 => ⟨S4x8192x512, .f32⟩
  | 14 => ⟨S_, .f32⟩
  | 15 => ⟨S4x8192, .f32⟩
  | 16 => ⟨S4x8192x1, .f32⟩
  | 17 => ⟨S_, .f32⟩
  | 18 => ⟨S4x8192x1, .f32⟩
  | 19 => ⟨S4x8192x1, .f32⟩
  | 20 => ⟨S_, .f32⟩
  | 21 => ⟨S4x8192x1, .f32⟩
  | 22 => ⟨S4x8192x1, .f32⟩
  | 23 => ⟨S4x8192x1, .f32⟩
  | 24 => ⟨S4x8192x512, .f32⟩
  | 25 => ⟨S4x8192x512, .f32⟩
  | 26 => ⟨S1x1x512, .f32⟩
  | 27 => ⟨S4x8192x512, .f32⟩
  | 28 => ⟨S4x8192x512, .f32⟩
  | 29 => ⟨S4x8192x1536, .f32⟩
  | 30 => ⟨S4x8192x8x192, .f32⟩
  | 31 => ⟨S4x8192x256, .f32⟩
  | 32 => ⟨S_, .f32⟩
  | 33 => ⟨S4x8192, .f32⟩
  | 34 => ⟨S4x8192x1, .f32⟩
  | 35 => ⟨S_, .f32⟩
  | 36 => ⟨S4x8192x1, .f32⟩
  | 37 => ⟨S4x8192x1, .f32⟩
  | 38 => ⟨S_, .f32⟩
  | 39 => ⟨S4x8192x1, .f32⟩
  | 40 => ⟨S4x8192x1, .f32⟩
  | 41 => ⟨S4x8192x1, .f32⟩
  | 42 => ⟨S4x8192x256, .f32⟩
  | 43 => ⟨S4x8192x256, .f32⟩
  | 44 => ⟨S1x1x256, .f32⟩
  | 45 => ⟨S4x8192x256, .f32⟩
  | 46 => ⟨S4x8192x256, .f32⟩
  | 47 => ⟨S4x8192x2048, .f32⟩
  | 48 => ⟨S4x8192x8x256, .f32⟩
  | 49 => ⟨S4x8192x8x128, .f32⟩
  | 50 => ⟨S4x8192x8x128, .f32⟩
  | 51 => ⟨S4x8192x1x64, .f32⟩
  | 52 => ⟨S4x8192x8x64, .f32⟩
  | 53 => ⟨S4x8192x8x192, .f32⟩
  | 54 => ⟨S4x8192x8x192, .f32⟩
  | 55 => ⟨S_, .f32⟩
  | 56 => ⟨S4x8192x8, .f32⟩
  | 57 => ⟨S4x8192x8x1, .f32⟩
  | 58 => ⟨S_, .f32⟩
  | 59 => ⟨S4x8192x8x1, .f32⟩
  | 60 => ⟨S4x8192x8x1, .f32⟩
  | 61 => ⟨S_, .f32⟩
  | 62 => ⟨S4x8192x8x1, .f32⟩
  | 63 => ⟨S4x8192x8x1, .f32⟩
  | 64 => ⟨S4x8192x8x1, .f32⟩
  | 65 => ⟨S4x8192x8x192, .f32⟩
  | 66 => ⟨S4x8192x8x192, .f32⟩
  | 67 => ⟨S1x1x1x192, .f32⟩
  | 68 => ⟨S4x8192x8x192, .f32⟩
  | 69 => ⟨S4x8192x8x192, .f32⟩
  | 70 => ⟨S4x8192x8x192, .f32⟩
  | 71 => ⟨S_, .f32⟩
  | 72 => ⟨S4x8192x8, .f32⟩
  | 73 => ⟨S4x8192x8x1, .f32⟩
  | 74 => ⟨S_, .f32⟩
  | 75 => ⟨S4x8192x8x1, .f32⟩
  | 76 => ⟨S4x8192x8x1, .f32⟩
  | 77 => ⟨S_, .f32⟩
  | 78 => ⟨S4x8192x8x1, .f32⟩
  | 79 => ⟨S4x8192x8x1, .f32⟩
  | 80 => ⟨S4x8192x8x1, .f32⟩
  | 81 => ⟨S4x8192x8x192, .f32⟩
  | 82 => ⟨S4x8192x8x192, .f32⟩
  | 83 => ⟨S1x1x1x192, .f32⟩
  | 84 => ⟨S4x8192x8x192, .f32⟩
  | 85 => ⟨S4x8192x8x192, .f32⟩
  | 86 => ⟨S4x8192x8x64, .f32⟩
  | 87 => ⟨S32, .f32⟩
  | 88 => ⟨S32, .f32⟩
  | 89 => ⟨S_, .f32⟩
  | 90 => ⟨S32, .f32⟩
  | 91 => ⟨S32, .f32⟩
  | 92 => ⟨S_, .f32⟩
  | 93 => ⟨S32, .f32⟩
  | 94 => ⟨S32, .f32⟩
  | 95 => ⟨S8192, .f32⟩
  | 96 => ⟨S8192x1, .f32⟩
  | 97 => ⟨S1x32, .f32⟩
  | 98 => ⟨S8192x32, .f32⟩
  | 99 => ⟨S8192x32, .f32⟩
  | 100 => ⟨S8192x32, .f32⟩
  | 101 => ⟨S8192x32, .f32⟩
  | 102 => ⟨S8192x1x32, .f32⟩
  | 103 => ⟨S8192x32, .f32⟩
  | 104 => ⟨S8192x1x32, .f32⟩
  | 105 => ⟨S4x8192x8x32, .f32⟩
  | 106 => ⟨S4x8192x8x32, .f32⟩
  | 107 => ⟨S1x8192x1x32, .f32⟩
  | 108 => ⟨S4x8192x8x32, .f32⟩
  | 109 => ⟨S4x8192x8x32, .f32⟩
  | 110 => ⟨S1x8192x1x32, .f32⟩
  | 111 => ⟨S4x8192x8x32, .f32⟩
  | 112 => ⟨S4x8192x8x32, .f32⟩
  | 113 => ⟨S4x8192x8x32, .f32⟩
  | 114 => ⟨S1x8192x1x32, .f32⟩
  | 115 => ⟨S4x8192x8x32, .f32⟩
  | 116 => ⟨S4x8192x8x32, .f32⟩
  | 117 => ⟨S1x8192x1x32, .f32⟩
  | 118 => ⟨S4x8192x8x32, .f32⟩
  | 119 => ⟨S4x8192x8x32, .f32⟩
  | 120 => ⟨S4x8192x8x32, .f32⟩
  | 121 => ⟨S4x8192x8x64, .f32⟩
  | 122 => ⟨S4x8192x8x64, .f32⟩
  | 123 => ⟨S32, .f32⟩
  | 124 => ⟨S32, .f32⟩
  | 125 => ⟨S_, .f32⟩
  | 126 => ⟨S32, .f32⟩
  | 127 => ⟨S32, .f32⟩
  | _ => ⟨S32768x4096, .bf16⟩

abbrev hbmTy0_1 (i : Nat) : BufTy := match i % 128 with
  | 0 => ⟨S_, .f32⟩
  | 1 => ⟨S32, .f32⟩
  | 2 => ⟨S32, .f32⟩
  | 3 => ⟨S8192, .f32⟩
  | 4 => ⟨S8192x1, .f32⟩
  | 5 => ⟨S1x32, .f32⟩
  | 6 => ⟨S8192x32, .f32⟩
  | 7 => ⟨S8192x32, .f32⟩
  | 8 => ⟨S8192x32, .f32⟩
  | 9 => ⟨S8192x32, .f32⟩
  | 10 => ⟨S8192x1x32, .f32⟩
  | 11 => ⟨S8192x32, .f32⟩
  | 12 => ⟨S8192x1x32, .f32⟩
  | 13 => ⟨S4x8192x8x32, .f32⟩
  | 14 => ⟨S4x8192x8x32, .f32⟩
  | 15 => ⟨S1x8192x1x32, .f32⟩
  | 16 => ⟨S4x8192x8x32, .f32⟩
  | 17 => ⟨S4x8192x8x32, .f32⟩
  | 18 => ⟨S1x8192x1x32, .f32⟩
  | 19 => ⟨S4x8192x8x32, .f32⟩
  | 20 => ⟨S4x8192x8x32, .f32⟩
  | 21 => ⟨S4x8192x8x32, .f32⟩
  | 22 => ⟨S1x8192x1x32, .f32⟩
  | 23 => ⟨S4x8192x8x32, .f32⟩
  | 24 => ⟨S4x8192x8x32, .f32⟩
  | 25 => ⟨S1x8192x1x32, .f32⟩
  | 26 => ⟨S4x8192x8x32, .f32⟩
  | 27 => ⟨S4x8192x8x32, .f32⟩
  | 28 => ⟨S4x8192x8x32, .f32⟩
  | 29 => ⟨S4x8192x8x64, .f32⟩
  | 30 => ⟨S4x8192x8x128, .f32⟩
  | 31 => ⟨S_, .f32⟩
  | 32 => ⟨S4x8192x8x128, .f32⟩
  | 33 => ⟨S4x8192x8x128, .f32⟩
  | 34 => ⟨S32768x1024, .f32⟩
  | 35 => ⟨S32768x1024, .bf16⟩
  | 36 => ⟨S_, .f32⟩
  | 37 => ⟨S4x8192x8x64, .f32⟩
  | 38 => ⟨S4x8192x8x64, .f32⟩
  | 39 => ⟨S32768x512, .f32⟩
  | 40 => ⟨S32768x512, .bf16⟩
  | 41 => ⟨S4x8192x8x128, .f32⟩
  | 42 => ⟨S32768x1024, .f32⟩
  | 43 => ⟨S32768x1024, .bf16⟩
  | 44 => ⟨S32768x512, .f32⟩
  | 45 => ⟨S32768x512, .bf16⟩
  | 46 => ⟨S32768x1024, .f32⟩
  | 47 => ⟨S32768x1024, .bf16⟩
  | _ => ⟨S32768x4096, .bf16⟩

abbrev hbmTy (i : Nat) : BufTy := match i / 128 with
  | 0 => hbmTy0_0 i
  | 1 => hbmTy0_1 i
  | _ => ⟨S32768x4096, .bf16⟩

abbrev bufTy : (tb : Table) → Fin (tcTables nBuf tb) → BufTy
  | .hbm, ⟨i, _⟩ => hbmTy i
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_8 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_11 : Ref sig .tc := ⟨.hbm, 89, rfl⟩
abbrev main_v70 : Ref sig .tc := ⟨.hbm, 90, rfl⟩
abbrev main_v71 : Ref sig .tc := ⟨.hbm, 91, rfl⟩
abbrev main_cst_12 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_cst_13 : Ref sig .tc := ⟨.hbm, 125, rfl⟩
abbrev main_v104 : Ref sig .tc := ⟨.hbm, 126, rfl⟩
abbrev main_v105 : Ref sig .tc := ⟨.hbm, 127, rfl⟩
abbrev main_cst_14 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_cst_15 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_cst_16 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩

abbrev nD : Nat := 1
abbrev τ : Topo := Topo.v7x

variable {F : FTy → Type} [FloatOps F]
-- ==== Proof.Tile.lean ====
/-
  One tile of the flash attention kernel, read at an index over the extended reals.

  The kernel works on 2048 query rows in eight streams of 256 rows and on one block of 1024 keys at a time. This module
  names the three tiles a stream computes (the scores of its rows against a key block, the new running row maximum, the
  new accumulator) and says what each holds at (row, column).
-/
module

public import proofs.«01_k».proof.Proof.Gen.KernelIdeal.Skeleton
public import Idealize.ShloMosaic.Lib.MatmulPlain
public import Idealize.ShloMosaic.Lib.ValueIdx
public import Idealize.ShloMosaic.Lib.Pipeline.Value
public import Idealize.ShloMosaic.PureOps.Ideal.Laws

@[expose] public section

noncomputable section

namespace Cert.Flash

open Cert.KernelIdeal Cert.KernelIdeal.Gen
open Idealize.ShloMosaic Idealize.ShloMosaic.ValueIdx
open scoped BigOperators

/-- The scores of 256 query rows against 1024 keys. -/
def scoreT (q : FVec Ideal S256x256 .bf16) (k : FVec Ideal S1024x256 .bf16) : FVec Ideal S256x1024 .f32 :=
  matmul dot_S256x256_S1024x256_S256x1024_1_1_0_0_n_n none q k (constant S256x1024 .f32 0x00000000#32)

/-- The running maximum of 256 rows after a block of scores. -/
def maxT (s : FVec Ideal S256x1024 .f32) (m : FVec Ideal S256x1 .f32) : FVec Ideal S256x1 .f32 :=
  maximumf m (shapeCast S256x1 (multiReduction .maximumf [1] S256 s 0xFF800000#32 reduces_S256x1024_S256 (.inl rfl) rfl) shapeCasts_S256_S256x1)

/-- The accumulator of 256 rows after a block of scores: the old one rescaled plus the weights times the values. -/
def accT (v : FVec Ideal S1024x256 .bf16) (s : FVec Ideal S256x1024 .f32) (m : FVec Ideal S256x1 .f32)
    (a : FVec Ideal S256x256 .f32) : FVec Ideal S256x256 .f32 :=
  addf (mulf (broadcastTo S256x256 (exp2 (subf m (maxT s m))) broadcasts_S256x1_S256x256) a)
    (matmul dot_S256x1024_S1024x256_S256x256_1_0_0_1_n_n none
      (truncf .bf16 (exp2 (subf s (broadcastTo S256x1024 (maxT s m) broadcasts_S256x1_S256x1024))) bitsLt_bf16_f32) v
      (constant S256x256 .f32 0x00000000#32))

/-- The score product is the transposed-right product of the library. -/
theorem score_dot : dot_S256x256_S1024x256_S256x1024_1_1_0_0_n_n = DotDims.transposedRhs 256 256 1024 := rfl
/-- The value product is the plain product of the library. -/
theorem acc_dot : dot_S256x1024_S1024x256_S256x256_1_0_0_1_n_n = DotDims.plain 256 1024 256 := rfl

theorem scoreT_apply (q : FVec Ideal S256x256 .bf16) (k : FVec Ideal S1024x256 .bf16) (r : Fin 256) (c : Fin 1024) :
    scoreT q k (ix2 r c) = ∑ d : Fin 256, q (ix2 r d) * k (ix2 c d) := by
  unfold scoreT
  rw [score_dot]
  refine (Ideal.matmul_transposedRhs_apply none q k _ r c).trans ?_
  rw [constant_apply, Ideal.ofBits_zero_f32, zero_add]

/-- The word the row maximum starts from is minus infinity. -/
theorem ofBits_neg_inf : FloatOps.ofBits (F := Ideal) .f32 0xFF800000#32 = (⊥ : EReal) := by
  simp [Ideal.ofBits, Ideal.ieee]

/-- The maximum of a finite family of extended reals, from minus infinity. -/
abbrev rowMax {n : ℕ} (f : Fin n → EReal) : EReal := (Finset.univ : Finset (Fin n)).fold max ⊥ f

theorem maxT_apply (s : FVec Ideal S256x1024 .f32) (m : FVec Ideal S256x1 .f32) (r : Fin 256) (z : Fin 1) :
    maxT s m (ix2 r z) = max (m (ix2 r 0)) (rowMax fun c : Fin 1024 => s (ix2 r c)) := by
  obtain rfl : z = 0 := Subsingleton.elim _ _
  unfold maxT
  refine congrArg (max (m (ix2 r 0))) ?_
  rw [shapeCast_apply _ shapeCasts_S256_S256x1 (ix2 r 0) (ix1 r)
    (by rewrite [Shape.rowMajor_val_one, Shape.rowMajor_val_two]; show r.val = r.val * 1 + 0; omega)]
  refine (Ideal.multiReduction_maximumf_single s _ reduces_S256x1024_S256 _ _ (ix1 r)).trans ?_
  rw [ofBits_neg_inf]
  refine congrArg (Finset.fold max ⊥ · Finset.univ) (funext fun c => ?_)
  refine congrArg s (funext fun a => ?_)
  match a with
  | ⟨0, _⟩ => rfl
  | ⟨1, _⟩ => rfl

theorem accT_apply (v : FVec Ideal S1024x256 .bf16) (s : FVec Ideal S256x1024 .f32) (m : FVec Ideal S256x1 .f32)
    (a : FVec Ideal S256x256 .f32) (r : Fin 256) (c : Fin 256) :
    accT v s m a (ix2 r c) = Ideal.exp2 (m (ix2 r 0) - maxT s m (ix2 r 0)) * a (ix2 r c)
      + ∑ k : Fin 1024, Ideal.exp2 (s (ix2 r k) - maxT s m (ix2 r 0)) * v (ix2 k c) := by
  unfold accT
  rw [addf_apply, mulf_apply, acc_dot]
  congr 1
  · congr 1
    rw [broadcastTo_apply _ broadcasts_S256x1_S256x256 (ix2 r c) (ix2 r 0)
      (fun a => by match a with | ⟨0, _⟩ => rfl | ⟨1, _⟩ => rfl)]
    rfl
  · refine (Ideal.matmul_plain_apply none _ v _ r c).trans ?_
    rw [constant_apply, Ideal.ofBits_zero_f32, zero_add]
    refine Finset.sum_congr rfl fun k _ => ?_
    congr 1
    rw [truncf_apply]
    show Ideal.exp2 (s (ix2 r k) - broadcastTo S256x1024 (maxT s m) broadcasts_S256x1_S256x1024 (ix2 r k)) = _
    rw [broadcastTo_apply _ broadcasts_S256x1_S256x1024 (ix2 r k) (ix2 r 0)
      (fun a => by match a with | ⟨0, _⟩ => rfl | ⟨1, _⟩ => rfl)]

end Cert.Flash
-- ==== Proof.Rows.lean ====
/-
  A stream's tiles as rows of whole blocks.

  A stream of the flash attention kernel works on rows `o … o + 255` of the 2048 query rows. This module states the
  scores, the running maximum and the accumulator of all 2048 rows as functions of whole blocks, and shows that a stream's
  tiles are the rows `o …` of them, whichever of the eight offsets `o` is.
-/
module

public import proofs.«01_k».proof.Proof.Tile
public import Idealize.ShloMosaic.Lib.Pipeline.ReadBack

@[expose] public section

noncomputable section

namespace Cert.Flash

open Cert.KernelIdeal Cert.KernelIdeal.Gen
open Idealize.ShloMosaic Idealize.ShloMosaic.ValueIdx
open scoped BigOperators

/-- The scores of 2048 query rows against 1024 keys. -/
def scoreF (Q : S2048x256.Idx → EReal) (k : S1024x256.Idx → EReal) : S2048x1024.Idx → EReal :=
  fun y => ∑ d : Fin 256, Q (ix2 (y 0) d) * k (ix2 (y 1) d)

/-- The running maximum of 2048 rows after a block of scores. -/
def maxF (s : S2048x1024.Idx → EReal) (m : S2048x1.Idx → EReal) : S2048x1.Idx → EReal :=
  fun y => max (m (ix2 (y 0) 0)) (rowMax fun c : Fin 1024 => s (ix2 (y 0) c))

/-- The accumulator of 2048 rows after a block of scores. -/
def accF (v : S1024x256.Idx → EReal) (s : S2048x1024.Idx → EReal) (m : S2048x1.Idx → EReal)
    (a : S2048x256.Idx → EReal) : S2048x256.Idx → EReal :=
  fun y => Ideal.exp2 (m (ix2 (y 0) 0) - maxF s m (ix2 (y 0) 0)) * a (ix2 (y 0) (y 1))
    + ∑ k : Fin 1024, Ideal.exp2 (s (ix2 (y 0) k) - maxF s m (ix2 (y 0) 0)) * v (ix2 k (y 1))

/-- The keys of a block: the lanes without a position beside the rotated lanes. -/
def keyB (a b : Vec Ideal S1x1024x128 .bf16) : S1024x256.Idx → EReal := k0_pay6 a b

/-- The values of a block beside ones. -/
def valB (a : Vec Ideal S1x1024x128 .bf16) : S1024x256.Idx → EReal := k0_pay16 a

/-- The output block of an accumulator: its value columns over its column of ones. -/
def outF (A : S2048x256.Idx → EReal) : S1x2048x128.Idx → EReal :=
  fun y => Ideal.div (A (ix2 (y 1) ⟨(y 2).val, by have : (y 2).val < 128 := (y 2).isLt; omega⟩))
    (A (ix2 (y 1) ⟨128 + (y 2).val, by have : (y 2).val < 128 := (y 2).isLt; omega⟩))

/-- What the last step stores of an accumulator is its output block. -/
theorem out_pay (A : S2048x256.Idx → EReal) (i0 i1) :
    k0_pay92 (F := Ideal) (fun j => A ((Rect.unit (s := S2048x256) ![0, 0] ![2048, 128] i0).idx j))
      (fun j => A ((Rect.unit (s := S2048x256) ![0, 128] ![2048, 128] i1).idx j)) = outF A := by
  funext y
  obtain ⟨z, r, d, rfl⟩ : ∃ (z : Fin 1) (r : Fin 2048) (d : Fin 128), y = ix3 z r d := ⟨_, _, _, eq_ix3 y⟩
  obtain rfl : z = 0 := Subsingleton.elim _ _
  rw [k0_pay92, shapeCast_apply _ shapeCasts_S2048x128_S1x2048x128 (ix3 0 r d) (ix2 r d) (by
    rewrite [Shape.rowMajor_val_two, Shape.rowMajor_val_three]
    show r.val * 128 + d.val = (0 * 2048 + r.val) * 128 + d.val
    omega)]
  refine congrArg₂ Ideal.div (congrArg A (funext fun a => ?_)) (congrArg A (funext fun a => ?_))
  · match a with
    | ⟨0, _⟩ => exact Fin.ext (show 0 + 1 * r.val = r.val by omega)
    | ⟨1, _⟩ => exact Fin.ext (show 0 + 1 * d.val = d.val by omega)
  · match a with
    | ⟨0, _⟩ => exact Fin.ext (show 0 + 1 * r.val = r.val by omega)
    | ⟨1, _⟩ => exact Fin.ext (show 128 + 1 * d.val = 128 + d.val by omega)

/-- Tile `s` holds the rows `o … o + 255` of block `S`. -/
def IsRows (o : ℕ) {n : ℕ} (S : (⟨2, ![2048, n]⟩ : Shape).Idx → EReal) (s : (⟨2, ![256, n]⟩ : Shape).Idx → EReal) : Prop :=
  ∀ (r : Fin 256) (h : o + r.val < 2048) (c : Fin n), s (ix2 r c) = S (ix2 ⟨o + r.val, h⟩ c)

/-- A load of rows `o …` of a block holds them. -/
theorem IsRows.ld {o n : ℕ} (S : (⟨2, ![2048, n]⟩ : Shape).Idx → EReal)
    (inb : ∀ a, (![o, 0] : Fin 2 → ℕ) a + (![256, n] : Fin 2 → ℕ) a ≤ (⟨2, ![2048, n]⟩ : Shape).size a) :
    IsRows o S (View.ld (Val := Elt Ideal) (e' := .f32) S (Rect.unit (s := ⟨2, ![2048, n]⟩) ![o, 0] ![256, n] inb)) := by
  intro r h c
  refine congrArg S (funext fun a => ?_)
  match a with
  | ⟨0, _⟩ => exact Fin.ext (show o + 1 * r.val = o + r.val by omega)
  | ⟨1, _⟩ => exact Fin.ext (show 0 + 1 * c.val = c.val by omega)

/-- The same of a query load. -/
theorem IsRows.ldq {o n : ℕ} (S : (⟨2, ![2048, n]⟩ : Shape).Idx → EReal)
    (inb : ∀ a, (![o, 0] : Fin 2 → ℕ) a + (![256, n] : Fin 2 → ℕ) a ≤ (⟨2, ![2048, n]⟩ : Shape).size a) :
    IsRows o S (View.ld (Val := Elt Ideal) (e' := .bf16) S (Rect.unit (s := ⟨2, ![2048, n]⟩) ![o, 0] ![256, n] inb)) :=
  IsRows.ld S inb

/-- Such a tile, stored at row `o`, is a piece of the block. -/
theorem IsRows.piece {o n : ℕ} {S : (⟨2, ![2048, n]⟩ : Shape).Idx → EReal} {s : (⟨2, ![256, n]⟩ : Shape).Idx → EReal}
    (h : IsRows o S s)
    (inb : ∀ a, (![o, 0] : Fin 2 → ℕ) a + (![256, n] : Fin 2 → ℕ) a ≤ (⟨2, ![2048, n]⟩ : Shape).size a)
    (x : (⟨2, ![256, n]⟩ : Shape).Idx) :
    s x = S ((Rect.unit (s := ⟨2, ![2048, n]⟩) ![o, 0] ![256, n] inb).emb x) := by
  have h0 : o + (x 0).val < 2048 := by
    have := inb 0; have hx : (x 0).val < 256 := (x 0).isLt
    have : o + 256 ≤ 2048 := this
    omega
  refine (congrArg s (eq_ix2 x)).trans ((h (x 0) h0 (x 1)).trans ?_)
  refine congrArg S (funext fun a => ?_)
  match a with
  | ⟨0, _⟩ => exact Fin.ext (show o + (x 0).val = o + 1 * (x 0).val by omega)
  | ⟨1, _⟩ => exact Fin.ext (show (x 1).val = 0 + 1 * (x 1).val by omega)

theorem IsRows.score {o : ℕ} {Q : S2048x256.Idx → EReal} {q : S256x256.Idx → EReal} (hq : IsRows o Q q)
    (k : S1024x256.Idx → EReal) : IsRows (n := 1024) o (scoreF Q k) (scoreT q k) := by
  intro r h c
  rw [scoreT_apply]
  exact Finset.sum_congr rfl fun d _ => congrArg (· * k (ix2 c d)) (hq r h d)

theorem IsRows.max {o : ℕ} {S : S2048x1024.Idx → EReal} {s : S256x1024.Idx → EReal} (hs : IsRows (n := 1024) o S s)
    {M : S2048x1.Idx → EReal} {m : S256x1.Idx → EReal} (hm : IsRows (n := 1) o M m) :
    IsRows (n := 1) o (maxF S M) (maxT s m) := by
  intro r h c
  rw [maxT_apply, hm r h 0]
  exact congrArg (Max.max _) (congrArg rowMax (funext fun k => hs r h k))

theorem IsRows.acc {o : ℕ} (v : S1024x256.Idx → EReal) {S : S2048x1024.Idx → EReal} {s : S256x1024.Idx → EReal}
    (hs : IsRows (n := 1024) o S s) {M : S2048x1.Idx → EReal} {m : S256x1.Idx → EReal} (hm : IsRows (n := 1) o M m)
    {A : S2048x256.Idx → EReal} {a : S256x256.Idx → EReal} (ha : IsRows (n := 256) o A a) :
    IsRows (n := 256) o (accF v S M A) (accT v s m a) := by
  intro r h c
  rw [accT_apply, hs.max hm r h 0, hm r h 0, ha r h c]
  exact congrArg (_ + ·) (Finset.sum_congr rfl fun k _ => by rw [hs r h k])

/-- Eight stored tiles that are rows of `S`, over any older stores, leave `S`. -/
theorem canon_rows {n : ℕ} (S : (⟨2, ![2048, n]⟩ : Shape).Idx → EReal)
    (L : List (View.Piece (Elt Ideal) (⟨2, ![2048, n]⟩ : Shape) .f32)) (L' : List (View.Piece (Elt Ideal) (⟨2, ![2048, n]⟩ : Shape) .f32))
    (h : View.PiecesOf S L) (hc : ∀ y, ∃ p ∈ L, y ∈ p.1.set) : View.canon (L ++ L') = S :=
  funext fun y => View.canon_append_of_piecesOf S L' L h y (hc y)

end Cert.Flash
-- ==== Proof.StepA.lean ====
/-
  What one grid point leaves in the scratches, the first key block.
-/
module

public import proofs.«01_k».proof.Proof.Gen.KernelIdeal.Value
public import Idealize.ShloMosaic.Lib.Pipeline.ValueKit
public import Idealize.ShloMosaic.Lib.Pipeline.ReadBack
public import proofs.«01_k».proof.Proof.Rows

@[expose] public section

noncomputable section

namespace Cert.Flash

open Cert.KernelIdeal Cert.KernelIdeal.Gen
open Idealize.ShloMosaic Idealize.ShloMosaic.TcCoe Idealize.SL.Sem

variable (m : (ℓ : Loc nD τ sig) → Buf (Elt Ideal) ℓ) (c : Dev nD) (t : Fin cfg0.N)

theorem A_first (h0 : t.val % 8 = 0) (h1 : t.val % 2 = 0) (h2 : ¬t.val % 2 = 1) (h3 : ¬t.val % 8 = 7) :
    (outsAt0 m c t.val t.isLt).2.2.1 = scoreF (outsAt0 m c t.val t.isLt).2.1 (keyB (iblk m c 2 t) (iblk m c 3 t)) := by
  rw [outsAt0_A m c t h0 h1 h2 h3]
  dsimp only
  frame_open
  simp (disch := decide) only [↓ View.readCov_skip, ↓ View.readCov_cons_toLoadRect, ↓ View.readCov_fill]
  frame_out
  simp only [View.readCov_eq_canon']
  generalize View.canon (Val := Elt Ideal) (s := S2048x256) (e := .bf16) [_, _] = Q
  refine canon_rows _ [_, _, _, _, _, _, _, _] [] ⟨?_, ?_, ?_, ?_, ?_, ?_, ?_, ?_, trivial⟩
    (View.cover_of_tiledL (s := S2048x1024) _ (![256, 1024] : Fin 2 → ℕ) (by sl_kernel_rfl))
  all_goals
    intro x
    refine IsRows.piece ?_ (by decide) x
    simp only [k0_pay7, k0_pay8, k0_pay9, k0_pay10, k0_pay11, k0_pay12, k0_pay13, k0_pay14, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, shapeCast_self]
    exact (IsRows.ldq _ (by decide)).score _

theorem A_next (h0 : t.val % 8 = 0) (h1 : t.val % 2 = 0) (h2 : ¬t.val % 2 = 1) (h3 : ¬t.val % 8 = 7) :
    (outsAt0 m c t.val t.isLt).2.2.2.1 = scoreF (outsAt0 m c t.val t.isLt).2.1 (keyB (iblk m c 4 t) (iblk m c 5 t)) := by
  rw [outsAt0_A m c t h0 h1 h2 h3]
  dsimp only
  frame_open
  simp (disch := decide) only [↓ View.readCov_skip, ↓ View.readCov_cons_toLoadRect, ↓ View.readCov_fill]
  frame_out
  simp only [View.readCov_eq_canon']
  generalize View.canon (Val := Elt Ideal) (s := S2048x256) (e := .bf16) [_, _] = Q
  refine canon_rows _ [_, _, _, _, _, _, _, _] [] ⟨?_, ?_, ?_, ?_, ?_, ?_, ?_, ?_, trivial⟩
    (View.cover_of_tiledL (s := S2048x1024) _ (![256, 1024] : Fin 2 → ℕ) (by sl_kernel_rfl))
  all_goals
    intro x
    refine IsRows.piece ?_ (by decide) x
    simp only [k0_pay7, k0_pay8, k0_pay9, k0_pay10, k0_pay11, k0_pay12, k0_pay13, k0_pay14, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, shapeCast_self]
    exact (IsRows.ldq _ (by decide)).score _

theorem A_max (h0 : t.val % 8 = 0) (h1 : t.val % 2 = 0) (h2 : ¬t.val % 2 = 1) (h3 : ¬t.val % 8 = 7) :
    (outsAt0 m c t.val t.isLt).2.2.2.2.1 = maxF (scoreF (outsAt0 m c t.val t.isLt).2.1 (keyB (iblk m c 2 t) (iblk m c 3 t))) (k0_pay4 (F := Ideal)) := by
  rw [outsAt0_A m c t h0 h1 h2 h3]
  dsimp only
  frame_open
  simp (disch := decide) only [↓ View.readCov_skip, ↓ View.readCov_cons_toLoadRect, ↓ View.readCov_fill]
  frame_out
  simp only [View.readCov_eq_canon']
  generalize View.canon (Val := Elt Ideal) (s := S2048x256) (e := .bf16) [_, _] = Q
  refine canon_rows _ [_, _, _, _, _, _, _, _] [_] ⟨?_, ?_, ?_, ?_, ?_, ?_, ?_, ?_, trivial⟩
    (View.cover_of_tiledL (s := S2048x1) _ (![256, 1] : Fin 2 → ℕ) (by sl_kernel_rfl))
  all_goals
    intro x
    refine IsRows.piece ?_ (by decide) x
    simp only [k0_pay7, k0_pay8, k0_pay9, k0_pay10, k0_pay11, k0_pay12, k0_pay13, k0_pay14, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, shapeCast_self]
    exact IsRows.max ((IsRows.ldq _ (by decide)).score _) (IsRows.ld _ (by decide))

theorem A_acc (h0 : t.val % 8 = 0) (h1 : t.val % 2 = 0) (h2 : ¬t.val % 2 = 1) (h3 : ¬t.val % 8 = 7) :
    (outsAt0 m c t.val t.isLt).2.2.2.2.2 = accF (valB (iblk m c 6 t)) (scoreF (outsAt0 m c t.val t.isLt).2.1 (keyB (iblk m c 2 t) (iblk m c 3 t))) (k0_pay4 (F := Ideal)) (k0_pay5 (F := Ideal)) := by
  rw [outsAt0_A m c t h0 h1 h2 h3]
  dsimp only
  frame_open
  simp (disch := decide) only [↓ View.readCov_skip, ↓ View.readCov_cons_toLoadRect, ↓ View.readCov_fill]
  frame_out
  simp only [View.readCov_eq_canon']
  generalize View.canon (Val := Elt Ideal) (s := S2048x256) (e := .bf16) [_, _] = Q
  refine canon_rows _ [_, _, _, _, _, _, _, _] [_] ⟨?_, ?_, ?_, ?_, ?_, ?_, ?_, ?_, trivial⟩
    (View.cover_of_tiledL (s := S2048x256) _ (![256, 256] : Fin 2 → ℕ) (by sl_kernel_rfl))
  all_goals
    intro x
    refine IsRows.piece ?_ (by decide) x
    simp only [k0_pay7, k0_pay8, k0_pay9, k0_pay10, k0_pay11, k0_pay12, k0_pay13, k0_pay14, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, shapeCast_self]
    exact IsRows.acc _ ((IsRows.ldq _ (by decide)).score _) (IsRows.ld _ (by decide)) (IsRows.ld _ (by decide))

end Cert.Flash
-- ==== Proof.StepB.lean ====
/-
  What one grid point leaves in the scratches, from what the point before left: the odd key blocks before the last.
-/
module

public import proofs.«01_k».proof.Proof.Gen.KernelIdeal.Value
public import Idealize.ShloMosaic.Lib.Pipeline.ValueKit
public import Idealize.ShloMosaic.Lib.Pipeline.ReadBack
public import proofs.«01_k».proof.Proof.Rows

@[expose] public section

noncomputable section

namespace Cert.Flash

open Cert.KernelIdeal Cert.KernelIdeal.Gen
open Idealize.ShloMosaic Idealize.ShloMosaic.TcCoe Idealize.SL.Sem

variable (m : (ℓ : Loc nD τ sig) → Buf (Elt Ideal) ℓ) (c : Dev nD) (t : Fin cfg0.N) (hn : t.val - 1 < cfg0.N)

theorem B_query (h0 : ¬t.val % 8 = 0) (h1 : ¬t.val % 2 = 0) (h2 : t.val % 2 = 1) (h3 : ¬t.val % 8 = 7) :
    (outsAt0 m c t.val t.isLt).2.1 = (outsAt0 m c (t.val - 1) hn).2.1 := by
  rw [outsAt0_B m c t h0 h1 h2 h3]
  rfl

theorem B_kept (h0 : ¬t.val % 8 = 0) (h1 : ¬t.val % 2 = 0) (h2 : t.val % 2 = 1) (h3 : ¬t.val % 8 = 7) :
    (outsAt0 m c t.val t.isLt).2.2.2.1 = (outsAt0 m c (t.val - 1) hn).2.2.2.1 := by
  rw [outsAt0_B m c t h0 h1 h2 h3]
  rfl

theorem B_next (h0 : ¬t.val % 8 = 0) (h1 : ¬t.val % 2 = 0) (h2 : t.val % 2 = 1) (h3 : ¬t.val % 8 = 7) :
    (outsAt0 m c t.val t.isLt).2.2.1 = scoreF ((outsAt0 m c (t.val - 1) hn).2.1) (keyB (iblk m c 4 t) (iblk m c 5 t)) := by
  rw [outsAt0_B m c t h0 h1 h2 h3]
  dsimp only
  frame_out
  simp only [read_unread_whole]
  generalize (outsAt0 m c (t.val - 1) hn).2.1 = X0
  refine canon_rows _ [_, _, _, _, _, _, _, _] [] ⟨?_, ?_, ?_, ?_, ?_, ?_, ?_, ?_, trivial⟩
    (View.cover_of_tiledL (s := S2048x1024) _ (![256, 1024] : Fin 2 → ℕ) (by sl_kernel_rfl))
  all_goals
    intro x
    refine IsRows.piece ?_ (by decide) x
    simp only [k0_pay4, k0_pay5, k0_pay7, k0_pay8, k0_pay9, k0_pay10, k0_pay11, k0_pay12, k0_pay13, k0_pay14, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, shapeCast_self]
    exact (IsRows.ldq _ (by decide)).score _

theorem B_max (h0 : ¬t.val % 8 = 0) (h1 : ¬t.val % 2 = 0) (h2 : t.val % 2 = 1) (h3 : ¬t.val % 8 = 7) :
    (outsAt0 m c t.val t.isLt).2.2.2.2.1 = maxF ((outsAt0 m c (t.val - 1) hn).2.2.2.1) ((outsAt0 m c (t.val - 1) hn).2.2.2.2.1) := by
  rw [outsAt0_B m c t h0 h1 h2 h3]
  dsimp only
  frame_out
  simp only [read_unread_whole]
  generalize (outsAt0 m c (t.val - 1) hn).2.2.2.1 = X2
  generalize (outsAt0 m c (t.val - 1) hn).2.2.2.2.1 = X3
  refine canon_rows _ [_, _, _, _, _, _, _, _] [] ⟨?_, ?_, ?_, ?_, ?_, ?_, ?_, ?_, trivial⟩
    (View.cover_of_tiledL (s := S2048x1) _ (![256, 1] : Fin 2 → ℕ) (by sl_kernel_rfl))
  all_goals
    intro x
    refine IsRows.piece ?_ (by decide) x
    simp only [k0_pay4, k0_pay5, k0_pay7, k0_pay8, k0_pay9, k0_pay10, k0_pay11, k0_pay12, k0_pay13, k0_pay14, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, shapeCast_self]
    exact (IsRows.ld _ (by decide)).max (IsRows.ld _ (by decide))

theorem B_acc (h0 : ¬t.val % 8 = 0) (h1 : ¬t.val % 2 = 0) (h2 : t.val % 2 = 1) (h3 : ¬t.val % 8 = 7) :
    (outsAt0 m c t.val t.isLt).2.2.2.2.2 = accF (valB (iblk m c 6 t)) ((outsAt0 m c (t.val - 1) hn).2.2.2.1) ((outsAt0 m c (t.val - 1) hn).2.2.2.2.1) ((outsAt0 m c (t.val - 1) hn).2.2.2.2.2) := by
  rw [outsAt0_B m c t h0 h1 h2 h3]
  dsimp only
  frame_out
  simp only [read_unread_whole]
  generalize (outsAt0 m c (t.val - 1) hn).2.2.2.1 = X2
  generalize (outsAt0 m c (t.val - 1) hn).2.2.2.2.1 = X3
  generalize (outsAt0 m c (t.val - 1) hn).2.2.2.2.2 = X4
  refine canon_rows _ [_, _, _, _, _, _, _, _] [] ⟨?_, ?_, ?_, ?_, ?_, ?_, ?_, ?_, trivial⟩
    (View.cover_of_tiledL (s := S2048x256) _ (![256, 256] : Fin 2 → ℕ) (by sl_kernel_rfl))
  all_goals
    intro x
    refine IsRows.piece ?_ (by decide) x
    simp only [k0_pay4, k0_pay5, k0_pay7, k0_pay8, k0_pay9, k0_pay10, k0_pay11, k0_pay12, k0_pay13, k0_pay14, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, shapeCast_self]
    exact IsRows.acc _ (IsRows.ld _ (by decide)) (IsRows.ld _ (by decide)) (IsRows.ld _ (by decide))

end Cert.Flash
-- ==== Proof.StepC.lean ====
/-
  What one grid point leaves in the scratches, from what the point before left: the even key blocks after the first.
-/
module

public import proofs.«01_k».proof.Proof.Gen.KernelIdeal.Value
public import Idealize.ShloMosaic.Lib.Pipeline.ValueKit
public import Idealize.ShloMosaic.Lib.Pipeline.ReadBack
public import proofs.«01_k».proof.Proof.Rows

@[expose] public section

noncomputable section

namespace Cert.Flash

open Cert.KernelIdeal Cert.KernelIdeal.Gen
open Idealize.ShloMosaic Idealize.ShloMosaic.TcCoe Idealize.SL.Sem

variable (m : (ℓ : Loc nD τ sig) → Buf (Elt Ideal) ℓ) (c : Dev nD) (t : Fin cfg0.N) (hn : t.val - 1 < cfg0.N)

theorem C_query (h0 : ¬t.val % 8 = 0) (h1 : t.val % 2 = 0) (h2 : ¬t.val % 2 = 1) (h3 : ¬t.val % 8 = 7) :
    (outsAt0 m c t.val t.isLt).2.1 = (outsAt0 m c (t.val - 1) hn).2.1 := by
  rw [outsAt0_C m c t h0 h1 h2 h3]
  rfl

theorem C_kept (h0 : ¬t.val % 8 = 0) (h1 : t.val % 2 = 0) (h2 : ¬t.val % 2 = 1) (h3 : ¬t.val % 8 = 7) :
    (outsAt0 m c t.val t.isLt).2.2.1 = (outsAt0 m c (t.val - 1) hn).2.2.1 := by
  rw [outsAt0_C m c t h0 h1 h2 h3]
  rfl

theorem C_next (h0 : ¬t.val % 8 = 0) (h1 : t.val % 2 = 0) (h2 : ¬t.val % 2 = 1) (h3 : ¬t.val % 8 = 7) :
    (outsAt0 m c t.val t.isLt).2.2.2.1 = scoreF ((outsAt0 m c (t.val - 1) hn).2.1) (keyB (iblk m c 4 t) (iblk m c 5 t)) := by
  rw [outsAt0_C m c t h0 h1 h2 h3]
  dsimp only
  frame_out
  simp only [read_unread_whole]
  generalize (outsAt0 m c (t.val - 1) hn).2.1 = X0
  refine canon_rows _ [_, _, _, _, _, _, _, _] [] ⟨?_, ?_, ?_, ?_, ?_, ?_, ?_, ?_, trivial⟩
    (View.cover_of_tiledL (s := S2048x1024) _ (![256, 1024] : Fin 2 → ℕ) (by sl_kernel_rfl))
  all_goals
    intro x
    refine IsRows.piece ?_ (by decide) x
    simp only [k0_pay4, k0_pay5, k0_pay7, k0_pay8, k0_pay9, k0_pay10, k0_pay11, k0_pay12, k0_pay13, k0_pay14, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, shapeCast_self]
    exact (IsRows.ldq _ (by decide)).score _

theorem C_max (h0 : ¬t.val % 8 = 0) (h1 : t.val % 2 = 0) (h2 : ¬t.val % 2 = 1) (h3 : ¬t.val % 8 = 7) :
    (outsAt0 m c t.val t.isLt).2.2.2.2.1 = maxF ((outsAt0 m c (t.val - 1) hn).2.2.1) ((outsAt0 m c (t.val - 1) hn).2.2.2.2.1) := by
  rw [outsAt0_C m c t h0 h1 h2 h3]
  dsimp only
  frame_out
  simp only [read_unread_whole]
  generalize (outsAt0 m c (t.val - 1) hn).2.2.1 = X1
  generalize (outsAt0 m c (t.val - 1) hn).2.2.2.2.1 = X3
  refine canon_rows _ [_, _, _, _, _, _, _, _] [] ⟨?_, ?_, ?_, ?_, ?_, ?_, ?_, ?_, trivial⟩
    (View.cover_of_tiledL (s := S2048x1) _ (![256, 1] : Fin 2 → ℕ) (by sl_kernel_rfl))
  all_goals
    intro x
    refine IsRows.piece ?_ (by decide) x
    simp only [k0_pay4, k0_pay5, k0_pay7, k0_pay8, k0_pay9, k0_pay10, k0_pay11, k0_pay12, k0_pay13, k0_pay14, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, shapeCast_self]
    exact (IsRows.ld _ (by decide)).max (IsRows.ld _ (by decide))

theorem C_acc (h0 : ¬t.val % 8 = 0) (h1 : t.val % 2 = 0) (h2 : ¬t.val % 2 = 1) (h3 : ¬t.val % 8 = 7) :
    (outsAt0 m c t.val t.isLt).2.2.2.2.2 = accF (valB (iblk m c 6 t)) ((outsAt0 m c (t.val - 1) hn).2.2.1) ((outsAt0 m c (t.val - 1) hn).2.2.2.2.1) ((outsAt0 m c (t.val - 1) hn).2.2.2.2.2) := by
  rw [outsAt0_C m c t h0 h1 h2 h3]
  dsimp only
  frame_out
  simp only [read_unread_whole]
  generalize (outsAt0 m c (t.val - 1) hn).2.2.1 = X1
  generalize (outsAt0 m c (t.val - 1) hn).2.2.2.2.1 = X3
  generalize (outsAt0 m c (t.val - 1) hn).2.2.2.2.2 = X4
  refine canon_rows _ [_, _, _, _, _, _, _, _] [] ⟨?_, ?_, ?_, ?_, ?_, ?_, ?_, ?_, trivial⟩
    (View.cover_of_tiledL (s := S2048x256) _ (![256, 256] : Fin 2 → ℕ) (by sl_kernel_rfl))
  all_goals
    intro x
    refine IsRows.piece ?_ (by decide) x
    simp only [k0_pay4, k0_pay5, k0_pay7, k0_pay8, k0_pay9, k0_pay10, k0_pay11, k0_pay12, k0_pay13, k0_pay14, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, shapeCast_self]
    exact IsRows.acc _ (IsRows.ld _ (by decide)) (IsRows.ld _ (by decide)) (IsRows.ld _ (by decide))

end Cert.Flash
-- ==== Proof.StepD.lean ====
/-
  What one grid point leaves in the scratches, from what the point before left: the last key block.
-/
module

public import proofs.«01_k».proof.Proof.Gen.KernelIdeal.Value
public import Idealize.ShloMosaic.Lib.Pipeline.ValueKit
public import Idealize.ShloMosaic.Lib.Pipeline.ReadBack
public import proofs.«01_k».proof.Proof.Rows

@[expose] public section

noncomputable section

namespace Cert.Flash

open Cert.KernelIdeal Cert.KernelIdeal.Gen
open Idealize.ShloMosaic Idealize.ShloMosaic.TcCoe Idealize.SL.Sem

variable (m : (ℓ : Loc nD τ sig) → Buf (Elt Ideal) ℓ) (c : Dev nD) (t : Fin cfg0.N) (hn : t.val - 1 < cfg0.N)

theorem D_query (h0 : ¬t.val % 8 = 0) (h1 : ¬t.val % 2 = 0) (h2 : t.val % 2 = 1) (h3 : t.val % 8 = 7) :
    (outsAt0 m c t.val t.isLt).2.1 = (outsAt0 m c (t.val - 1) hn).2.1 := by
  rw [outsAt0_D m c t h0 h1 h2 h3]
  rfl

theorem D_kept (h0 : ¬t.val % 8 = 0) (h1 : ¬t.val % 2 = 0) (h2 : t.val % 2 = 1) (h3 : t.val % 8 = 7) :
    (outsAt0 m c t.val t.isLt).2.2.2.1 = (outsAt0 m c (t.val - 1) hn).2.2.2.1 := by
  rw [outsAt0_D m c t h0 h1 h2 h3]
  rfl

theorem D_next (h0 : ¬t.val % 8 = 0) (h1 : ¬t.val % 2 = 0) (h2 : t.val % 2 = 1) (h3 : t.val % 8 = 7) :
    (outsAt0 m c t.val t.isLt).2.2.1 = scoreF ((outsAt0 m c (t.val - 1) hn).2.1) (keyB (iblk m c 4 t) (iblk m c 5 t)) := by
  rw [outsAt0_D m c t h0 h1 h2 h3]
  dsimp only
  frame_out
  simp only [read_unread_whole]
  generalize (outsAt0 m c (t.val - 1) hn).2.1 = X0
  refine canon_rows _ [_, _, _, _, _, _, _, _] [] ⟨?_, ?_, ?_, ?_, ?_, ?_, ?_, ?_, trivial⟩
    (View.cover_of_tiledL (s := S2048x1024) _ (![256, 1024] : Fin 2 → ℕ) (by sl_kernel_rfl))
  all_goals
    intro x
    refine IsRows.piece ?_ (by decide) x
    simp only [k0_pay4, k0_pay5, k0_pay7, k0_pay8, k0_pay9, k0_pay10, k0_pay11, k0_pay12, k0_pay13, k0_pay14, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, shapeCast_self]
    exact (IsRows.ldq _ (by decide)).score _

theorem D_max (h0 : ¬t.val % 8 = 0) (h1 : ¬t.val % 2 = 0) (h2 : t.val % 2 = 1) (h3 : t.val % 8 = 7) :
    (outsAt0 m c t.val t.isLt).2.2.2.2.1 = maxF ((outsAt0 m c (t.val - 1) hn).2.2.2.1) ((outsAt0 m c (t.val - 1) hn).2.2.2.2.1) := by
  rw [outsAt0_D m c t h0 h1 h2 h3]
  dsimp only
  frame_out
  simp only [read_unread_whole]
  generalize (outsAt0 m c (t.val - 1) hn).2.2.2.1 = X2
  generalize (outsAt0 m c (t.val - 1) hn).2.2.2.2.1 = X3
  refine canon_rows _ [_, _, _, _, _, _, _, _] [] ⟨?_, ?_, ?_, ?_, ?_, ?_, ?_, ?_, trivial⟩
    (View.cover_of_tiledL (s := S2048x1) _ (![256, 1] : Fin 2 → ℕ) (by sl_kernel_rfl))
  all_goals
    intro x
    refine IsRows.piece ?_ (by decide) x
    simp only [k0_pay4, k0_pay5, k0_pay7, k0_pay8, k0_pay9, k0_pay10, k0_pay11, k0_pay12, k0_pay13, k0_pay14, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, shapeCast_self]
    exact (IsRows.ld _ (by decide)).max (IsRows.ld _ (by decide))

theorem D_acc (h0 : ¬t.val % 8 = 0) (h1 : ¬t.val % 2 = 0) (h2 : t.val % 2 = 1) (h3 : t.val % 8 = 7) :
    (outsAt0 m c t.val t.isLt).2.2.2.2.2 = accF (valB (iblk m c 6 t)) ((outsAt0 m c (t.val - 1) hn).2.2.2.1) ((outsAt0 m c (t.val - 1) hn).2.2.2.2.1) ((outsAt0 m c (t.val - 1) hn).2.2.2.2.2) := by
  rw [outsAt0_D m c t h0 h1 h2 h3]
  dsimp only
  frame_out
  simp only [read_unread_whole]
  generalize (outsAt0 m c (t.val - 1) hn).2.2.2.1 = X2
  generalize (outsAt0 m c (t.val - 1) hn).2.2.2.2.1 = X3
  generalize (outsAt0 m c (t.val - 1) hn).2.2.2.2.2 = X4
  refine canon_rows _ [_, _, _, _, _, _, _, _] [] ⟨?_, ?_, ?_, ?_, ?_, ?_, ?_, ?_, trivial⟩
    (View.cover_of_tiledL (s := S2048x256) _ (![256, 256] : Fin 2 → ℕ) (by sl_kernel_rfl))
  all_goals
    intro x
    refine IsRows.piece ?_ (by decide) x
    simp only [k0_pay4, k0_pay5, k0_pay7, k0_pay8, k0_pay9, k0_pay10, k0_pay11, k0_pay12, k0_pay13, k0_pay14, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, shapeCast_self]
    exact IsRows.acc _ (IsRows.ld _ (by decide)) (IsRows.ld _ (by decide)) (IsRows.ld _ (by decide))

/-- The output block is stored from the accumulator as this step leaves it. -/
theorem D_out (h0 : ¬t.val % 8 = 0) (h1 : ¬t.val % 2 = 0) (h2 : t.val % 2 = 1) (h3 : t.val % 8 = 7) :
    (outsAt0 m c t.val t.isLt).1 = outF (outsAt0 m c t.val t.isLt).2.2.2.2.2 := by
  rw [outsAt0_D m c t h0 h1 h2 h3]
  dsimp only
  frame_out
  simp only [read_unread_whole, View.readCov_eq_canon']
  generalize View.canon (Val := Elt Ideal) (s := S2048x256) (e := .f32) [_, _, _, _, _, _, _, _] = A
  exact out_pay A _ _

end Cert.Flash
-- ==== Proof.Query.lean ====
/-
  The query block a run of key blocks starts from.

  A rope block of 128 lanes holds two heads of 64, and a head's queries keep its own half of it and zeros in the other
  half, beside the 128 lanes without a position.
-/
module

public import proofs.«01_k».proof.Proof.Gen.KernelIdeal.Value
public import Idealize.ShloMosaic.Lib.Pipeline.ValueKit
public import Idealize.ShloMosaic.Lib.Pipeline.ReadBack
public import proofs.«01_k».proof.Proof.Rows

@[expose] public section

noncomputable section

namespace Cert.Flash

open Cert.KernelIdeal Cert.KernelIdeal.Gen
open Idealize.ShloMosaic hiding ix2 ix3 eq_ix2
open Idealize.ShloMosaic.ValueIdx Idealize.ShloMosaic.TcCoe Idealize.SL.Sem

/-- The queries of a head of parity `par`: 128 lanes without a position, then the head's half of the rotated lanes. -/
def queryF (par : ℕ) (a b : S1x2048x128.Idx → EReal) : S2048x256.Idx → EReal := fun y =>
  if h : (y 1).val < 128 then a (ix3 0 (y 0) ⟨(y 1).val, h⟩)
  else if ((y 1).val - 128) / 64 = par then
    b (ix3 0 (y 0) ⟨(y 1).val - 128, by have : (y 1).val < 256 := (y 1).isLt; omega⟩)
  else 0

/-- Lane number `n` belongs to head number `h`, as the kernel decides it on words. -/
def own (n h : BitVec 32) : BitVec 1 :=
  Scalar.cmpi .eq
    (Scalar.select
      (Scalar.andi
        (Scalar.cmpi .ne (Scalar.subi (Scalar.extui (Scalar.cmpi .sgt n 0#32)) (Scalar.extui (Scalar.cmpi .slt n 0#32))) 1#32)
        (Scalar.cmpi .ne (Scalar.remsi n 64#32) 0#32))
      (Scalar.subi (Scalar.divsi n 64#32) 1#32) (Scalar.divsi n 64#32))
    (Scalar.select
      (Scalar.andi (Scalar.xori (Scalar.cmpi .slt (Scalar.remsi h 2#32) 0#32) 0#1) (Scalar.cmpi .ne (Scalar.remsi h 2#32) 0#32))
      (Scalar.addi (Scalar.remsi h 2#32) 2#32) (Scalar.remsi h 2#32))

theorem own_eq : ∀ (d : Fin 128) (h : Fin 8),
    own (BitVec.ofNat 32 d.val) (BitVec.ofNat 32 h.val) = if d.val / 64 = h.val % 2 then 1#1 else 0#1 := by
  decide +kernel

theorem lane_apply (r : Fin 2048) (d : Fin 128) :
    iota .tc S2048x128 32 [1] iota_S2048x128_d1_w32 (ix2 r d) = BitVec.ofNat 32 d.val := by
  rw [iota_apply]
  refine congrArg (BitVec.ofNat 32) ?_
  show 0 * 128 + d.val = d.val
  omega

theorem mask_apply (h : Fin 8) (r : Fin 2048) (d : Fin 128) :
    k0_pay1 (BitVec.ofNat 32 h.val) (ix2 r d) = if d.val / 64 = h.val % 2 then 1#1 else 0#1 :=
  (show k0_pay1 (BitVec.ofNat 32 h.val) (ix2 r d)
      = own (iota .tc S2048x128 32 [1] iota_S2048x128_d1_w32 (ix2 r d)) (BitVec.ofNat 32 h.val) from rfl).trans
    ((congrArg (own · _) (lane_apply r d)).trans (own_eq d h))

theorem canon_query (S : S2048x256.Idx → EReal) (L : List (View.Piece (Elt Ideal) S2048x256 .bf16))
    (h : View.PiecesOf (Val := Elt Ideal) (e := .bf16) S L) (hc : ∀ y, ∃ p ∈ L, y ∈ p.1.set) : View.canon L = S :=
  funext fun y => (congrArg (fun K => View.canon K y) (List.append_nil L).symm).trans
    (View.canon_append_of_piecesOf (Val := Elt Ideal) (e := .bf16) S [] L h y (hc y))

/-- The two stores of the query block leave the head's queries. -/
theorem query_stores (h : Fin 8) (a b : Vec Ideal S1x2048x128 .bf16) (i0 i1) :
    View.canon (Val := Elt Ideal) (s := S2048x256) (e := .bf16)
      [⟨Rect.unit (s := S2048x256) ![0, 128] ![2048, 128] i1, k0_pay3 (F := Ideal) (k0_pay1 (BitVec.ofNat 32 h.val)) b⟩,
       ⟨Rect.unit (s := S2048x256) ![0, 0] ![2048, 128] i0, k0_pay2 (F := Ideal) a⟩] = queryF (h.val % 2) a b := by
  refine canon_query _ [_, _] ⟨?_, ?_, trivial⟩
    (View.cover_of_tiledL (s := S2048x256) _ (![2048, 128] : Fin 2 → ℕ) (by sl_kernel_rfl))
  · intro x
    obtain ⟨r, d, rfl⟩ : ∃ (r : Fin 2048) (d : Fin 128), x = ix2 r d := ⟨_, _, eq_ix2 x⟩
    have e1 : (Rect.unit (s := S2048x256) ![0, 128] ![2048, 128] i1).emb (ix2 r d) = ix2 r ⟨128 + d.val, by omega⟩ :=
      funext fun a => match a with
        | ⟨0, _⟩ => Fin.ext (show 0 + 1 * r.val = r.val by omega)
        | ⟨1, _⟩ => Fin.ext (show 128 + 1 * d.val = 128 + d.val by omega)
    refine Eq.trans ?_ (congrArg (queryF (h.val % 2) a b) e1).symm
    have e2 : k0_pay3 (F := Ideal) (k0_pay1 (BitVec.ofNat 32 h.val)) b (ix2 r d)
        = if k0_pay1 (BitVec.ofNat 32 h.val) (ix2 r d) = 1#1 then b (ix3 0 r d) else 0 := by
      simp only [k0_pay3, shapeCast_self]
      rw [select_apply, shapeCast_apply b shapeCasts_S1x2048x128_S2048x128 (ix2 r d) (ix3 0 r d) (by
        rewrite [Shape.rowMajor_val_two, Shape.rowMajor_val_three]
        show (0 * 2048 + r.val) * 128 + d.val = r.val * 128 + d.val
        omega)]
      show (if k0_pay1 (BitVec.ofNat 32 h.val) (ix2 r d) = 1#1 then b (ix3 0 r d) else Ideal.ofBits .bf16 0x0000#16) = _
      rw [show Ideal.ofBits .bf16 0x0000#16 = (0 : EReal) by simp [Ideal.ofBits, Ideal.ieee]]
    refine e2.trans ?_
    rw [mask_apply, queryF, dif_neg (show ¬ 128 + d.val < 128 by omega)]
    have e3 : 128 + d.val - 128 = d.val := by omega
    show _ = if (128 + d.val - 128) / 64 = h.val % 2 then b (ix3 0 r ⟨128 + d.val - 128, _⟩) else 0
    simp only [e3]
    by_cases hp : d.val / 64 = h.val % 2
    · rw [if_pos hp, if_pos rfl, if_pos hp]
    · rw [if_neg hp, if_neg (by decide), if_neg hp]
  · intro x
    obtain ⟨r, d, rfl⟩ : ∃ (r : Fin 2048) (d : Fin 128), x = ix2 r d := ⟨_, _, eq_ix2 x⟩
    have e1 : (Rect.unit (s := S2048x256) ![0, 0] ![2048, 128] i0).emb (ix2 r d) = ix2 r ⟨d.val, by omega⟩ :=
      funext fun a => match a with
        | ⟨0, _⟩ => Fin.ext (show 0 + 1 * r.val = r.val by omega)
        | ⟨1, _⟩ => Fin.ext (show 0 + 1 * d.val = d.val by omega)
    refine Eq.trans ?_ (congrArg (queryF (h.val % 2) a b) e1).symm
    simp only [k0_pay2, shapeCast_self]
    rw [shapeCast_apply a shapeCasts_S1x2048x128_S2048x128 (ix2 r d) (ix3 0 r d) (by
        rewrite [Shape.rowMajor_val_two, Shape.rowMajor_val_three]
        show (0 * 2048 + r.val) * 128 + d.val = r.val * 128 + d.val
        omega), queryF, dif_pos (show d.val < 128 from d.isLt)]

variable (m : (ℓ : Loc nD τ sig) → Buf (Elt Ideal) ℓ) (c : Dev nD) (t : Fin cfg0.N)

theorem A_query (h0 : t.val % 8 = 0) (h1 : t.val % 2 = 0) (h2 : ¬t.val % 2 = 1) (h3 : ¬t.val % 8 = 7) :
    (outsAt0 m c t.val t.isLt).2.1 = queryF ((grid0.coords t 1).val % 2) (iblk m c 0 t) (iblk m c 1 t) := by
  rw [outsAt0_A m c t h0 h1 h2 h3]
  dsimp only
  frame_out
  exact query_stores (grid0.coords t 1) _ _ _ _

end Cert.Flash
-- ==== Proof.Index.lean ====
/-
  The blocks a grid point reads, at the arguments' indices.

  Grid point `t` is batch `t / 256`, head `t / 32 % 8`, query block `t / 8 % 4` and key block `t % 8`. The arguments hold
  one row per token (8192 tokens a batch) and 128 lanes a head (64 rotated lanes a head, two heads to a block).
-/
module

public import proofs.«01_k».proof.Proof.Gen.KernelIdeal.Value
public import Idealize.ShloMosaic.Lib.Pipeline.ValueKit

@[expose] public section

noncomputable section

namespace Cert.Flash

open Cert.KernelIdeal Cert.KernelIdeal.Gen
open Idealize.ShloMosaic Idealize.ShloMosaic.TcCoe Idealize.SL.Sem

theorem index0 : ∀ t : Fin cfg0.N, win0_0.index t = ![t.val / 256, t.val / 8 % 4, t.val / 32 % 8] :=
  (by decide +kernel : ∀ t : Fin grid0.N, _)
theorem index1 : ∀ t : Fin cfg0.N, win0_1.index t = ![t.val / 256, t.val / 8 % 4, t.val / 64 % 4] :=
  (by decide +kernel : ∀ t : Fin grid0.N, _)
theorem index2 : ∀ t : Fin cfg0.N, win0_2.index t = ![t.val / 256, 0, t.val / 32 % 8] :=
  (by decide +kernel : ∀ t : Fin grid0.N, _)
theorem index3 : ∀ t : Fin cfg0.N, win0_3.index t = ![t.val / 256, 0, t.val / 64 % 4] :=
  (by decide +kernel : ∀ t : Fin grid0.N, _)
theorem index4 : ∀ t : Fin cfg0.N, win0_4.index t = ![t.val / 256, min (t.val % 8 + 1) 7, t.val / 32 % 8] :=
  (by decide +kernel : ∀ t : Fin grid0.N, _)
theorem index5 : ∀ t : Fin cfg0.N, win0_5.index t = ![t.val / 256, min (t.val % 8 + 1) 7, t.val / 64 % 4] :=
  (by decide +kernel : ∀ t : Fin grid0.N, _)
theorem index6 : ∀ t : Fin cfg0.N, win0_6.index t = ![t.val / 256, t.val % 8, t.val / 32 % 8] :=
  (by decide +kernel : ∀ t : Fin grid0.N, _)
theorem index7 : ∀ t : Fin cfg0.N, win0_7.index t = ![t.val / 256, t.val / 8 % 4, t.val / 32 % 8] :=
  (by decide +kernel : ∀ t : Fin grid0.N, _)
theorem head_coord : ∀ t : Fin cfg0.N, (grid0.coords t 1).val = t.val / 32 % 8 :=
  (by decide +kernel : ∀ t : Fin grid0.N, _)

variable (m : (ℓ : Loc nD τ sig) → Buf (Elt Ideal) ℓ) (c : Dev nD) (t : Fin cfg0.N)

theorem block0 (z : Fin 1) (r : Fin 2048) (d : Fin 128) (i : Fin 32768) (j : Fin 1024)
    (hi : i.val = t.val / 256 * 8192 + t.val / 8 % 4 * 2048 + r.val) (hj : j.val = t.val / 32 % 8 * 128 + d.val) :
    iblk m c 0 t (ix3 z r d) = m ((c : Thread nD τ).loc main_arg0) (ix2 i j) := by
  blk_ext! [iblk, index0 t]

theorem block1 (z : Fin 1) (r : Fin 2048) (d : Fin 128) (i : Fin 32768) (j : Fin 512)
    (hi : i.val = t.val / 256 * 8192 + t.val / 8 % 4 * 2048 + r.val) (hj : j.val = t.val / 64 % 4 * 128 + d.val) :
    iblk m c 1 t (ix3 z r d) = m ((c : Thread nD τ).loc main_arg1) (ix2 i j) := by
  blk_ext! [iblk, index1 t]

theorem block2 (z : Fin 1) (r : Fin 1024) (d : Fin 128) (i : Fin 32768) (j : Fin 1024)
    (hi : i.val = t.val / 256 * 8192 + r.val) (hj : j.val = t.val / 32 % 8 * 128 + d.val) :
    iblk m c 2 t (ix3 z r d) = m ((c : Thread nD τ).loc main_arg2) (ix2 i j) := by
  blk_ext! [iblk, index2 t]

theorem block3 (z : Fin 1) (r : Fin 1024) (d : Fin 128) (i : Fin 32768) (j : Fin 512)
    (hi : i.val = t.val / 256 * 8192 + r.val) (hj : j.val = t.val / 64 % 4 * 128 + d.val) :
    iblk m c 3 t (ix3 z r d) = m ((c : Thread nD τ).loc main_arg3) (ix2 i j) := by
  blk_ext! [iblk, index3 t]

theorem block4 (z : Fin 1) (r : Fin 1024) (d : Fin 128) (i : Fin 32768) (j : Fin 1024)
    (hi : i.val = t.val / 256 * 8192 + min (t.val % 8 + 1) 7 * 1024 + r.val) (hj : j.val = t.val / 32 % 8 * 128 + d.val) :
    iblk m c 4 t (ix3 z r d) = m ((c : Thread nD τ).loc main_arg2) (ix2 i j) := by
  blk_ext! [iblk, index4 t]

theorem block5 (z : Fin 1) (r : Fin 1024) (d : Fin 128) (i : Fin 32768) (j : Fin 512)
    (hi : i.val = t.val / 256 * 8192 + min (t.val % 8 + 1) 7 * 1024 + r.val) (hj : j.val = t.val / 64 % 4 * 128 + d.val) :
    iblk m c 5 t (ix3 z r d) = m ((c : Thread nD τ).loc main_arg3) (ix2 i j) := by
  blk_ext! [iblk, index5 t]

theorem block6 (z : Fin 1) (r : Fin 1024) (d : Fin 128) (i : Fin 32768) (j : Fin 1024)
    (hi : i.val = t.val / 256 * 8192 + t.val % 8 * 1024 + r.val) (hj : j.val = t.val / 32 % 8 * 128 + d.val) :
    iblk m c 6 t (ix3 z r d) = m ((c : Thread nD τ).loc main_arg4) (ix2 i j) := by
  blk_ext! [iblk, index6 t]

end Cert.Flash
-- ==== Proof.Fold.lean ====
/-
  A run of eight key blocks.

  Run `u` is batch `u / 32`, head `u / 4 % 8`, query block `u % 4`. This module names the run's queries, key blocks and
  value blocks as functions of the arguments, and shows by induction over the key blocks what the scratches hold.
-/
module

public import proofs.«01_k».proof.Proof.StepA
public import proofs.«01_k».proof.Proof.StepB
public import proofs.«01_k».proof.Proof.StepC
public import proofs.«01_k».proof.Proof.StepD
public import proofs.«01_k».proof.Proof.Query
public import proofs.«01_k».proof.Proof.Index

@[expose] public section

noncomputable section

namespace Cert.Flash

open Cert.KernelIdeal Cert.KernelIdeal.Gen
open Idealize.ShloMosaic hiding ix2 ix3 eq_ix2 eq_ix3
open Idealize.ShloMosaic.ValueIdx Idealize.ShloMosaic.TcCoe Idealize.SL.Sem

/-- An entry of a 32768-row array at natural row and column numbers. -/
def rd {n : ℕ} [NeZero n] (a : (⟨2, ![32768, n]⟩ : Shape).Idx → EReal) (i j : ℕ) : EReal :=
  a (ix2 (Fin.ofNat 32768 i) (Fin.ofNat n j))

/-- The queries of run `u`. -/
def Qb (a0 : S32768x1024.Idx → EReal) (a1 : S32768x512.Idx → EReal) (u : ℕ) : S2048x256.Idx → EReal := fun y =>
  if (y 1).val < 128 then rd (n := 1024) a0 (u / 32 * 8192 + u % 4 * 2048 + (y 0).val) (u / 4 % 8 * 128 + (y 1).val)
  else if ((y 1).val - 128) / 64 = u / 4 % 8 % 2 then
    rd (n := 512) a1 (u / 32 * 8192 + u % 4 * 2048 + (y 0).val) (u / 8 % 4 * 128 + ((y 1).val - 128))
  else 0

/-- Key block `k` of run `u`. -/
def Kb (a2 : S32768x1024.Idx → EReal) (a3 : S32768x512.Idx → EReal) (u k : ℕ) : S1024x256.Idx → EReal := fun y =>
  if (y 1).val < 128 then rd (n := 1024) a2 (u / 32 * 8192 + k * 1024 + (y 0).val) (u / 4 % 8 * 128 + (y 1).val)
  else rd (n := 512) a3 (u / 32 * 8192 + k * 1024 + (y 0).val) (u / 8 % 4 * 128 + ((y 1).val - 128))

/-- Value block `k` of run `u`, beside ones. -/
def Vb (a4 : S32768x1024.Idx → EReal) (u k : ℕ) : S1024x256.Idx → EReal := fun y =>
  if (y 1).val < 128 then rd (n := 1024) a4 (u / 32 * 8192 + k * 1024 + (y 0).val) (u / 4 % 8 * 128 + (y 1).val) else 1

theorem keyB_apply (a b : Vec Ideal S1x1024x128 .bf16) (r : Fin 1024) (d : Fin 256) :
    keyB a b (ix2 r d) = if h : d.val < 128 then a (ix3 0 r ⟨d.val, h⟩) else b (ix3 0 r ⟨d.val - 128, by omega⟩) := by
  unfold keyB k0_pay6
  pointwise
  rfl

theorem valB_apply (a : Vec Ideal S1x1024x128 .bf16) (r : Fin 1024) (d : Fin 256) :
    valB a (ix2 r d) = if h : d.val < 128 then a (ix3 0 r ⟨d.val, h⟩) else 1 := by
  unfold valB k0_pay16
  pointwise
  rfl

variable (m : (ℓ : Loc nD τ sig) → Buf (Elt Ideal) ℓ) (c : Dev nD)

/-- The arguments on device `c`. -/
abbrev a0 : S32768x1024.Idx → EReal := m ((c : Thread nD τ).loc main_arg0)
abbrev a1 : S32768x512.Idx → EReal := m ((c : Thread nD τ).loc main_arg1)
abbrev a2 : S32768x1024.Idx → EReal := m ((c : Thread nD τ).loc main_arg2)
abbrev a3 : S32768x512.Idx → EReal := m ((c : Thread nD τ).loc main_arg3)
abbrev a4 : S32768x1024.Idx → EReal := m ((c : Thread nD τ).loc main_arg4)

theorem lt_N (t : Fin cfg0.N) : t.val < 1024 := lt_of_lt_of_eq t.isLt N_0

theorem query_run (t : Fin cfg0.N) :
    queryF ((grid0.coords t 1).val % 2) (iblk m c 0 t) (iblk m c 1 t) = Qb (a0 m c) (a1 m c) (t.val / 8) := by
  funext y
  have ht := lt_N t
  have hr : (y 0).val < 2048 := (y 0).isLt
  have hd : (y 1).val < 256 := (y 1).isLt
  unfold queryF Qb rd
  rw [head_coord, show t.val / 8 / 4 % 8 = t.val / 32 % 8 by omega]
  split
  · exact block0 m c t _ _ _ _ _ (by rw [Fin.val_ofNat]; omega) (by rw [Fin.val_ofNat]; show _ = _ + (y 1).val; omega)
  · split
    · exact block1 m c t _ _ _ _ _ (by rw [Fin.val_ofNat]; omega) (by rw [Fin.val_ofNat]; show _ = _ + ((y 1).val - 128); omega)
    · rfl

theorem key_first (t : Fin cfg0.N) :
    keyB (iblk m c 2 t) (iblk m c 3 t) = Kb (a2 m c) (a3 m c) (t.val / 8) 0 := by
  funext y
  have ht := lt_N t
  have hr : (y 0).val < 1024 := (y 0).isLt
  have hd : (y 1).val < 256 := (y 1).isLt
  refine (congrArg _ (eq_ix2 y)).trans ((keyB_apply _ _ _ _).trans ?_)
  unfold Kb rd
  split
  · exact block2 m c t _ _ _ _ _ (by rw [Fin.val_ofNat]; omega) (by rw [Fin.val_ofNat]; show _ = _ + (y 1).val; omega)
  · exact block3 m c t _ _ _ _ _ (by rw [Fin.val_ofNat]; omega) (by rw [Fin.val_ofNat]; show _ = _ + ((y 1).val - 128); omega)

theorem key_next (t : Fin cfg0.N) :
    keyB (iblk m c 4 t) (iblk m c 5 t) = Kb (a2 m c) (a3 m c) (t.val / 8) (min (t.val % 8 + 1) 7) := by
  funext y
  have ht := lt_N t
  have hr : (y 0).val < 1024 := (y 0).isLt
  have hd : (y 1).val < 256 := (y 1).isLt
  refine (congrArg _ (eq_ix2 y)).trans ((keyB_apply _ _ _ _).trans ?_)
  unfold Kb rd
  split
  · exact block4 m c t _ _ _ _ _ (by rw [Fin.val_ofNat]; omega) (by rw [Fin.val_ofNat]; show _ = _ + (y 1).val; omega)
  · exact block5 m c t _ _ _ _ _ (by rw [Fin.val_ofNat]; omega) (by rw [Fin.val_ofNat]; show _ = _ + ((y 1).val - 128); omega)

theorem value_run (t : Fin cfg0.N) :
    valB (iblk m c 6 t) = Vb (a4 m c) (t.val / 8) (t.val % 8) := by
  funext y
  have ht := lt_N t
  have hr : (y 0).val < 1024 := (y 0).isLt
  have hd : (y 1).val < 256 := (y 1).isLt
  refine (congrArg _ (eq_ix2 y)).trans ((valB_apply _ _ _).trans ?_)
  unfold Vb rd
  split
  · exact block6 m c t _ _ _ _ _ (by rw [Fin.val_ofNat]; omega) (by rw [Fin.val_ofNat]; show _ = _ + (y 1).val; omega)
  · rfl

/-- The scores of run `u` against its key block `k`. -/
def Sk (u k : ℕ) : S2048x1024.Idx → EReal := scoreF (Qb (a0 m c) (a1 m c) u) (Kb (a2 m c) (a3 m c) u k)

/-- The running maximum after key block `k`. -/
def Mk (u : ℕ) : ℕ → S2048x1.Idx → EReal
  | 0 => maxF (Sk m c u 0) (k0_pay4 (F := Ideal))
  | k + 1 => maxF (Sk m c u (k + 1)) (Mk u k)

/-- The accumulator after key block `k`. -/
def Ak (u : ℕ) : ℕ → S2048x256.Idx → EReal
  | 0 => accF (Vb (a4 m c) u 0) (Sk m c u 0) (k0_pay4 (F := Ideal)) (k0_pay5 (F := Ideal))
  | k + 1 => accF (Vb (a4 m c) u (k + 1)) (Sk m c u (k + 1)) (Mk m c u k) (Ak u k)

/-- What the scratches hold after key block `k` of run `u`. -/
structure Held (u k : ℕ) (o : Vec Ideal S1x2048x128 .bf16 × Vec Ideal S2048x256 .bf16 × Vec Ideal S2048x1024 .f32 ×
    Vec Ideal S2048x1024 .f32 × Vec Ideal S2048x1 .f32 × Vec Ideal S2048x256 .f32) : Prop where
  query : o.2.1 = Qb (a0 m c) (a1 m c) u
  odd : k % 2 = 1 → o.2.2.1 = Sk m c u (min (k + 1) 7)
  even : k % 2 = 0 → o.2.2.2.1 = Sk m c u (min (k + 1) 7)
  max : o.2.2.2.2.1 = Mk m c u k
  acc : o.2.2.2.2.2 = Ak m c u k

theorem held (u k : ℕ) (hk : k < 8) (h : 8 * u + k < cfg0.N) : Held m c u k (outsAt0 m c (8 * u + k) h) := by
  induction k with
  | zero =>
    have h0 : (8 * u + 0) % 8 = 0 := by omega
    have h1 : (8 * u + 0) % 2 = 0 := by omega
    have h2 : ¬(8 * u + 0) % 2 = 1 := by omega
    have h3 : ¬(8 * u + 0) % 8 = 7 := by omega
    have hu : (8 * u + 0) / 8 = u := by omega
    have eq : (outsAt0 m c (8 * u + 0) h).2.1 = Qb (a0 m c) (a1 m c) u :=
      (A_query m c ⟨8 * u + 0, h⟩ h0 h1 h2 h3).trans ((query_run m c ⟨8 * u + 0, h⟩).trans (by rw [hu]))
    have ek : keyB (iblk m c 2 ⟨8 * u + 0, h⟩) (iblk m c 3 ⟨8 * u + 0, h⟩) = Kb (a2 m c) (a3 m c) u 0 :=
      (key_first m c ⟨8 * u + 0, h⟩).trans (by rw [hu])
    have en : keyB (iblk m c 4 ⟨8 * u + 0, h⟩) (iblk m c 5 ⟨8 * u + 0, h⟩) = Kb (a2 m c) (a3 m c) u (min (0 + 1) 7) :=
      (key_next m c ⟨8 * u + 0, h⟩).trans (by rw [hu, h0])
    have ev : valB (iblk m c 6 ⟨8 * u + 0, h⟩) = Vb (a4 m c) u 0 :=
      (value_run m c ⟨8 * u + 0, h⟩).trans (by rw [hu, h0])
    refine ⟨eq, fun h => absurd h (by omega), fun _ => ?_, ?_, ?_⟩
    · exact (A_next m c ⟨8 * u + 0, h⟩ h0 h1 h2 h3).trans (by rw [eq, en]; rfl)
    · exact (A_max m c ⟨8 * u + 0, h⟩ h0 h1 h2 h3).trans (by rw [eq, ek]; rfl)
    · exact (A_acc m c ⟨8 * u + 0, h⟩ h0 h1 h2 h3).trans (by rw [eq, ek, ev]; rfl)
  | succ k ih =>
    have hn : 8 * u + k < cfg0.N := lt_trans (by omega) h
    obtain ⟨iq, io, ie, im, ia⟩ := ih (by omega) hn
    have hu : (8 * u + (k + 1)) / 8 = u := by omega
    have hr : (8 * u + (k + 1)) % 8 = k + 1 := by omega
    have h0 : ¬(8 * u + (k + 1)) % 8 = 0 := by omega
    have en : keyB (iblk m c 4 ⟨8 * u + (k + 1), h⟩) (iblk m c 5 ⟨8 * u + (k + 1), h⟩)
        = Kb (a2 m c) (a3 m c) u (min (k + 1 + 1) 7) := (key_next m c ⟨8 * u + (k + 1), h⟩).trans (by rw [hu, hr])
    have ev : valB (iblk m c 6 ⟨8 * u + (k + 1), h⟩) = Vb (a4 m c) u (k + 1) :=
      (value_run m c ⟨8 * u + (k + 1), h⟩).trans (by rw [hu, hr])
    have hm : min (k + 1) 7 = k + 1 := by omega
    rw [hm] at io ie
    by_cases hp : k % 2 = 0
    · have h1 : ¬(8 * u + (k + 1)) % 2 = 0 := by omega
      have h2 : (8 * u + (k + 1)) % 2 = 1 := by omega
      have is := ie hp
      by_cases h3 : (8 * u + (k + 1)) % 8 = 7
      · refine ⟨(D_query m c ⟨8 * u + (k + 1), h⟩ hn h0 h1 h2 h3).trans iq, fun _ => ?_, fun h => absurd h (by omega), ?_, ?_⟩
        · exact (D_next m c ⟨8 * u + (k + 1), h⟩ hn h0 h1 h2 h3).trans (by rw [en]; exact congrArg (scoreF · _) iq)
        · exact (D_max m c ⟨8 * u + (k + 1), h⟩ hn h0 h1 h2 h3).trans (congrArg₂ maxF is im)
        · refine (D_acc m c ⟨8 * u + (k + 1), h⟩ hn h0 h1 h2 h3).trans ?_
          rw [ev]
          exact (congrArg₂ (accF _ · · _) is im).trans (congrArg _ ia)
      · refine ⟨(B_query m c ⟨8 * u + (k + 1), h⟩ hn h0 h1 h2 h3).trans iq, fun _ => ?_, fun h => absurd h (by omega), ?_, ?_⟩
        · exact (B_next m c ⟨8 * u + (k + 1), h⟩ hn h0 h1 h2 h3).trans (by rw [en]; exact congrArg (scoreF · _) iq)
        · exact (B_max m c ⟨8 * u + (k + 1), h⟩ hn h0 h1 h2 h3).trans (congrArg₂ maxF is im)
        · refine (B_acc m c ⟨8 * u + (k + 1), h⟩ hn h0 h1 h2 h3).trans ?_
          rw [ev]
          exact (congrArg₂ (accF _ · · _) is im).trans (congrArg _ ia)
    · have h1 : (8 * u + (k + 1)) % 2 = 0 := by omega
      have h2 : ¬(8 * u + (k + 1)) % 2 = 1 := by omega
      have h3 : ¬(8 * u + (k + 1)) % 8 = 7 := by omega
      have is := io (by omega)
      refine ⟨(C_query m c ⟨8 * u + (k + 1), h⟩ hn h0 h1 h2 h3).trans iq, fun h => absurd h (by omega), fun _ => ?_, ?_, ?_⟩
      · exact (C_next m c ⟨8 * u + (k + 1), h⟩ hn h0 h1 h2 h3).trans (by rw [en]; exact congrArg (scoreF · _) iq)
      · exact (C_max m c ⟨8 * u + (k + 1), h⟩ hn h0 h1 h2 h3).trans (congrArg₂ maxF is im)
      · refine (C_acc m c ⟨8 * u + (k + 1), h⟩ hn h0 h1 h2 h3).trans ?_
        rw [ev]
        exact (congrArg₂ (accF _ · · _) is im).trans (congrArg _ ia)

end Cert.Flash
-- ==== Proof.Out.lean ====
/-
  The kernel's result array, entry by entry.
-/
module

public import proofs.«01_k».proof.Proof.Fold

@[expose] public section

noncomputable section

namespace Cert.Flash

open Cert.KernelIdeal Cert.KernelIdeal.Gen
open Idealize.ShloMosaic hiding ix2 ix3 eq_ix2 eq_ix3
open Idealize.ShloMosaic.ValueIdx Idealize.ShloMosaic.TcCoe Idealize.SL.Sem

variable (m : (ℓ : Loc nD τ sig) → Buf (Elt Ideal) ℓ) (c : Dev nD)

/-- The run that makes entry `(b, n, j)` of the result. -/
def runOf (b n j : ℕ) : ℕ := b * 32 + j / 128 * 4 + n / 2048

/-- The result: batch, token, head lane. -/
def outA : S4x8192x1024.Idx → EReal := fun i =>
  Ideal.div (Ak m c (runOf (i 0).val (i 1).val (i 2).val) 7 (ix2 (Fin.ofNat 2048 ((i 1).val % 2048)) (Fin.ofNat 256 ((i 2).val % 128))))
    (Ak m c (runOf (i 0).val (i 1).val (i 2).val) 7 (ix2 (Fin.ofNat 2048 ((i 1).val % 2048)) (Fin.ofNat 256 (128 + (i 2).val % 128))))

theorem out_arr : (dats m 0 c).arrAt 7 cfg0.N = outA m c := by
  refine (dats m 0 c).arrAt_eq_of_covers 7 _ (by decide +kernel) fun t hf y => ?_
  have hf' : t.val % 8 = 7 := (flush0_7 t).mp hf
  have ht := lt_N t
  blk_simp
  rw [after0_7]
  have e : (outsAt0 m c t.val t.isLt).1 = outF (Ak m c (t.val / 8) 7) := by
    refine (D_out m c t (by omega) (by omega) (by omega) hf').trans (congrArg outF ?_)
    have ht' : 8 * (t.val / 8) + 7 = t.val := by omega
    have := (held m c (t.val / 8) 7 (by omega) (by rw [ht']; exact t.isLt)).acc
    simp only [ht'] at this
    exact this
  rw [e]
  have hy0 : (y 0).val < 1 := (y 0).isLt
  have hy1 : (y 1).val < 2048 := (y 1).isLt
  have hy2 : (y 2).val < 128 := (y 2).isLt
  have i0 : ((win0_7.blk t).view.emb y 0).val = t.val / 256 := by blk_simp [index7 t]
  have i1 : ((win0_7.blk t).view.emb y 1).val = t.val / 8 % 4 * 2048 + (y 1).val := by blk_simp [index7 t]
  have i2 : ((win0_7.blk t).view.emb y 2).val = t.val / 32 % 8 * 128 + (y 2).val := by blk_simp [index7 t]
  unfold outF outA
  rw [i0, i1, i2, show runOf (t.val / 256) (t.val / 8 % 4 * 2048 + (y 1).val) (t.val / 32 % 8 * 128 + (y 2).val) = t.val / 8 by
    unfold runOf; omega]
  refine congrArg₂ Ideal.div (congrArg (Ak m c (t.val / 8) 7) ?_) (congrArg (Ak m c (t.val / 8) 7) ?_)
  · refine congrArg₂ ix2 (Fin.ext ?_) (Fin.ext ?_)
    · rw [Fin.val_ofNat]; omega
    · rw [Fin.val_ofNat]; show (y 2).val = _; omega
  · refine congrArg₂ ix2 (Fin.ext ?_) (Fin.ext ?_)
    · rw [Fin.val_ofNat]; omega
    · rw [Fin.val_ofNat]; show 128 + (y 2).val = _; omega

end Cert.Flash
-- ==== Proof.Online.lean ====
/-
  Online softmax over the extended reals.

  Scores are real numbers, values any extended reals. A running maximum and a running weighted sum are rescaled block by
  block; the quotient of the weighted sum by the sum of the weights does not depend on the maximum the weights were taken
  from, so it is the softmax average.
-/
module

public import Idealize.ShloMosaic.PureOps.Ideal.Laws

@[expose] public section

noncomputable section

namespace Cert.Flash

open Idealize.ShloMosaic
open scoped BigOperators

/-- The weight of a score from a maximum. -/
def wt (s μ : ℝ) : ℝ := Real.rpow 2 (s - μ)

theorem wt_pos (s μ : ℝ) : 0 < wt s μ := Real.rpow_pos_of_pos (by norm_num) _

theorem wt_mul (s μ ν : ℝ) : wt μ ν * wt s μ = wt s ν := by
  unfold wt
  refine (Real.rpow_add (by norm_num : (0 : ℝ) < 2) _ _).symm.trans ?_
  exact congrArg (Real.rpow 2) (by ring)

theorem exp2_sub (s μ : ℝ) : Ideal.exp2 ((s : EReal) - (μ : EReal)) = ((wt s μ : ℝ) : EReal) := by
  rw [← EReal.coe_sub, Ideal.exp2_coe]
  rfl

/-- A nonnegative real factor goes under a sum of extended reals. -/
theorem mul_sum_coe {ι : Type} (s : Finset ι) {x : ℝ} (hx : 0 ≤ x) (f : ι → EReal) :
    (x : EReal) * ∑ i ∈ s, f i = ∑ i ∈ s, (x : EReal) * f i := by
  classical
  refine Finset.induction_on s (by simp) fun a s ha ih => ?_
  rw [Finset.sum_insert ha, Finset.sum_insert ha,
    EReal.left_distrib_of_nonneg_of_ne_top (by exact_mod_cast hx) (EReal.coe_ne_top x), ih]

theorem sum_coe {ι : Type} (s : Finset ι) (f : ι → ℝ) : ∑ i ∈ s, (f i : EReal) = ((∑ i ∈ s, f i : ℝ) : EReal) := by
  classical
  refine Finset.induction_on s (by simp) fun a s ha ih => ?_
  rw [Finset.sum_insert ha, Finset.sum_insert ha, ih, EReal.coe_add]

/-- The maximum of finitely many reals, from minus infinity, over at least one of them is a real. -/
theorem fold_max_coe {ι : Type} (s : Finset ι) (hs : s.Nonempty) (f : ι → ℝ) :
    ∃ μ : ℝ, s.fold max ⊥ (fun i => (f i : EReal)) = (μ : EReal) := by
  classical
  induction hs using Finset.Nonempty.cons_induction with
  | singleton a => exact ⟨f a, by simp⟩
  | cons a s ha hs ih =>
    obtain ⟨μ, hμ⟩ := ih
    refine ⟨max (f a) μ, ?_⟩
    rw [Finset.fold_cons, hμ]
    exact (EReal.coe_strictMono.monotone.map_max (a := f a) (b := μ)).symm

/-- The weighted sum of a set of keys from a maximum. -/
def wsum {ι : Type} (s : Finset ι) (S : ι → ℝ) (V : ι → EReal) (μ : ℝ) : EReal :=
  ∑ i ∈ s, ((wt (S i) μ : ℝ) : EReal) * V i

/-- Rescaling a weighted sum moves it to another maximum. -/
theorem wsum_rescale {ι : Type} (s : Finset ι) (S : ι → ℝ) (V : ι → EReal) (μ ν : ℝ) :
    ((wt μ ν : ℝ) : EReal) * wsum s S V μ = wsum s S V ν := by
  unfold wsum
  rw [mul_sum_coe s (wt_pos μ ν).le]
  refine Finset.sum_congr rfl fun i _ => ?_
  rw [← mul_assoc, ← EReal.coe_mul, wt_mul]

/-- The quotient of the weighted sum by the sum of the weights is the average by normalised weights, whatever two maxima
    the two sides take. -/
theorem wsum_div {ι : Type} (s : Finset ι) (hs : s.Nonempty) (S : ι → ℝ) (V : ι → EReal) (μ ν : ℝ) :
    Ideal.div (wsum s S V μ) (wsum s S (fun _ => 1) μ)
      = ∑ i ∈ s, Ideal.div ((wt (S i) ν : ℝ) : EReal) (∑ j ∈ s, ((wt (S j) ν : ℝ) : EReal)) * V i := by
  have hpos : ∀ κ : ℝ, 0 < ∑ j ∈ s, wt (S j) κ := fun κ => Finset.sum_pos (fun j _ => wt_pos _ _) hs
  have e1 : ∀ κ : ℝ, wsum s S (fun _ => 1) κ = ((∑ j ∈ s, wt (S j) κ : ℝ) : EReal) := fun κ => by
    simp only [wsum, mul_one, sum_coe]
  rw [e1, Ideal.div_coe (hpos μ).ne', sum_coe, mul_comm, wsum, mul_sum_coe s (by have := hpos μ; positivity)]
  refine Finset.sum_congr rfl fun i _ => ?_
  rw [Ideal.div_coe (hpos ν).ne', ← mul_assoc, ← EReal.coe_mul, ← EReal.coe_mul]
  refine congrArg (fun x : ℝ => (x : EReal) * V i) ?_
  have e2 : ∑ j ∈ s, wt (S j) ν = wt μ ν * ∑ j ∈ s, wt (S j) μ := by
    rw [Finset.mul_sum]
    exact Finset.sum_congr rfl fun j _ => (wt_mul _ _ _).symm
  have h1 := (wt_pos μ ν).ne'
  have h2 := (hpos μ).ne'
  rw [e2, ← wt_mul (S i) μ ν]
  field_simp

/-- One row of the online recursion. The running maxima `M` start from a real number and take in the maxima of the blocks'
    scores; the accumulators `A` start from zero and are rescaled at every block. After block `k` the maximum is a real
    number and the accumulator the weighted sum of all keys so far. -/
theorem row_fold {D : Type} (S : ℕ → Fin 1024 → ℝ) (V : ℕ → Fin 1024 → D → EReal) (M : ℕ → EReal) (A : ℕ → D → EReal) (m₀ : ℝ)
    (hM₀ : M 0 = max (m₀ : EReal) (Finset.univ.fold max ⊥ fun c => (S 0 c : EReal)))
    (hM : ∀ k, M (k + 1) = max (M k) (Finset.univ.fold max ⊥ fun c => (S (k + 1) c : EReal)))
    (hA₀ : ∀ d, A 0 d = Ideal.exp2 ((m₀ : EReal) - M 0) * 0 + ∑ c, Ideal.exp2 ((S 0 c : EReal) - M 0) * V 0 c d)
    (hA : ∀ k d, A (k + 1) d = Ideal.exp2 (M k - M (k + 1)) * A k d
      + ∑ c, Ideal.exp2 ((S (k + 1) c : EReal) - M (k + 1)) * V (k + 1) c d) (k : ℕ) :
    ∃ μ : ℝ, M k = (μ : EReal) ∧
      ∀ d, A k d = wsum (Finset.range (k + 1) ×ˢ (Finset.univ : Finset (Fin 1024))) (fun i => S i.1 i.2) (fun i => V i.1 i.2 d) μ := by
  have hf : ∀ k, ∃ ν : ℝ, Finset.univ.fold max ⊥ (fun c => (S k c : EReal)) = (ν : EReal) := fun k =>
    fold_max_coe Finset.univ ⟨0, Finset.mem_univ _⟩ (S k)
  induction k with
  | zero =>
    obtain ⟨ν, hν⟩ := hf 0
    have e : M 0 = ((max m₀ ν : ℝ) : EReal) := by
      rw [hM₀, hν]; exact (EReal.coe_strictMono.monotone.map_max (a := m₀) (b := ν)).symm
    refine ⟨_, e, fun d => ?_⟩
    rw [hA₀, e, mul_zero, zero_add, wsum, Finset.sum_product, Finset.sum_range_one]
    exact Finset.sum_congr rfl fun c _ => by rw [exp2_sub]
  | succ k ih =>
    obtain ⟨μ, hμ, ih⟩ := ih
    obtain ⟨ν, hν⟩ := hf (k + 1)
    have e : M (k + 1) = ((max μ ν : ℝ) : EReal) := by
      rw [hM, hμ, hν]; exact (EReal.coe_strictMono.monotone.map_max (a := μ) (b := ν)).symm
    refine ⟨_, e, fun d => ?_⟩
    rw [hA, e, hμ, ih, exp2_sub, wsum_rescale, wsum, wsum, Finset.sum_product, Finset.sum_product,
      Finset.sum_range_succ _ (k + 1)]
    exact congrArg _ (Finset.sum_congr rfl fun c _ => by rw [exp2_sub])

/-- The keys of eight blocks of 1024 are 8192 keys. -/
theorem sum_blocks (f : ℕ → Fin 1024 → EReal) :
    ∑ i ∈ Finset.range 8 ×ˢ (Finset.univ : Finset (Fin 1024)), f i.1 i.2
      = ∑ n : Fin 8192, f (n.val / 1024) ⟨n.val % 1024, Nat.mod_lt _ (by norm_num)⟩ := by
  rw [Finset.sum_product, Finset.sum_range, ← Fintype.sum_prod_type' (f := fun (a : Fin 8) c => f a.val c)]
  refine Fintype.sum_equiv (finProdFinEquiv (m := 8) (n := 1024)) _ _ fun x => ?_
  obtain ⟨a, c⟩ := x
  have e1 : (c.val + 1024 * a.val) / 1024 = a.val := by omega
  have e2 : (c.val + 1024 * a.val) % 1024 = c.val := by omega
  show f a.val c = f ((c.val + 1024 * a.val) / 1024) ⟨(c.val + 1024 * a.val) % 1024, _⟩
  simp only [e1, e2]

end Cert.Flash
-- ==== Proof.Score.lean ====
/-
  A score as the product of a query's and a key's head.

  A score is the sum over a head's 128 lanes without a position and its 64 rotated lanes. The kernel keeps two heads'
  rotated lanes side by side and clears the other head's in the query; over the extended reals zero times anything is
  zero, so the sum over all 256 lanes of the kernel's product is the score.
-/
module

public import proofs.«01_k».proof.Proof.Fold
public import proofs.«01_k».proof.Proof.Online

@[expose] public section

noncomputable section

namespace Cert.Flash

open Cert.KernelIdeal Cert.KernelIdeal.Gen
open Idealize.ShloMosaic hiding ix2 ix3 eq_ix2 eq_ix3
open Idealize.ShloMosaic.ValueIdx Idealize.ShloMosaic.TcCoe Idealize.SL.Sem
open scoped BigOperators

variable (x0 : S32768x1024.Idx → EReal) (x1 : S32768x512.Idx → EReal) (x2 : S32768x1024.Idx → EReal) (x3 : S32768x512.Idx → EReal)

/-- The score of query token `n` against key token `k` in batch `b` and head `h`. -/
def score (b h n k : ℕ) : EReal :=
  ∑ d : Fin 128, rd (n := 1024) x0 (b * 8192 + n) (h * 128 + d.val) * rd (n := 1024) x2 (b * 8192 + k) (h * 128 + d.val)
    + ∑ d : Fin 64, rd (n := 512) x1 (b * 8192 + n) (h * 64 + d.val) * rd (n := 512) x3 (b * 8192 + k) (h * 64 + d.val)

/-- The product over two heads' rotated lanes, one of which is cleared, is the product over the other's. -/
theorem rope_sum (h i j : ℕ) :
    ∑ d : Fin 128, (if d.val / 64 = h % 2 then rd (n := 512) x1 i (h / 2 * 128 + d.val) else 0) * rd (n := 512) x3 j (h / 2 * 128 + d.val)
      = ∑ d : Fin 64, rd (n := 512) x1 i (h * 64 + d.val) * rd (n := 512) x3 j (h * 64 + d.val) := by
  refine (Fin.sum_univ_add (a := 64) (b := 64) _).trans ?_
  have hlo : ∀ d : Fin 64, (Fin.castAdd 64 d).val = d.val := fun d => rfl
  have hhi : ∀ d : Fin 64, (Fin.natAdd 64 d).val = 64 + d.val := fun d => rfl
  simp only [hlo, hhi]
  rcases Nat.mod_two_eq_zero_or_one h with e | e
  · refine (congrArg₂ (· + ·) ?_ (Finset.sum_eq_zero fun d _ => ?_)).trans (add_zero _)
    · refine Finset.sum_congr rfl fun d _ => ?_
      have := d.isLt
      rw [if_pos (by omega), show h / 2 * 128 + d.val = h * 64 + d.val by omega]
    · have := d.isLt
      rw [if_neg (by omega), zero_mul]
  · refine (congrArg₂ (· + ·) (Finset.sum_eq_zero fun d _ => ?_) ?_).trans (zero_add _)
    · have := d.isLt
      rw [if_neg (by omega), zero_mul]
    · refine Finset.sum_congr rfl fun d _ => ?_
      have := d.isLt
      rw [if_pos (by omega), show h / 2 * 128 + (64 + d.val) = h * 64 + d.val by omega]

/-- The kernel's product of a query row and a key row over 256 lanes is their score. -/
theorem lanes_sum (u k : ℕ) (r : Fin 2048) (j : Fin 1024) :
    ∑ d : Fin 256, Qb x0 x1 u (ix2 r d) * Kb x2 x3 u k (ix2 j d)
      = score x0 x1 x2 x3 (u / 32) (u / 4 % 8) (u % 4 * 2048 + r.val) (k * 1024 + j.val) := by
  refine (Fin.sum_univ_add (a := 128) (b := 128) _).trans ?_
  unfold score
  rw [← rope_sum]
  refine congrArg₂ (· + ·) (Finset.sum_congr rfl fun d _ => ?_) (Finset.sum_congr rfl fun d _ => ?_)
  · have hd : ((ix2 r (Fin.castAdd 128 d) : S2048x256.Idx) 1).val < 128 := d.isLt
    have hd' : ((ix2 j (Fin.castAdd 128 d) : S1024x256.Idx) 1).val < 128 := d.isLt
    unfold Qb Kb
    rw [if_pos hd, if_pos hd', ← add_assoc, ← add_assoc]
    rfl
  · have hd : ¬((ix2 r (Fin.natAdd 128 d) : S2048x256.Idx) 1).val < 128 := by show ¬128 + d.val < 128; omega
    have hd' : ¬((ix2 j (Fin.natAdd 128 d) : S1024x256.Idx) 1).val < 128 := by show ¬128 + d.val < 128; omega
    have e : ((ix2 r (Fin.natAdd 128 d) : S2048x256.Idx) 1).val - 128 = d.val := by show 128 + d.val - 128 = _; omega
    unfold Qb Kb
    rw [if_neg hd, if_neg hd', e, ← add_assoc, ← add_assoc, show u / 4 % 8 / 2 = u / 8 % 4 by omega]

/-- An array all of whose entries are real numbers. -/
def Real2 {n : ℕ} (a : (⟨2, ![32768, n]⟩ : Shape).Idx → EReal) : Prop := ∀ i, ∃ x : ℝ, a i = (x : EReal)

theorem sum_mul_real {ι : Type} [Fintype ι] (f g : ι → EReal) (hf : ∀ i, ∃ x : ℝ, f i = (x : EReal))
    (hg : ∀ i, ∃ x : ℝ, g i = (x : EReal)) : ∃ x : ℝ, ∑ i, f i * g i = (x : EReal) := by
  choose p hp using hf
  choose q hq using hg
  refine ⟨∑ i, p i * q i, ?_⟩
  rw [← sum_coe]
  exact Finset.sum_congr rfl fun i _ => by rw [hp, hq, EReal.coe_mul]

/-- Scores of real queries and keys are real. -/
theorem score_real (h0 : Real2 x0) (h1 : Real2 x1) (h2 : Real2 x2) (h3 : Real2 x3) (b h n k : ℕ) :
    ∃ s : ℝ, score x0 x1 x2 x3 b h n k = (s : EReal) := by
  obtain ⟨p, hp⟩ := sum_mul_real (fun d : Fin 128 => rd (n := 1024) x0 (b * 8192 + n) (h * 128 + d.val))
    (fun d => rd (n := 1024) x2 (b * 8192 + k) (h * 128 + d.val)) (fun _ => h0 _) (fun _ => h2 _)
  obtain ⟨q, hq⟩ := sum_mul_real (fun d : Fin 64 => rd (n := 512) x1 (b * 8192 + n) (h * 64 + d.val))
    (fun d => rd (n := 512) x3 (b * 8192 + k) (h * 64 + d.val)) (fun _ => h1 _) (fun _ => h3 _)
  exact ⟨p + q, by unfold score; rw [hp, hq, EReal.coe_add]⟩

end Cert.Flash
-- ==== Proof.RefValue.lean ====
/-
  The reference read at an entry.

  Entry (batch, token, head lane) of the plain attention is the sum over all 8192 keys of the key's softmax weight times
  its value; the weight is the power of two of the score less the row's maximum, over the sum of these powers.
-/
module

public import proofs.«01_k».proof.Proof.Gen.ReferenceIdeal.Read
public import proofs.«01_k».proof.Proof.Score

@[expose] public section

noncomputable section

namespace Cert.Flash

open Cert.ReferenceIdeal Cert.ReferenceIdeal.Gen Cert.ReferenceIdeal.Read
open Idealize.ShloMosaic hiding ix2 ix3 eq_ix2 eq_ix3
open Idealize.ShloMosaic.ValueIdx Idealize.ShloMosaic.TcCoe Idealize.SL.Sem
open scoped BigOperators

variable (x0 : S32768x1024.Idx → EReal) (x1 : S32768x512.Idx → EReal) (x2 : S32768x1024.Idx → EReal) (x3 : S32768x512.Idx → EReal)
  (x4 : S32768x1024.Idx → EReal)

theorem rd_of {n : ℕ} [NeZero n] (a : (⟨2, ![32768, n]⟩ : Shape).Idx → EReal) (y : (⟨2, ![32768, n]⟩ : Shape).Idx) (i j : ℕ)
    (hi : (y 0).val = i) (hj : (y 1).val = j) : a y = rd a i j := by
  unfold rd
  have h0 : (y 0).val < 32768 := (y 0).isLt
  have h1 : (y 1).val < n := (y 1).isLt
  refine congrArg a ((eq_ix2 y).trans (congrArg₂ ix2 (Fin.ext ?_) (Fin.ext ?_)))
  · rw [Fin.val_ofNat, ← hi, Nat.mod_eq_of_lt h0]
  · rw [Fin.val_ofNat, ← hj, Nat.mod_eq_of_lt h1]

/-- The 128-lane part of a head, read in the token-major array. -/
theorem head_part (a : S32768x1024.Idx → EReal) (i : S4x8192x8x128.Idx) :
    val_main_v1 (F := Ideal) a i = rd (n := 1024) a ((i 0).val * 8192 + (i 1).val) ((i 2).val * 128 + (i 3).val) := by
  rw [val_main_v1_apply, val_main_v0_apply]
  have h0 : (i 0).val < 4 := (i 0).isLt
  have h1 : (i 1).val < 8192 := (i 1).isLt
  have h2 : (i 2).val < 8 := (i 2).isLt
  have h3 : (i 3).val < 128 := (i 3).isLt
  refine rd_of (n := 1024) a (idx_main_v1 i) _ _ ?_ ?_
  · show ((((i 0).val * 8192 + (i 1).val) * 8 + (i 2).val) * 128 + (i 3).val) / 1024 = _; omega
  · show ((((i 0).val * 8192 + (i 1).val) * 8 + (i 2).val) * 128 + (i 3).val) % 1024 = _; omega

/-- The 64-lane part of a head, read in the token-major array. -/
theorem rope_part (a : S32768x512.Idx → EReal) (i : S4x8192x8x64.Idx) :
    val_main_v3 (F := Ideal) a i = rd (n := 512) a ((i 0).val * 8192 + (i 1).val) ((i 2).val * 64 + (i 3).val) := by
  rw [val_main_v3_apply, val_main_v2_apply]
  have h0 : (i 0).val < 4 := (i 0).isLt
  have h1 : (i 1).val < 8192 := (i 1).isLt
  have h2 : (i 2).val < 8 := (i 2).isLt
  have h3 : (i 3).val < 64 := (i 3).isLt
  refine rd_of (n := 512) a (idx_main_v3 i) _ _ ?_ ?_
  · show ((((i 0).val * 8192 + (i 1).val) * 8 + (i 2).val) * 64 + (i 3).val) / 512 = _; omega
  · show ((((i 0).val * 8192 + (i 1).val) * 8 + (i 2).val) * 64 + (i 3).val) % 512 = _; omega

/-- A head of 192 lanes: the 128 lanes, then the 64. -/
theorem head_lo (a : S32768x1024.Idx → EReal) (r : S32768x512.Idx → EReal) (i : S4x8192x8x192.Idx) (h : (i 3).val < 128) :
    val_main_v4 (F := Ideal) a r i = rd (n := 1024) a ((i 0).val * 8192 + (i 1).val) ((i 2).val * 128 + (i 3).val) := by
  unfold val_main_v4
  refine (concatenate_pair_apply_left (t := S4x8192x8x192) 3 _ _ concatenates_S4x8192x8x128_S4x8192x8x64_S4x8192x8x192_d3 i rfl
    (fun b => match b with | ⟨0, _⟩ => i 0 | ⟨1, _⟩ => i 1 | ⟨2, _⟩ => i 2 | ⟨3, _⟩ => ⟨(i 3).val, h⟩)
    (fun b => by match b with | ⟨0, _⟩ => rfl | ⟨1, _⟩ => rfl | ⟨2, _⟩ => rfl | ⟨3, _⟩ => rfl)).trans ?_
  exact head_part a _

theorem head_hi (a : S32768x1024.Idx → EReal) (r : S32768x512.Idx → EReal) (i : S4x8192x8x192.Idx) (d : Fin 64) (h : (i 3).val = 128 + d.val) :
    val_main_v4 (F := Ideal) a r i = rd (n := 512) r ((i 0).val * 8192 + (i 1).val) ((i 2).val * 64 + d.val) := by
  unfold val_main_v4
  refine (concatenate_pair_apply_right (t := S4x8192x8x192) 3 _ _ concatenates_S4x8192x8x128_S4x8192x8x64_S4x8192x8x192_d3 i rfl rfl
    (fun b => match b with | ⟨0, _⟩ => i 0 | ⟨1, _⟩ => i 1 | ⟨2, _⟩ => i 2 | ⟨3, _⟩ => d)
    (fun b hb => by
      match b with
      | ⟨0, _⟩ => rfl
      | ⟨1, _⟩ => rfl
      | ⟨2, _⟩ => rfl
      | ⟨3, _⟩ => exact absurd rfl hb)
    (by show d.val + 128 = (i 3).val; omega)).trans ?_
  exact rope_part r _

/-- The reference's score. -/
theorem score_ref (i : S4x8x8192x8192.Idx) :
    val_main_v10 (F := Ideal) x0 x1 x2 x3 i = score x0 x1 x2 x3 (i 0).val (i 1).val (i 2).val (i 3).val := by
  rw [val_main_v10_apply]
  refine (Fin.sum_univ_add (a := 128) (b := 64) _).trans ?_
  unfold score
  refine congrArg₂ (· + ·) (Finset.sum_congr rfl fun d _ => ?_) (Finset.sum_congr rfl fun d _ => ?_)
  · exact congrArg₂ (· * ·) (head_lo x0 x1 _ d.isLt) (head_lo x2 x3 _ d.isLt)
  · exact congrArg₂ (· * ·) (head_hi x0 x1 _ d rfl) (head_hi x2 x3 _ d rfl)

theorem two_word : FloatOps.ofBits (F := Ideal) .f32 0x40000000#32 = ((2 : ℝ) : EReal) := by
  simp [Ideal.ofBits, Ideal.ieee]
  rw [← EReal.coe_mul]
  norm_num

variable (h0 : Real2 x0) (h1 : Real2 x1) (h2 : Real2 x2) (h3 : Real2 x3)

include h0 h1 h2 h3 in
/-- The row maximum is a real number. -/
theorem max_ref (i : S4x8x8192.Idx) : ∃ ν : ℝ, val_main_v11 (F := Ideal) x0 x1 x2 x3 i = (ν : EReal) := by
  unfold val_main_v11
  rw [Host.reduce_eq_fold_single (FloatOps.maximumf (F := Ideal) (φ := .f32)) _ _ reducesTo_S4x8x8192x8192_S4x8x8192_d3 (by decide)]
  choose s hs using fun k : Fin 8192 => score_real x0 x1 x2 x3 h0 h1 h2 h3 (i 0).val (i 1).val (i 2).val k.val
  obtain ⟨ν, hν⟩ := fold_max_coe (Finset.univ : Finset (Fin 8192)) ⟨0, Finset.mem_univ _⟩ s
  refine ⟨ν, Eq.trans ?_ hν⟩
  rw [val_main_cst_apply, ofBits_neg_inf]
  refine congrArg (Finset.fold max ⊥ · Finset.univ) (funext fun k => ?_)
  exact (score_ref x0 x1 x2 x3 _).trans (hs k)

/-- The sum over the keys of the softmax weights, taken from `ν`, times the values. -/
def attend (S : Fin 8192 → ℝ) (V : Fin 8192 → EReal) (ν : ℝ) : EReal :=
  ∑ k, Ideal.div ((wt (S k) ν : ℝ) : EReal) (∑ j, ((wt (S j) ν : ℝ) : EReal)) * V k

include h0 h1 h2 h3 in
/-- An entry of the reference's result. -/
theorem ref_entry (i : S4x8192x1024.Idx) (S : Fin 8192 → ℝ)
    (hS : ∀ k : Fin 8192, score x0 x1 x2 x3 (i 0).val ((i 2).val / 128) (i 1).val k.val = (S k : EReal)) :
    ∃ ν : ℝ, val_main_v26 (F := Ideal) x0 x1 x2 x3 x4 i
      = attend S (fun k => rd (n := 1024) x4 ((i 0).val * 8192 + k.val) ((i 2).val / 128 * 128 + (i 2).val % 128)) ν := by
  have b0 : (i 0).val < 4 := (i 0).isLt
  have b1 : (i 1).val < 8192 := (i 1).isLt
  have b2 : (i 2).val < 1024 := (i 2).isLt
  let row : S4x8x8192.Idx := fun a => match a with
    | ⟨0, _⟩ => ⟨(i 0).val, b0⟩ | ⟨1, _⟩ => ⟨(i 2).val / 128, by show _ < 8; omega⟩ | ⟨2, _⟩ => ⟨(i 1).val, b1⟩
  let at4 : Fin 8192 → S4x8x8192x8192.Idx := fun k a => match a with
    | ⟨0, _⟩ => ⟨(i 0).val, b0⟩ | ⟨1, _⟩ => ⟨(i 2).val / 128, by show _ < 8; omega⟩ | ⟨2, _⟩ => ⟨(i 1).val, b1⟩ | ⟨3, _⟩ => k
  obtain ⟨ν, hν⟩ := max_ref x0 x1 x2 x3 h0 h1 h2 h3 row
  have hw : ∀ k, val_main_v16 (F := Ideal) x0 x1 x2 x3 (at4 k) = ((wt (S k) ν : ℝ) : EReal) := fun k => by
    rw [val_main_v16_apply, val_main_v15_apply, val_main_cst_0_apply, two_word, val_main_v14_apply, val_main_v13_apply,
      val_main_v12_apply, score_ref]
    have e : idx_main_v12 (idx_main_v13 (at4 k)) = row := funext fun a => by
      match a with | ⟨0, _⟩ => rfl | ⟨1, _⟩ => rfl | ⟨2, _⟩ => rfl
    rw [e, hν, show score x0 x1 x2 x3 (at4 k 0).val (at4 k 1).val (at4 k 2).val (at4 k 3).val = (S k : EReal) from hS k]
    show Ideal.pow ((2 : ℝ) : EReal) ((S k : EReal) - (ν : EReal)) = _
    rw [← EReal.coe_sub, Ideal.pow_coe_coe]
    rfl
  have hd : ∀ k, val_main_v19 (F := Ideal) x0 x1 x2 x3 (at4 k) = ∑ j, ((wt (S j) ν : ℝ) : EReal) := fun k => by
    rw [val_main_v19_apply, val_main_v18_apply, val_main_v17_apply, val_main_cst_1_apply,
      show FloatOps.ofBits (F := Ideal) .f32 0x00000000#32 = (0 : EReal) from Ideal.ofBits_zero_f32, zero_add]
    refine Finset.sum_congr rfl fun j _ => (congrArg _ (funext fun a => ?_)).trans (hw j)
    match a with | ⟨0, _⟩ => rfl | ⟨1, _⟩ => rfl | ⟨2, _⟩ => rfl | ⟨3, _⟩ => rfl
  refine ⟨ν, ?_⟩
  rw [val_main_v26_apply, val_main_v25_apply, val_main_v24_apply]
  show val_main_v23 (F := Ideal) x0 x1 x2 x3 x4 _ = _
  rw [val_main_v23_apply]
  unfold attend
  refine Finset.sum_congr rfl fun k _ => (mul_comm _ _).trans (congrArg₂ (· * ·) ?_ ?_)
  · have e : ridx_main_v23 (idx_main_v24 (idx_main_v25 i)) k = at4 k := funext fun a => Fin.ext (by
      match a with
      | ⟨0, _⟩ => show (((i 0).val * 8192 + (i 1).val) * 1024 + (i 2).val) / 8388608 = (i 0).val; omega
      | ⟨1, _⟩ => show (((i 0).val * 8192 + (i 1).val) * 1024 + (i 2).val) / 128 % 8 = (i 2).val / 128; omega
      | ⟨2, _⟩ => show (((i 0).val * 8192 + (i 1).val) * 1024 + (i 2).val) / 1024 % 8192 = (i 1).val; omega
      | ⟨3, _⟩ => rfl)
    rw [e, val_main_v20_apply, hw, hd]
    rfl
  · refine (head_part x4 (lidx_main_v23 (idx_main_v24 (idx_main_v25 i)) k)).trans (congrArg₂ (rd (n := 1024) x4) ?_ ?_)
    · show (((i 0).val * 8192 + (i 1).val) * 1024 + (i 2).val) / 8388608 * 8192 + k.val = _; omega
    · show (((i 0).val * 8192 + (i 1).val) * 1024 + (i 2).val) / 128 % 8 * 128 + (((i 0).val * 8192 + (i 1).val) * 1024 + (i 2).val) % 128 = _; omega

end Cert.Flash
-- ==== Proof.Value.lean ====
/-
  Kernel and reference agree.

  The scratches after the last key block hold a row's weighted sum of all 8192 values and the sum of the weights, taken
  from some maximum; their quotient is the reference's softmax average.
-/
module

public import proofs.«01_k».proof.Proof.Out
public import proofs.«01_k».proof.Proof.RefValue

@[expose] public section

noncomputable section

namespace Cert.Flash

open Cert.KernelIdeal Cert.KernelIdeal.Gen
open Idealize.ShloMosaic hiding ix2 ix3 eq_ix2 eq_ix3
open Idealize.ShloMosaic.ValueIdx Idealize.ShloMosaic.TcCoe Idealize.SL.Sem
open scoped BigOperators

/-- The maximum starts from a real number. -/
theorem start_max (r : Fin 2048) : ∃ μ : ℝ, (k0_pay4 (F := Ideal) : S2048x1.Idx → EReal) (ix2 r 0) = (μ : EReal) := by
  refine ⟨-(((2 ^ 23 + 0x49F2CA : ℕ) : ℝ) * 2 ^ 76), ?_⟩
  show (Ideal.ofBits .f32 0xF149F2CA#32 : EReal) = _
  simp [Ideal.ofBits, Ideal.ieee]

/-- The accumulator starts from zero. -/
theorem start_acc (y : S2048x256.Idx) : (k0_pay5 (F := Ideal) : S2048x256.Idx → EReal) y = 0 :=
  Ideal.ofBits_zero_f32

variable (m : (ℓ : Loc nD τ sig) → Buf (Elt Ideal) ℓ) (c : Dev nD)

/-- A row after the last key block. -/
theorem row_held (u : ℕ) (r : Fin 2048) (S : ℕ → Fin 1024 → ℝ)
    (hS : ∀ k j, score (a0 m c) (a1 m c) (a2 m c) (a3 m c) (u / 32) (u / 4 % 8) (u % 4 * 2048 + r.val) (k * 1024 + j.val) = (S k j : EReal)) :
    ∃ μ : ℝ, ∀ d : Fin 256, Ak m c u 7 (ix2 r d)
      = wsum (Finset.range 8 ×ˢ (Finset.univ : Finset (Fin 1024))) (fun i => S i.1 i.2) (fun i => Vb (a4 m c) u i.1 (ix2 i.2 d)) μ := by
  obtain ⟨m₀, hm₀⟩ := start_max r
  have hs : ∀ k j, Sk m c u k (ix2 r j) = (S k j : EReal) := fun k j => (lanes_sum _ _ _ _ u k r j).trans (hS k j)
  have hf : ∀ k, (rowMax fun j : Fin 1024 => Sk m c u k (ix2 r j)) = Finset.univ.fold max ⊥ fun j => (S k j : EReal) := fun k =>
    congrArg rowMax (funext fun j => hs k j)
  obtain ⟨μ, -, h⟩ := row_fold S (fun k j (d : Fin 256) => Vb (a4 m c) u k (ix2 j d)) (fun k => Mk m c u k (ix2 r 0))
    (fun k d => Ak m c u k (ix2 r d)) m₀
    (congrArg₂ max hm₀ (hf 0))
    (fun k => congrArg (max _) (hf (k + 1)))
    (fun d => by
      show Ideal.exp2 ((k0_pay4 (F := Ideal) : S2048x1.Idx → EReal) (ix2 r 0) - _) * (k0_pay5 (F := Ideal) : S2048x256.Idx → EReal) (ix2 r d) + _ = _
      rw [hm₀, start_acc]
      exact congrArg _ (Finset.sum_congr rfl fun j _ => by
        show Ideal.exp2 (Sk m c u 0 (ix2 r j) - _) * _ = _
        rw [hs]; rfl))
    (fun k d => congrArg _ (Finset.sum_congr rfl fun j _ => by
        show Ideal.exp2 (Sk m c u (k + 1) (ix2 r j) - _) * _ = _
        rw [hs]; rfl)) 7
  exact ⟨μ, h⟩

/-- With real queries and keys the kernel's result is the reference's. -/
theorem out_ref (h0 : Real2 (a0 m c)) (h1 : Real2 (a1 m c)) (h2 : Real2 (a2 m c)) (h3 : Real2 (a3 m c)) :
    outA m c = Cert.ReferenceIdeal.Read.val_main_v26 (F := Ideal) (a0 m c) (a1 m c) (a2 m c) (a3 m c) (a4 m c) := by
  funext i
  have b0 : (i 0).val < 4 := (i 0).isLt
  have b1 : (i 1).val < 8192 := (i 1).isLt
  have b2 : (i 2).val < 1024 := (i 2).isLt
  set u := runOf (i 0).val (i 1).val (i 2).val with hu
  have u1 : u / 32 = (i 0).val := by rw [hu]; unfold runOf; omega
  have u2 : u / 4 % 8 = (i 2).val / 128 := by rw [hu]; unfold runOf; omega
  have u3 : u % 4 * 2048 + (i 1).val % 2048 = (i 1).val := by rw [hu]; unfold runOf; omega
  choose T hT using fun k : ℕ => score_real _ _ _ _ h0 h1 h2 h3 (i 0).val ((i 2).val / 128) (i 1).val k
  obtain ⟨ν, hν⟩ := ref_entry _ _ _ _ (a4 m c) h0 h1 h2 h3 i (fun k => T k.val) (fun k => hT k.val)
  obtain ⟨μ, hμ⟩ := row_held m c u (Fin.ofNat 2048 ((i 1).val % 2048)) (fun k j => T (k * 1024 + j.val)) (fun k j => by
    rw [u1, u2, Fin.val_ofNat, Nat.mod_mod, u3]; exact hT _)
  refine Eq.trans ?_ hν.symm
  show Ideal.div (Ak m c u 7 _) (Ak m c u 7 _) = _
  rw [hμ, hμ]
  have hone : ∀ p : ℕ × Fin 1024, Vb (a4 m c) u p.1 (ix2 p.2 (Fin.ofNat 256 (128 + (i 2).val % 128))) = 1 := fun p => by
    unfold Vb
    rw [if_neg]
    show ¬(Fin.ofNat 256 (128 + (i 2).val % 128)).val < 128
    rw [Fin.val_ofNat]; omega
  have hval : ∀ p : ℕ × Fin 1024, Vb (a4 m c) u p.1 (ix2 p.2 (Fin.ofNat 256 ((i 2).val % 128)))
      = rd (n := 1024) (a4 m c) ((i 0).val * 8192 + (p.1 * 1024 + p.2.val)) ((i 2).val / 128 * 128 + (i 2).val % 128) := fun p => by
    have e : (Fin.ofNat 256 ((i 2).val % 128)).val = (i 2).val % 128 := by rw [Fin.val_ofNat]; omega
    unfold Vb
    rw [if_pos (by show (Fin.ofNat 256 ((i 2).val % 128)).val < 128; omega), u1, u2, ← add_assoc]
    show rd (n := 1024) _ _ (_ + (Fin.ofNat 256 ((i 2).val % 128)).val) = _
    rw [e]
  simp only [hone, hval]
  rw [wsum_div _ ⟨(0, 0), by simp⟩ _ _ μ ν]
  unfold attend
  have key : ∀ n : Fin 8192, n.val / 1024 * 1024 + n.val % 1024 = n.val := fun n => by omega
  refine (sum_blocks fun k j => Ideal.div ((wt (T (k * 1024 + j.val)) ν : ℝ) : EReal)
    (∑ p ∈ Finset.range 8 ×ˢ (Finset.univ : Finset (Fin 1024)), ((wt (T (p.1 * 1024 + p.2.val)) ν : ℝ) : EReal))
      * rd (n := 1024) (a4 m c) ((i 0).val * 8192 + (k * 1024 + j.val)) ((i 2).val / 128 * 128 + (i 2).val % 128)).trans ?_
  rw [sum_blocks fun k j => ((wt (T (k * 1024 + j.val)) ν : ℝ) : EReal)]
  simp only [key]

end Cert.Flash
-- ==== Proof.Finite.lean ====
/-
  The precondition read: the queries and the keys are real numbers.
-/
module

public import proofs.«01_k».proof.Pre_finite_scores
public import proofs.«01_k».proof.Proof.Score
public import Idealize.ShloMosaic.Lib.ReduceAll

@[expose] public section

noncomputable section

namespace Cert.Flash

open Idealize.ShloMosaic

/-- The precondition's side conditions. -/
instance preFacts : Cert.Pre_finite_scores.Facts where
  bitsLt_bf16_f32 := by decide
  bcast_S_S32768x1024 := by decide
  reducesTo_S32768x1024_S_d0_1 := by decide
  h_S_ := by decide
  bcast_S_S32768x512 := by decide
  reducesTo_S32768x512_S_d0_1 := by decide

instance scalar_subsingleton : Subsingleton Cert.Pre_finite_scores.S_.Idx := ⟨fun a b => funext fun d => d.elim0⟩

/-- A number whose absolute value lies below plus infinity is real. -/
theorem real_of_lt (x : EReal) (h : Ideal.cmp .olt (max x (-x)) (Ideal.ofBits .f32 0x7F800000#32) = 1#1) : ∃ r : ℝ, x = (r : EReal) := by
  have ht : (Ideal.ofBits .f32 0x7F800000#32 : EReal) = ⊤ := by simp [Ideal.ofBits, Ideal.ieee]
  rw [ht] at h
  induction x with
  | bot => simp [Ideal.cmp] at h
  | coe r => exact ⟨r, rfl⟩
  | top => simp [Ideal.cmp] at h

/-- What the precondition says. -/
theorem finite_args (x0 : FVec Ideal Cert.Pre_finite_scores.S32768x1024 .bf16) (x1 : FVec Ideal Cert.Pre_finite_scores.S32768x512 .bf16)
    (x2 : FVec Ideal Cert.Pre_finite_scores.S32768x1024 .bf16) (x3 : FVec Ideal Cert.Pre_finite_scores.S32768x512 .bf16)
    (x4 : FVec Ideal Cert.Pre_finite_scores.S32768x1024 .bf16)
    (h : Cert.Pre_finite_scores.fn (F := Ideal) x0 x1 x2 x3 x4 = fun _ => 1#1) :
    Real2 (n := 1024) x0 ∧ Real2 (n := 512) x1 ∧ Real2 (n := 1024) x2 ∧ Real2 (n := 512) x3 := by
  have e := congrFun h (Shape.Idx.first Cert.Pre_finite_scores.Facts.h_S_)
  dsimp only [Cert.Pre_finite_scores.fn, Cert.Pre_finite_scores.fn_part1] at e
  obtain ⟨e, e3⟩ := IntOp.andi_eq_one.1 e
  obtain ⟨e, e2⟩ := IntOp.andi_eq_one.1 e
  obtain ⟨e0, e1⟩ := IntOp.andi_eq_one.1 e
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i)⟩

end Cert.Flash
-- ==== Proof.FlashClaim.lean ====
/-
  The attention's claims: the reference's frame, and the call's value against the reference's.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Value
public import proofs.«01_k».proof.Proof.Finite

@[expose] public section

noncomputable section

namespace Cert.Flash

open Idealize.ShloMosaic Idealize.SL.Sem

/-- The kernel's frame, read on the machine. -/
theorem frame_p : Cert.quiescent_Kernel := fun m ρ _ => Cert.Kernel.Gen.frame (F := Bits) m ρ

/-- The kernel's frame, read on the extended reals. -/
theorem frame_pi : Cert.quiescent_KernelIdeal := fun m ρ _ => Cert.KernelIdeal.Gen.frame (F := Ideal) m ρ

/-- The reference's frame: its run read at the arguments; it declares no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel's frame under the attention's precondition. -/
theorem frame_pi_pre : Cert.quiescent_KernelIdeal_pre_finite_scores := fun m ρ _ => frame_pi m ρ trivial

/-- The reference's frame under the attention's precondition. -/
theorem frame_ri_pre : Cert.quiescent_ReferenceIdeal_pre_finite_scores := fun m ρ _ => frame_ri m ρ trivial

/-- Both runs end with the attention's average. -/
theorem algebraic : Cert.algebraic_KernelIdeal_ReferenceIdeal_pre_finite_scores := by
  intro m g m' g' hpre hagree
  refine ⟨fun c => Cert.Flash.outA m c, ?_, ?_⟩
  · refine (θ_run Cert.KernelIdeal.defs _ _).mono (fun r h c => ⟨(h c).1.trans (out_arr m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨h0, h1, h2, h3⟩ := finite_args _ _ _ _ _ (hpre c)
    obtain ⟨e0, e1, e2, e3, e4⟩ := hagree c
    rw [Cert.ReferenceIdeal.Read.val_main_v26_eq, e0, e1, e2, e3, e4]
    exact (out_ref m c h0 h1 h2 h3).symm

end Cert.Flash
-- ==== Proof.ExpertsRun.lean ====
/-
  One run of the experts' feed-forward body, for each way its four branches can go.

  The body reads one word of a table, the number of row tiles in use, and then works on a tile only if the tile's number
  is below that word: it clears the scratch at the tile's first block, adds one block's contribution to it at every
  block, and writes the scratch times the rows' weights at the last block; an unused tile's last block writes zeros.
-/
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.FrameBody
public import Idealize.ShloMosaic.Lib.Pipeline.ValueKit
public import Idealize.ShloMosaic.Lib.Pipeline.ReadBack
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables as the body is handed them: the tiles' experts and the number of tiles in use. -/
abbrev tbE : Memref sig .tc .smem S72 .i32 := Memref.whole main_arg0
abbrev tbN : Memref sig .tc .smem S1 .i32 := Memref.whole main_arg1
/-- The scratch that holds a tile's running sum. -/
abbrev scA : Memref sig .tc .vmem S1024x2048 .f32 := Memref.whole cc0_scratch0

/-- Contents of a table, and the table held at half the full share. -/
abbrev TbB (c : Dev nD) {S : Shape} {e : EltTy} (M : Memref sig .tc .smem S e) : Type :=
  Buf (Elt F) (M.view.loc (c : Thread nD τ))
abbrev tbAt (c : Dev nD) {S : Shape} {e : EltTy} (M : Memref sig .tc .smem S e) (f : TbB (F := F) c M) : sProp 𝕄 :=
  M.view.loc (c : Thread nD τ) ↦{fullShare.right} f

/-- The word the body reads: the number of tiles in use. -/
abbrev word (c : Dev nD) (T : TbB (F := F) c tbN) : BitVec 32 :=
  View.readAt (Elt F) tbN.view (Rect.unit (s := S1) ![0] S1.size inb_S1_S1_0).toLoadRect T
    (Shape.Idx.first (numel1_S1.symm ▸ Nat.one_pos))

/-- The four branches' conditions, over the grid coordinates and the word. -/
abbrev br0 (i : grid0.Coords) (w : BitVec 32) : Prop :=
  Scalar.cmpi .ne (Scalar.extui (Scalar.andi (Scalar.cmpi .slt (BitVec.ofNat 32 (i 0).val) w)
    (Scalar.cmpi .eq (BitVec.ofNat 32 (i 1).val) 0#32))) 0#32 = 1#1
abbrev br1 (i : grid0.Coords) (w : BitVec 32) : Prop :=
  Scalar.cmpi .ne (Scalar.extui (Scalar.cmpi .slt (BitVec.ofNat 32 (i 0).val) w)) 0#32 = 1#1
abbrev br2 (i : grid0.Coords) (w : BitVec 32) : Prop := k0_cond3 i w = 1#1
abbrev br3 (i : grid0.Coords) (w : BitVec 32) : Prop := k0_cond4 i w = 1#1

variable (c : Dev nD) (i : grid0.Coords)
  (arg4 : Memref sig .tc .vmem S1024x2048 .bf16) (harg4 : arg4.IsWhole)
  (arg5 : Memref sig .tc .vmem S1x2048x512 .bf16) (harg5 : arg5.IsWhole)
  (arg6 : Memref sig .tc .vmem S1x2048x512 .bf16) (harg6 : arg6.IsWhole)
  (arg7 : Memref sig .tc .vmem S1x512x2048 .bf16) (harg7 : arg7.IsWhole)
  (arg8 : Memref sig .tc .vmem S1024x1 .f32) (harg8 : arg8.IsWhole)
  (arg9 : Memref sig .tc .vmem S1024x2048 .bf16) (harg9 : arg9.IsWhole)
  (arg10 : Memref sig .tc .vmem S1024x2048 .f32) (harg10 : arg10.IsWhole)
  (x0 : Vec F S1024x2048 .bf16) (x1 : Vec F S1x2048x512 .bf16) (x2 : Vec F S1x2048x512 .bf16)
  (x3 : Vec F S1x512x2048 .bf16) (x4 : Vec F S1024x1 .f32)
  (T0 : TbB (F := F) c tbE) (T1 : TbB (F := F) c tbN)
  (y : Vec F S1024x2048 .bf16) (s : Vec F S1024x2048 .f32)

/-- What the body is run on, with `y` in the output block and `s` in the scratch. -/
abbrev held : sProp 𝕄 :=
  iprop(owns (c : Thread nD τ) arg4 fullShare x0 ∗ owns (c : Thread nD τ) arg5 fullShare x1
    ∗ owns (c : Thread nD τ) arg6 fullShare x2 ∗ owns (c : Thread nD τ) arg7 fullShare x3
    ∗ owns (c : Thread nD τ) arg8 fullShare x4 ∗ owns (c : Thread nD τ) arg9 fullShare y
    ∗ owns (c : Thread nD τ) arg10 fullShare s ∗ tbAt c tbE T0 ∗ tbAt c tbN T1)

/-- The body at a point. -/
abbrev body : Prog (TpuEff nD τ sig (Elt F) Λ₀ .tc) PUnit :=
  cc0_swiglu_ffn i tbE (Memref.isWhole_whole _) tbN (Memref.isWhole_whole _) arg4 harg4 arg5 harg5 arg6 harg6 arg7 harg7
    arg8 harg8 arg9 harg9 arg10 harg10

/-- What a run leaves in the scratch, -/
def scr (w : BitVec 32) : Vec F S1024x2048 .f32 :=
  if br1 i w then k0_pay2 x0 x1 x2 (if br0 i w then k0_pay1 else s) x3
  else if br0 i w then k0_pay1 else s

/-- and in the output block. -/
def blk (w : BitVec 32) : Vec F S1024x2048 .bf16 :=
  if br3 i w then k0_pay4 else if br2 i w then k0_pay3 (scr i x0 x1 x2 x3 s w) x4 else y

/-- A whole-shape store is all that is read back. -/
theorem covers {e : EltTy} (p : View.Piece (Elt F) S1024x2048 e) (h : p.1 = Rect.unit ![0, 0] S1024x2048.size inb_S1024x2048_S1024x2048_0_0)
    (L : List (View.Piece (Elt F) S1024x2048 e)) (z : S1024x2048.Idx) : ∃ q ∈ p :: L, z ∈ q.1.set :=
  ⟨p, List.mem_cons_self, by rw [h]; exact View.mem_set_unit_zero (View.eq_zero_of_forall (by decide)) _ z⟩

set_option maxHeartbeats 16000000 in
/-- One run of the body, whichever way its branches go. -/
theorem run (E : Set ℕ) (K : PUnit → sProp 𝕄) :
    iprop(held c arg4 arg5 arg6 arg7 arg8 arg9 arg10 x0 x1 x2 x3 x4 T0 T1 y s
        ∗ (held c arg4 arg5 arg6 arg7 arg8 arg9 arg10 x0 x1 x2 x3 x4 T0 T1 (blk i x0 x1 x2 x3 x4 y s (word c T1))
            (scr i x0 x1 x2 x3 s (word c T1)) -∗ K ⟨⟩))
      ⊢ wp frame (wpE (defs₀ (F := F)) Variants.none c none) E
          (body i arg4 harg4 arg5 harg5 arg6 harg6 arg7 harg7 arg8 harg8 arg9 harg9 arg10 harg10) K := by
  unfold held body
  simp only [cc0_swiglu_ffn_eq_skeleton]; unfold cc0_swiglu_ffn_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT0, HT1⟩, Hk⟩
  obtain rfl := harg4.eq_unread hf0; obtain rfl := harg5.eq_unread hf1; obtain rfl := harg6.eq_unread hf2
  obtain rfl := harg7.eq_unread hf3; obtain rfl := harg8.eq_unread hf4; obtain rfl := harg9.eq_unread hf5
  obtain rfl := harg10.eq_unread hf6
  by_cases h0 : br0 i (word c T1) <;> by_cases h1 : br1 i (word c T1) <;> by_cases h2 : br2 i (word c T1) <;>
    by_cases h3 : br3 i (word c T1)
  all_goals
    sl_exec (disch := first | sl_exact h0 | sl_exact h1 | sl_exact h2 | sl_exact h3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr
      swap; · iexact H5
      ipureintro
      try frame_open
      first
        | rw [View.read_writes_eq_canon _ _ _ (fun z => covers _ rfl _ z)]
          simp (disch := decide) only [View.canon_cons_unit_lit',
            View.ld_unit_lit', View.readCov_unit_lit', View.readCov_cons_unit_lit', View.readAt_eq_ld,
            Memref.IsWhole.read_unread]
        | rw [Memref.IsWhole.read_unread]
      unfold blk scr; split_ifs <;> first | contradiction | rfl
    isplitl [H6]
    · iexists _; isplitr
      swap; · iexact H6
      ipureintro
      try frame_open
      first
        | rw [View.read_writes_eq_canon _ _ _ (fun z => covers _ rfl _ z)]
          simp (disch := decide) only [View.canon_cons_unit_lit',
            View.ld_unit_lit', View.readCov_unit_lit', View.readCov_cons_unit_lit', View.readAt_eq_ld,
            Memref.IsWhole.read_unread]
        | rw [Memref.IsWhole.read_unread]
      unfold scr; split_ifs <;> first | contradiction | rfl
    isplitl [HT0]; · iexact HT0
    iexact HT1

end Cert.Experts

end
-- ==== Proof.ExpertsFrame.lean ====
/-
  The experts' feed-forward launch, for any contents of its two tables.

  The scratch is followed only through tiles that are in use: after a block of such a tile it holds the sum over the
  tile's blocks so far, and after a block of an unused tile nothing is said of it. The output block is written at a tile's
  last block only, with the tile's sum times the rows' weights where the tile is in use and with zeros where it is not.
-/
module

public import proofs.«01_k».proof.Proof.ExpertsRun
public import Idealize.ShloMosaic.Lib.Pipeline.Kit
public import Idealize.ShloMosaic.Lib.Claim

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## When the branches are taken -/

/-- Whether the tile of point `n` is in use when the table's word is `w`. -/
def used (n : ℕ) (w : BitVec 32) : Prop := Scalar.cmpi .slt (BitVec.ofNat 32 (n / 11)) w = 1#1

theorem coord0 (t : Fin grid0.N) : (grid0.coords t 0).val = t.val / 11 :=
  (by decide +kernel : ∀ t : Fin grid0.N, (grid0.coords t 0).val = t.val / 11) t
theorem coord1 (t : Fin grid0.N) : (grid0.coords t 1).val = t.val % 11 :=
  (by decide +kernel : ∀ t : Fin grid0.N, (grid0.coords t 1).val = t.val % 11) t

theorem br0_iff (t : Fin grid0.N) (w : BitVec 32) : br0 (grid0.coords t) w ↔ used t.val w ∧ t.val % 11 = 0 := by
  unfold br0 used
  rw [coord0, coord1]
  generalize Scalar.cmpi .slt (BitVec.ofNat 32 (t.val / 11)) w = b
  have h : t.val % 11 < 11 := Nat.mod_lt _ (by decide)
  revert h; generalize t.val % 11 = j
  revert b j; decide
theorem br1_iff (t : Fin grid0.N) (w : BitVec 32) : br1 (grid0.coords t) w ↔ used t.val w := by
  unfold br1 used
  rw [coord0]
  generalize Scalar.cmpi .slt (BitVec.ofNat 32 (t.val / 11)) w = b
  revert b; decide
theorem br2_iff (t : Fin grid0.N) (w : BitVec 32) : br2 (grid0.coords t) w ↔ used t.val w ∧ t.val % 11 = 10 := by
  unfold br2 used k0_cond3
  rw [coord0, coord1]
  dsimp only
  generalize Scalar.cmpi .slt (BitVec.ofNat 32 (t.val / 11)) w = b
  have h : t.val % 11 < 11 := Nat.mod_lt _ (by decide)
  revert h; generalize t.val % 11 = j
  revert b j; decide
theorem br3_iff (t : Fin grid0.N) (w : BitVec 32) : br3 (grid0.coords t) w ↔ ¬used t.val w ∧ t.val % 11 = 10 := by
  unfold br3 used k0_cond4
  rw [coord0, coord1]
  dsimp only
  generalize Scalar.cmpi .slt (BitVec.ofNat 32 (t.val / 11)) w = b
  have h : t.val % 11 < 11 := Nat.mod_lt _ (by decide)
  revert h; generalize t.val % 11 = j
  revert b j; decide

/-! ## The launch's memory and tables -/

variable (m : (ℓ : Loc nD τ sig) → Buf (Elt F) ℓ) (ρ : Dev nD → PrngReg)

/-- A core's buffers when the launch begins. -/
abbrev V (c : Dev nD) (b : Ref sig .tc) : Buf (Elt F) ((c : Thread nD τ).loc b) := m ((c : Thread nD τ).loc b)

set_option maxHeartbeats 800000 in
theorem hmain (𝒱₀ : Variants) :
    Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- The tables name blocks inside the weights. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The number of tiles in use, as the body reads it. -/
def nw (m : (ℓ : Loc nD τ sig) → Buf (Elt F) ℓ) : BitVec 32 := (tbl m).atD 1 ![0]
theorem word_eq (c : Dev nD) : word c (tbl m 1) = nw m := rfl

theorem tables (c : Dev nD) :
    (Pipeline.ΦT pre0 (tbl m) c : sProp 𝕄) = iprop(tbAt c tbE (tbl m 0) ∗ tbAt c tbN (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows -/

/-- Window `w`'s block at point `t`. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

theorem flush5 (a : (pcfg0 (F := F)).Adm) (t : Fin (cfg0 a).N) : ((cfg0 a).win 5).flush t = true ↔ t.val % 11 = 10 :=
  (by decide +kernel : ∀ t : Fin grid0.N, Pipeline.Window.flushOf grid0 true cc0_transform_5 t = true ↔ t.val % 11 = 10) t

theorem idle5 (hO : Ok m) (t : Fin (cfgM m hO).N) (h : ¬t.val % 11 = 10) :
    (cfgM m hO).idle 5 (grid0.coords t) = true := by
  have h2 : ¬br2 (grid0.coords t) (nw m) := fun q => h ((br2_iff t _).1 q).2
  have h3 : ¬br3 (grid0.coords t) (nw m) := fun q => h ((br3_iff t _).1 q).2
  show (!(k0_cond3 (grid0.coords t) (nw m) == 1#1) && !(k0_cond4 (grid0.coords t) (nw m) == 1#1)) = true
  rw [beq_false_of_ne h2, beq_false_of_ne h3]; rfl

theorem live5 (hO : Ok m) (t : Fin (cfgM m hO).N) (h : t.val % 11 = 10) :
    (cfgM m hO).idle 5 (grid0.coords t) = false := by
  show (!(k0_cond3 (grid0.coords t) (nw m) == 1#1) && !(k0_cond4 (grid0.coords t) (nw m) == 1#1)) = false
  by_cases hu : used t.val (nw m)
  · have h2 : br2 (grid0.coords t) (nw m) := (br2_iff t _).2 ⟨hu, h⟩
    rw [show (k0_cond3 (grid0.coords t) (nw m) == 1#1) = true from beq_iff_eq.2 h2]; rfl
  · have h3 : br3 (grid0.coords t) (nw m) := (br3_iff t _).2 ⟨hu, h⟩
    rw [show (k0_cond4 (grid0.coords t) (nw m) == 1#1) = true from beq_iff_eq.2 h3, Bool.not_true, Bool.and_false]

/-! ## What the points leave -/

/-- The sum over a tile's blocks so far, after point `n`. -/
def acc (hO : Ok m) (c : Dev nD) : (n : ℕ) → n < (cfgM m hO).N → Vec F S1024x2048 .f32
  | 0, h => k0_pay2 (iblk m hO c 0 ⟨0, h⟩) (iblk m hO c 1 ⟨0, h⟩) (iblk m hO c 2 ⟨0, h⟩) k0_pay1 (iblk m hO c 3 ⟨0, h⟩)
  | n + 1, h => k0_pay2 (iblk m hO c 0 ⟨n + 1, h⟩) (iblk m hO c 1 ⟨n + 1, h⟩) (iblk m hO c 2 ⟨n + 1, h⟩)
      (if (n + 1) % 11 = 0 then k0_pay1 else acc hO c n (Nat.lt_of_succ_lt h)) (iblk m hO c 3 ⟨n + 1, h⟩)

theorem acc_first (hO : Ok m) (c : Dev nD) (t : Fin (cfgM m hO).N) (h : t.val % 11 = 0) :
    acc m hO c t.val t.isLt = k0_pay2 (iblk m hO c 0 t) (iblk m hO c 1 t) (iblk m hO c 2 t) k0_pay1 (iblk m hO c 3 t) := by
  obtain ⟨n, hn⟩ := t
  cases n with
  | zero => rfl
  | succ n => simp only [acc]; rw [if_pos h]

theorem acc_next (hO : Ok m) (c : Dev nD) (t : Fin (cfgM m hO).N) (h : ¬t.val % 11 = 0) :
    acc m hO c t.val t.isLt = k0_pay2 (iblk m hO c 0 t) (iblk m hO c 1 t) (iblk m hO c 2 t)
      (acc m hO c (t.val - 1) (Nat.lt_of_le_of_lt (Nat.sub_le _ _) t.isLt)) (iblk m hO c 3 t) := by
  obtain ⟨n, hn⟩ := t
  cases n with
  | zero => exact absurd rfl h
  | succ n => simp only [acc]; rw [if_neg h]; rfl

/-- What the scratch may hold before point `n`: after a block of a tile in use, the sum so far. -/
def Holds (hO : Ok m) (c : Dev nD) (n : ℕ) (s : Vec F S1024x2048 .f32) : Prop :=
  ∀ k (hk : k < (cfgM m hO).N), n = k + 1 → used k (nw m) → s = acc m hO c k hk

open Classical in
/-- The block written at a tile's last point. -/
def out (hO : Ok m) (c : Dev nD) (t : Fin (cfgM m hO).N) : Vec F S1024x2048 .bf16 :=
  if used t.val (nw m) then k0_pay3 (acc m hO c t.val t.isLt) (iblk m hO c 4 t) else k0_pay4

theorem holds_step (hO : Ok m) (c : Dev nD) (t : Fin (cfgM m hO).N) (s : Vec F S1024x2048 .f32)
    (h : Holds m hO c t.val s) :
    Holds m hO c (t.val + 1)
      (scr (grid0.coords t) (iblk m hO c 0 t) (iblk m hO c 1 t) (iblk m hO c 2 t) (iblk m hO c 3 t) s (nw m)) := by
  intro k hk e hu
  obtain rfl : t.val = k := Nat.succ.inj e
  unfold scr
  rw [if_pos ((br1_iff t _).2 hu)]
  by_cases h0 : t.val % 11 = 0
  · rw [if_pos ((br0_iff t _).2 ⟨hu, h0⟩), acc_first m hO c t h0]
  · rw [if_neg (fun q => h0 ((br0_iff t _).1 q).2), acc_next m hO c t h0]
    have hd : (t.val - 1) / 11 = t.val / 11 := by omega
    rw [h (t.val - 1) (Nat.lt_of_le_of_lt (Nat.sub_le _ _) t.isLt) (by omega) (by unfold used at hu ⊢; rw [hd]; exact hu)]

theorem out_step (hO : Ok m) (c : Dev nD) (t : Fin (cfgM m hO).N) (y : Vec F S1024x2048 .bf16) (s : Vec F S1024x2048 .f32)
    (h : Holds m hO c t.val s) (hl : t.val % 11 = 10) :
    blk (grid0.coords t) (iblk m hO c 0 t) (iblk m hO c 1 t) (iblk m hO c 2 t) (iblk m hO c 3 t) (iblk m hO c 4 t) y s (nw m)
      = out m hO c t := by
  unfold blk out
  by_cases hu : used t.val (nw m)
  · rw [if_neg (fun q => ((br3_iff t _).1 q).1 hu), if_pos ((br2_iff t _).2 ⟨hu, hl⟩), if_pos hu,
      holds_step m hO c t s h t.val t.isLt rfl hu]
  · rw [if_pos ((br3_iff t _).2 ⟨hu, hl⟩), if_neg hu]

theorem out_idle (hO : Ok m) (c : Dev nD) (t : Fin (cfgM m hO).N) (y : Vec F S1024x2048 .bf16) (s : Vec F S1024x2048 .f32)
    (hl : ¬t.val % 11 = 10) :
    blk (grid0.coords t) (iblk m hO c 0 t) (iblk m hO c 1 t) (iblk m hO c 2 t) (iblk m hO c 3 t) (iblk m hO c 4 t) y s (nw m)
      = y := by
  unfold blk
  rw [if_neg (fun q => hl ((br3_iff t _).1 q).2), if_neg (fun q => hl ((br2_iff t _).1 q).2)]

/-! ## The proof data -/

/-- The invariant before point `n`: the scratch, the generator register and the tables. -/
def inv (hO : Ok m) (c : Dev nD) (n : ℕ) : sProp 𝕄 :=
  iprop(((∃ s, ⌜Holds m hO c n s⌝ ∗ owns (c : Thread nD τ) scA fullShare s) ∗ (∃ r, prngReg c r)) ∗ Pipeline.ΦT pre0 (tbl m) c)

/-- The launch's arrays, blocks and invariant. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => out m hO c t
  Φ t := inv m hO c t.val
  q _ := fullShare
  owed _ := 0

theorem A_eq (hO : Ok m) (c : Dev nD) (w : Fin (cfgM m hO).W) :
    (dats m hO 0 c).A w = V m c (Pipeline.arrRef spec0 w) := by
  dsimp only [dats]
theorem after5 (hO : Ok m) (c : Dev nD) (t : Fin (cfgM m hO).N) : (dats m hO 0 c).after 5 t = out m hO c t := by
  dsimp only [dats]; try rfl

/-- An input's staging buffer holds its block at every point. -/
theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun _ => rfl) t d).trans rfl
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun _ => rfl) t d).trans rfl
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun _ => rfl) t d).trans rfl
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun _ => rfl) t d).trans rfl
theorem before4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun _ => rfl) t d).trans rfl

/-! ## The body at a point -/

/-- A window's current staging buffer. -/
abbrev st (hO : Ok m) (w : Fin 6) (t : Fin (cfgM m hO).N) := ((cfgM m hO).win w).stage ((cfgM m hO).slots t w)

/-- The body at point `t` on the current staging buffers. -/
abbrev bodyAt (hO : Ok m) (t : Fin (cfgM m hO).N) : Prog (TpuEff nD τ sig (Elt F) Λ₀ .tc) PUnit :=
  body (grid0.coords t)
    (spec0_0.stage ((cfgM m hO).slots t 0)) (hstage0_0 (((cfgM m hO).slots t 0).cast nbuf0_0))
    (spec0_1.stage ((cfgM m hO).slots t 1)) (hstage0_1 (((cfgM m hO).slots t 1).cast nbuf0_1))
    (spec0_2.stage ((cfgM m hO).slots t 2)) (hstage0_2 (((cfgM m hO).slots t 2).cast nbuf0_2))
    (spec0_3.stage ((cfgM m hO).slots t 3)) (hstage0_3 (((cfgM m hO).slots t 3).cast nbuf0_3))
    (spec0_4.stage ((cfgM m hO).slots t 4)) (hstage0_4 (((cfgM m hO).slots t 4).cast nbuf0_4))
    (spec0_5.stage ((cfgM m hO).slots t 5)) (hstage0_5 (((cfgM m hO).slots t 5).cast nbuf0_5))
    scA (Memref.isWhole_whole _)

/-- What the body is called with at point `t`, -/
def bodyPre (hO : Ok m) (c : Dev nD) (t : Fin (cfgM m hO).N) : sProp 𝕄 :=
  iprop(inv m hO c t.val ∗ (dats m hO 0 c).owesAt () t.castSucc
    ∗ (∃ d, owns (c : Thread nD τ) (st m hO 0 t) fullShare ((dats m hO 0 c).before 0 t d))
    ∗ (∃ d, owns (c : Thread nD τ) (st m hO 1 t) fullShare ((dats m hO 0 c).before 1 t d))
    ∗ (∃ d, owns (c : Thread nD τ) (st m hO 2 t) fullShare ((dats m hO 0 c).before 2 t d))
    ∗ (∃ d, owns (c : Thread nD τ) (st m hO 3 t) fullShare ((dats m hO 0 c).before 3 t d))
    ∗ (∃ d, owns (c : Thread nD τ) (st m hO 4 t) fullShare ((dats m hO 0 c).before 4 t d))
    ∗ (∃ d, owns (c : Thread nD τ) (st m hO 5 t) fullShare ((dats m hO 0 c).before 5 t d)))

/-- and what it returns. -/
def bodyPost (hO : Ok m) (c : Dev nD) (t : Fin (cfgM m hO).N) : sProp 𝕄 :=
  iprop(inv m hO c (t.val + 1) ∗ (dats m hO 0 c).owesAt () t.castSucc
    ∗ owns (c : Thread nD τ) (st m hO 0 t) fullShare (iblk m hO c 0 t)
    ∗ owns (c : Thread nD τ) (st m hO 1 t) fullShare (iblk m hO c 1 t)
    ∗ owns (c : Thread nD τ) (st m hO 2 t) fullShare (iblk m hO c 2 t)
    ∗ owns (c : Thread nD τ) (st m hO 3 t) fullShare (iblk m hO c 3 t)
    ∗ owns (c : Thread nD τ) (st m hO 4 t) fullShare (iblk m hO c 4 t)
    ∗ (dats m hO 0 c).leavesExact 5 t)

/-- The output window after the body, from what the run left in it. -/
theorem leaves5 (hO : Ok m) (c : Dev nD) (t : Fin (cfgM m hO).N) (d) (s : Vec F S1024x2048 .f32)
    (h : Holds m hO c t.val s) :
    owns (c : Thread nD τ) (st m hO 5 t) fullShare
        (blk (grid0.coords t) (iblk m hO c 0 t) (iblk m hO c 1 t) (iblk m hO c 2 t) (iblk m hO c 3 t) (iblk m hO c 4 t)
          ((dats m hO 0 c).before 5 t d) s (nw m))
      ⊢ (dats m hO 0 c).leavesExact 5 t := by
  by_cases hl : t.val % 11 = 10
  · have e := out_step m hO c t ((dats m hO 0 c).before 5 t d) s h hl
    rw [show (dats m hO 0 c).leavesExact 5 t
        = owns (c : Thread nD τ) (st m hO 5 t) fullShare ((dats m hO 0 c).after 5 t) from by
      unfold Dat.leavesExact; rw [live5 m hO t hl]; rfl, after5]
    exact (congrArg (fun z => owns (c : Thread nD τ) (st m hO 5 t) fullShare z) e).le
  · have e := out_idle m hO c t ((dats m hO 0 c).before 5 t d) s hl
    rw [Dat.leavesExact_idle (dats m hO 0 c) 5 t (idle5 m hO t hl)
      (Bool.eq_false_iff.2 fun q => hl ((flush5 (adm m hO) t).1 q))]
    refine (congrArg (fun z => owns (c : Thread nD τ) (st m hO 5 t) fullShare z) e).le.trans ?_
    show owns (c : Thread nD τ) (st m hO 5 t) fullShare ((dats m hO 0 c).before 5 t d) ⊢ _
    iintro H; iexists _; iexact H

set_option maxHeartbeats 4000000 in
theorem sound (hO : Ok m) (c : Dev nD) (t : Fin (cfgM m hO).N) :
    bodyPre m hO c t
      ⊢ wp frame (wpE (defs₀ (F := F)) Variants.none c none) Set.univ (bodyAt m hO t) (fun _ => bodyPost m hO c t) := by
  unfold bodyPre bodyPost inv
  simp only [before0, before1, before2, before3, before4]
  rw [tables m c]
  iintro ⟨⟨⟨⟨%s, %hs, HS⟩, Hg⟩, ⟨HT0, HT1⟩⟩, Ho, ⟨%d0, H0⟩, ⟨%d1, H1⟩, ⟨%d2, H2⟩, ⟨%d3, H3⟩, ⟨%d4, H4⟩, ⟨%d5, H5⟩⟩
  iapply (run c (grid0.coords t) _ (hstage0_0 (((cfgM m hO).slots t 0).cast nbuf0_0))
    _ (hstage0_1 (((cfgM m hO).slots t 1).cast nbuf0_1)) _ (hstage0_2 (((cfgM m hO).slots t 2).cast nbuf0_2))
    _ (hstage0_3 (((cfgM m hO).slots t 3).cast nbuf0_3)) _ (hstage0_4 (((cfgM m hO).slots t 4).cast nbuf0_4))
    _ (hstage0_5 (((cfgM m hO).slots t 5).cast nbuf0_5)) scA (Memref.isWhole_whole _)
    (iblk m hO c 0 t) (iblk m hO c 1 t) (iblk m hO c 2 t) (iblk m hO c 3 t) (iblk m hO c 4 t) (tbl m 0) (tbl m 1)
    ((dats m hO 0 c).before 5 t d5) s Set.univ _)
  rw [word_eq]
  unfold held
  isplitl [H0 H1 H2 H3 H4 H5 HS HT0 HT1]
  · isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HT0]; · iexact HT0
    iexact HT1
  iintro ⟨H0, H1, H2, H3, H4, H5, HS, HT0, HT1⟩
  isplitl [HS Hg HT0 HT1]
  · isplitl [HS Hg]
    · isplitl [HS]
      · iexists _; isplitr
        swap; · iexact HS
        ipureintro; exact holds_step m hO c t s hs
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iapply (leaves5 m hO c t d5 s hs)
  iexact H5

theorem defs_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem obligation (hO : Ok m) (c : Dev nD) :
    BodyObligation (dats (F := F) m hO 0 c) (defs₀ (F := F)) Variants.none () Set.univ := fun t => by
  rw [bigSep_W0, bigSep_W0, defs_row m hO]
  exact triple_restated (sound m hO c t) rfl .rfl fun _ => .rfl

theorem rest_eq (c : Dev nD) :
    (Pipeline.ΦA spec0 c : sProp 𝕄) = iprop((∃ d, owns (c : Thread nD τ) scA fullShare d) ∗ (∃ r, prngReg c r)) := by
  unfold Pipeline.ΦA; rw [scopedRest0_eq]; simp only [scA, owns_whole]; try rfl

theorem hin (hO : Ok m) (c : Dev nD) : iprop(Pipeline.ΦA spec0 c ∗ Pipeline.ΦT pre0 (tbl m) c) ⊢ (dats m hO 0 c).Φ 0 := by
  rw [show (dats m hO 0 c).Φ 0 = inv m hO c 0 from rfl, rest_eq]
  unfold inv
  iintro ⟨⟨⟨%s, HS⟩, Hg⟩, HT⟩
  isplitl [HS Hg]
  · isplitl [HS]
    · iexists s; isplitr
      swap; · iexact HS
      ipureintro; intro k _ e; exact absurd e.symm (Nat.succ_ne_zero k)
    iexact Hg
  iexact HT

theorem hout (hO : Ok m) (c : Dev nD) : (dats m hO 0 c).Φ (Fin.last (cfgM m hO).N) ⊢ Pipeline.ΦA spec0 c := by
  rw [show (dats m hO 0 c).Φ (Fin.last (cfgM m hO).N) = inv m hO c (Fin.last (cfgM m hO).N).val from rfl, rest_eq]
  unfold inv
  iintro ⟨⟨⟨%s, -, HS⟩, Hg⟩, -⟩
  isplitl [HS]
  · iexists _; iexact HS
  iexact Hg

/-! ## The run and the frame -/

set_option backward.isDefEq.respectTransparency.types false in
/-- The launch ends, with every array of its windows at what the proof data say and every counter at zero. -/
theorem run_main (hO : Ok m) : θ_run defs (onTc (τ := τ) (main (F := F))) (s₀ m ρ) (fun r =>
    (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The arguments end as they were, and every counter is at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3)),
      ((h.1 c).1 4).trans (((dats m hO 0 c).arrAt_in 4 rfl _).trans (A_eq m hO c 4))⟩, h.2⟩) (run_main m ρ hO)

end Cert.Experts

end
-- ==== Proof.ExpertsTables.lean ====
/-
  The tables, read: the expert a tile names, the blocks the weights' windows fetch, and the launch's frame under the
  precondition that every tile names an expert.
-/
module

public import proofs.«01_k».proof.Defs
public import proofs.«01_k».proof.Proof.Gen.Pre_experts_named
public import proofs.«01_k».proof.Proof.Gen.Kernel2
public import proofs.«01_k».proof.Proof.ExpertsFrame
import Idealize.ShloMosaic.Lib.Pointwise.ShapeOpsCore

@[expose] public section

noncomputable section

namespace Cert.Experts

open Cert.Kernel2Ideal Cert.Kernel2Ideal.Gen
open Idealize.ShloMosaic Idealize.ShloMosaic.TcCoe Idealize.SL.Sem

variable {F : FTy → Type} [FloatOps F]

/-- The precondition bounds every word of the experts' table. -/
theorem word_lt (T0 : IVec Cert.Pre_experts_named.S72 32) (T1 : IVec Cert.Pre_experts_named.S1 32) (x2 : FVec F _ .bf16)
    (x3 x4 : FVec F _ .bf16) (x5 : FVec F _ .bf16) (x6 : FVec F _ .f32)
    (h : Cert.Pre_experts_named.fn (F := F) T0 T1 x2 x3 x4 x5 x6 = fun _ => 1#1) (w : Cert.Pre_experts_named.S72.Idx) :
    (T0 w).toNat < 8 := by
  have andi_one (a b : BitVec 1) : IntOp.andi a b = 1#1 ↔ a = 1#1 ∧ b = 1#1 := by revert a b; decide
  have ofBool_one (p : Bool) : BitVec.ofBool p = 1#1 ↔ p = true := by cases p <;> decide
  have pre := congrFun h w
  simp only [Cert.Pre_experts_named.fn, constantI, broadcastInDim, cmpi, andi, andi_one, ofBool_one, IntOp.cmpi, BitVec.sle,
    BitVec.slt, decide_eq_true_eq, BitVec.toInt, BitVec.toNat_ofNat] at pre
  omega

/-- The block of the hidden width fetched at a point: the point's own in a tile in use and the last one otherwise. -/
def col (w : BitVec 32) (i : grid0.Coords) : ℕ :=
  if Scalar.cmpi .slt (BitVec.ofNat 32 (i 0).val) w = 1#1 then (i 1).val else 10

theorem select_col (w : BitVec 32) (i : grid0.Coords) :
    (Scalar.select (Scalar.cmpi .slt (BitVec.ofNat 32 (i 0).val) w) (BitVec.ofNat 32 (i 1).val) 10#32 : BitVec 32).toNat = col w i := by
  have h : (i 1).val < 11 := (i 1).isLt
  unfold col
  generalize Scalar.cmpi .slt (BitVec.ofNat 32 (i 0).val) w = b
  revert h; generalize (i 1).val = j
  revert b j; decide

theorem col_le (w : BitVec 32) (i : grid0.Coords) : col w i ≤ 10 := by
  have h : (i 1).val < 11 := (i 1).isLt
  unfold col; split <;> omega

variable (m : (ℓ : Loc nD τ sig) → Buf (Elt F) ℓ)

/-- A tile's place in the experts' table. -/
def tile (k : Fin 72) : S72.Idx := fun a => ⟨k.val, by obtain rfl : a = 0 := Subsingleton.elim _ _; exact k.isLt⟩

/-- The expert that tile `k` names. -/
def expert (k : Fin 72) : ℕ := (tbl m 0 (tile k) : BitVec 32).toNat

theorem tile_read (i : grid0.Coords) :
    (Rect.unit (s := S72) ![(Scalar.indexCast (BitVec.ofNat 32 (i 0).val) : Index).toNat] S1.size (k0_off1_inb i)).emb
      (Shape.Idx.first (numel1_S1.symm ▸ Nat.one_pos)) = tile (i 0) := by
  funext a
  obtain rfl : a = 0 := Subsingleton.elim _ _
  apply Fin.ext
  have e := congrFun (k0_off1_eq i) 0
  show k0_off1 i 0 + _ = (i 0).val
  rw [e]
  rfl

theorem word_expert (i : grid0.Coords) :
    ((tbl m).at 0 (Rect.unit (s := S72) ![(Scalar.indexCast (BitVec.ofNat 32 (i 0).val) : Index).toNat] S1.size (k0_off1_inb i)) numel1_S1
      : BitVec 32).toNat = expert m (i 0) :=
  congrArg (fun y : S72.Idx => (tbl m 0 y : BitVec 32).toNat) (tile_read i)

theorem ix_1 (i : grid0.Coords) :
    cc0_transform_1 k0_off1_inb numel1_S1 inb_S1_S1_0 (tbl m) i = ![expert m (i 0), 0, col (nw m) i] := by
  rw [← word_expert m i, ← select_col]; rfl
theorem ix_2 (i : grid0.Coords) :
    cc0_transform_2 k0_off1_inb numel1_S1 inb_S1_S1_0 (tbl m) i = ![expert m (i 0), 0, col (nw m) i] := by
  rw [← word_expert m i, ← select_col]; rfl
theorem ix_3 (i : grid0.Coords) :
    cc0_transform_3 k0_off1_inb numel1_S1 inb_S1_S1_0 (tbl m) i = ![expert m (i 0), col (nw m) i, 0] := by
  rw [← word_expert m i, ← select_col]; rfl

/-- Tables whose tiles name experts are admitted by the launch. -/
theorem ok_of_lt (h : ∀ k, expert m k < 8) : Ok m := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have h0 := h (i 0)
    have h1 := col_le (nw m) i
    simp only [ix_1, ix_2, ix_3]
    fin_cases a
  · show (expert m (i 0) + 1) * 1 ≤ 8; omega
  · show (0 + 1) * 2048 ≤ 2048; omega
  · show (col (nw m) i + 1) * 512 ≤ 5632; omega
  · show (expert m (i 0) + 1) * 1 ≤ 8; omega
  · show (0 + 1) * 2048 ≤ 2048; omega
  · show (col (nw m) i + 1) * 512 ≤ 5632; omega
  · show (expert m (i 0) + 1) * 1 ≤ 8; omega
  · show (col (nw m) i + 1) * 512 ≤ 5632; omega
  · show (0 + 1) * 2048 ≤ 2048; omega

end Cert.Experts

namespace Cert.Experts

open Cert.Kernel2Ideal Cert.Kernel2Ideal.Gen
open Idealize.ShloMosaic Idealize.ShloMosaic.TcCoe Idealize.SL.Sem

/-- The precondition: every tile names an expert. -/
theorem expert_lt (m : (ℓ : Loc nD τ sig) → Buf (Elt Ideal) ℓ) (h : Cert.Pre_Kernel2Ideal m) (k : Fin 72) : expert m k < 8 :=
  word_lt _ _ _ _ _ _ _ (h 0) _

/-- The launch's frame under its precondition, read on the extended reals. -/
theorem quiet : Cert.quiescent_Kernel2Ideal := fun m ρ h => frame m ρ (ok_of_lt m (expert_lt m h))

/-- The two printings of the launch are one text: their body tables are equal. -/
theorem table_eq : Cert.Kernel2.defs₀ (F := Bits) = Cert.Kernel2Ideal.defs₀ (F := Bits) := by
  unfold Cert.Kernel2.defs₀ Cert.Kernel2Ideal.defs₀
  refine congrArg _ ?_
  funext l a
  cases l using Fin.cases
  · obtain ⟨t, s⟩ := a
    rfl
  · rename_i i; exact i.elim0

theorem defs_eq : Cert.Kernel2.defs (F := Bits) = Cert.Kernel2Ideal.defs (F := Bits) :=
  congrArg (Pipeline.defs (Cert.Kernel2Ideal.pcfgs (F := Bits))) table_eq

/-- The launch's frame under its precondition, read on the machine. -/
theorem quiet_bits : Cert.quiescent_Kernel2 := by
  intro m ρ h
  have hf := frame (F := Bits) m ρ (ok_of_lt (F := Bits) m fun k => word_lt _ _ _ _ _ _ _ (h 0) _)
  rw [← defs_eq] at hf
  exact hf

end Cert.Experts

end
-- ==== Proof.ExpertsBlocks.lean ====
/-
  The experts' blocks at coordinates, and what a point adds to the sum: over the extended reals, the product of the gated
  hidden block with the block of the last weights.
-/
module

public import proofs.«01_k».proof.Proof.ExpertsTables
public import Idealize.ShloMosaic.Lib.Pipeline.Frame
public import Idealize.ShloMosaic.Lib.Pipeline.ValueKit
public import Idealize.ShloMosaic.Lib.Pointwise
public import Idealize.ShloMosaic.PureOps.Ideal.Laws

@[expose] public section

noncomputable section

namespace Cert.Experts

open Cert.Kernel2Ideal Cert.Kernel2Ideal.Gen
open Idealize.ShloMosaic Idealize.ShloMosaic.TcCoe Idealize.SL.Sem
open scoped BigOperators

/-- The gated hidden value of two products. -/
def gated (g u : EReal) : EReal := g * Ideal.div 1 (1 + Ideal.exp (0 - g)) * u

theorem pay1_apply (y : S1024x2048.Idx) : (k0_pay1 (F := Ideal) : S1024x2048.Idx → EReal) y = 0 := Ideal.ofBits_zero_f32

theorem pay4_apply (y : S1024x2048.Idx) : (k0_pay4 (F := Ideal) : S1024x2048.Idx → EReal) y = 0 := by
  show Ideal.ofBits .bf16 0x0000#16 = 0
  simp [Ideal.ofBits, Ideal.ieee]

theorem pay3_apply (s : S1024x2048.Idx → EReal) (w : S1024x1.Idx → EReal) (r : Fin 1024) (d : Fin 2048) :
    (k0_pay3 (F := Ideal) s w : S1024x2048.Idx → EReal) (ix2 r d) = s (ix2 r d) * w (ix2 r 0) := by
  unfold k0_pay3
  pointwise

theorem pay2_apply (x0 : S1024x2048.Idx → EReal) (x1 x2 : S1x2048x512.Idx → EReal) (s : S1024x2048.Idx → EReal)
    (x3 : S1x512x2048.Idx → EReal) (r : Fin 1024) (d : Fin 2048) :
    (k0_pay2 (F := Ideal) x0 x1 x2 s x3 : S1024x2048.Idx → EReal) (ix2 r d)
      = s (ix2 r d) + ∑ f : Fin 512, gated (∑ k : Fin 2048, x0 (ix2 r k) * x1 (ix3 0 k f))
          (∑ k : Fin 2048, x0 (ix2 r k) * x2 (ix3 0 k f)) * x3 (ix3 0 f d) := by
  unfold k0_pay2 gated
  pointwise

variable (m : (ℓ : Loc nD τ sig) → Buf (Elt Ideal) ℓ) (hO : Ok m) (c : Dev nD) (t : Fin (cfgM m hO).N)

theorem index_0 : ((cfgM m hO).win 0).index t = ![t.val / 11, 0] :=
  (by decide +kernel : ∀ t : Fin grid0.N, cc0_transform_0 (grid0.coords t) = ![t.val / 11, 0]) t
theorem index_1 : ((cfgM m hO).win 1).index t = ![expert m (grid0.coords t 0), 0, col (nw m) (grid0.coords t)] := ix_1 m _
theorem index_2 : ((cfgM m hO).win 2).index t = ![expert m (grid0.coords t 0), 0, col (nw m) (grid0.coords t)] := ix_2 m _
theorem index_3 : ((cfgM m hO).win 3).index t = ![expert m (grid0.coords t 0), col (nw m) (grid0.coords t), 0] := ix_3 m _
theorem index_4 : ((cfgM m hO).win 4).index t = ![t.val / 11, 0] :=
  (by decide +kernel : ∀ t : Fin grid0.N, cc0_transform_4 (grid0.coords t) = ![t.val / 11, 0]) t
theorem index_5 : ((cfgM m hO).win 5).index t = ![t.val / 11, 0] :=
  (by decide +kernel : ∀ t : Fin grid0.N, cc0_transform_5 (grid0.coords t) = ![t.val / 11, 0]) t

theorem block_0 (r : Fin 1024) (k : Fin 2048) (i : Fin 73728) (hi : i.val = t.val / 11 * 1024 + r.val) :
    iblk m hO c 0 t (ix2 r k) = m ((c : Thread nD τ).loc main_arg2) (ix2 i k) := by
  blk_ext! [iblk, index_0 m hO t]
theorem block_1 (z : Fin 1) (k : Fin 2048) (f : Fin 512) (e : Fin 8) (j : Fin 5632)
    (he : e.val = expert m (grid0.coords t 0)) (hj : j.val = col (nw m) (grid0.coords t) * 512 + f.val) :
    iblk m hO c 1 t (ix3 z k f) = m ((c : Thread nD τ).loc main_arg3) (ix3 e k j) := by
  blk_ext! [iblk, index_1 m hO t]
theorem block_2 (z : Fin 1) (k : Fin 2048) (f : Fin 512) (e : Fin 8) (j : Fin 5632)
    (he : e.val = expert m (grid0.coords t 0)) (hj : j.val = col (nw m) (grid0.coords t) * 512 + f.val) :
    iblk m hO c 2 t (ix3 z k f) = m ((c : Thread nD τ).loc main_arg4) (ix3 e k j) := by
  blk_ext! [iblk, index_2 m hO t]
theorem block_3 (z : Fin 1) (f : Fin 512) (d : Fin 2048) (e : Fin 8) (j : Fin 5632)
    (he : e.val = expert m (grid0.coords t 0)) (hj : j.val = col (nw m) (grid0.coords t) * 512 + f.val) :
    iblk m hO c 3 t (ix3 z f d) = m ((c : Thread nD τ).loc main_arg5) (ix3 e j d) := by
  blk_ext! [iblk, index_3 m hO t]
theorem block_4 (r : Fin 1024) (z : Fin 1) (i : Fin 73728) (hi : i.val = t.val / 11 * 1024 + r.val) :
    iblk m hO c 4 t (ix2 r z) = m ((c : Thread nD τ).loc main_arg6) (ix2 i 0) := by
  blk_ext! [iblk, index_4 m hO t]

end Cert.Experts

end
-- ==== Proof.ExpertsValue.lean ====
/-
  The experts' result: the sum over a tile's blocks of the hidden width, and the result array entry by entry.
-/
module

public import proofs.«01_k».proof.Proof.ExpertsBlocks

@[expose] public section

noncomputable section

namespace Cert.Experts

open Cert.Kernel2Ideal Cert.Kernel2Ideal.Gen
open Idealize.ShloMosaic Idealize.ShloMosaic.TcCoe Idealize.SL.Sem
open scoped BigOperators

/-- Row `p`'s hidden value `j` under expert `e`. -/
def hid (h : S73728x2048.Idx → EReal) (wg wu : S8x2048x5632.Idx → EReal) (e : Fin 8) (p : Fin 73728) (j : Fin 5632) : EReal :=
  gated (∑ k : Fin 2048, h (ix2 p k) * wg (ix3 e k j)) (∑ k : Fin 2048, h (ix2 p k) * wu (ix3 e k j))

/-- Row `p`'s lane `d` under expert `e`. -/
def row (h : S73728x2048.Idx → EReal) (wg wu : S8x2048x5632.Idx → EReal) (wd : S8x5632x2048.Idx → EReal)
    (e : Fin 8) (p : Fin 73728) (d : Fin 2048) : EReal :=
  ∑ j : Fin 5632, hid h wg wu e p j * wd (ix3 e j d)

/-- Eleven blocks of 512 are 5632. -/
theorem sum_blocks (G : ℕ → EReal) :
    ∑ k ∈ Finset.range 11, ∑ f : Fin 512, G (k * 512 + f.val) = ∑ j : Fin 5632, G j.val := by
  rw [Finset.sum_range, ← Fintype.sum_prod_type' (f := fun (a : Fin 11) (c : Fin 512) => G (a.val * 512 + c.val))]
  refine Fintype.sum_equiv (finProdFinEquiv (m := 11) (n := 512)) _ _ fun x => ?_
  obtain ⟨a, c⟩ := x
  exact congrArg G (show a.val * 512 + c.val = c.val + 512 * a.val by omega)

variable (m : (ℓ : Loc nD τ sig) → Buf (Elt Ideal) ℓ) (hO : Ok m) (c : Dev nD)

/-- The expert of a tile given by number. -/
def ex (k : ℕ) : Fin 8 := Fin.ofNat 8 (expert m (Fin.ofNat 72 k))

/-- The block of the hidden width read at point `n`. -/
def colN (w : BitVec 32) (n : ℕ) : ℕ := if Scalar.cmpi .slt (BitVec.ofNat 32 (n / 11)) w = 1#1 then n % 11 else 10

theorem colN_le (w : BitVec 32) (n : ℕ) : colN w n ≤ 10 := by unfold colN; split <;> omega

theorem coord_0 (t : Fin (cfgM m hO).N) : (grid0.coords t 0).val = t.val / 11 :=
  (by decide +kernel : ∀ t : Fin grid0.N, (grid0.coords t 0).val = t.val / 11) t
theorem coord_1 (t : Fin (cfgM m hO).N) : (grid0.coords t 1).val = t.val % 11 :=
  (by decide +kernel : ∀ t : Fin grid0.N, (grid0.coords t 1).val = t.val % 11) t
theorem lt_points (t : Fin (cfgM m hO).N) : t.val < 792 := t.isLt

theorem col_coords (t : Fin (cfgM m hO).N) : col (nw m) (grid0.coords t) = colN (nw m) t.val := by
  unfold col colN; rw [coord_0 m hO t, coord_1 m hO t]

theorem ex_coords (hx : ∀ k, expert m k < 8) (t : Fin (cfgM m hO).N) : (ex m (t.val / 11)).val = expert m (grid0.coords t 0) := by
  have e : grid0.coords t 0 = Fin.ofNat 72 (t.val / 11) := by
    apply Fin.ext
    rw [coord_0 m hO t, Fin.val_ofNat]
    have := lt_points m hO t
    omega
  rw [e]
  exact Nat.mod_eq_of_lt (hx _)

/-- What point `n` adds to the sum at row `r`, lane `d`. -/
def term (r : Fin 1024) (d : Fin 2048) (n : ℕ) : EReal :=
  ∑ f : Fin 512, hid (V m c main_arg2) (V m c main_arg3) (V m c main_arg4) (ex m (n / 11)) (Fin.ofNat 73728 (n / 11 * 1024 + r.val))
      (Fin.ofNat 5632 (colN (nw m) n * 512 + f.val))
    * (V m c main_arg5 : S8x5632x2048.Idx → EReal) (ix3 (ex m (n / 11)) (Fin.ofNat 5632 (colN (nw m) n * 512 + f.val)) d)

theorem step_term (hx : ∀ k, expert m k < 8) (t : Fin (cfgM m hO).N) (s : S1024x2048.Idx → EReal) (r : Fin 1024) (d : Fin 2048) :
    (k0_pay2 (F := Ideal) (iblk m hO c 0 t) (iblk m hO c 1 t) (iblk m hO c 2 t) s (iblk m hO c 3 t) : S1024x2048.Idx → EReal) (ix2 r d)
      = s (ix2 r d) + term m c r d t.val := by
  have ht := lt_points m hO t
  have hr := r.isLt
  have he := ex_coords m hO hx t
  refine (pay2_apply _ _ _ s _ r d).trans ?_
  unfold term hid
  refine congrArg (s (ix2 r d) + ·) (Finset.sum_congr rfl fun f _ => ?_)
  have hf := f.isLt
  have hc := colN_le (nw m) t.val
  have hj : (Fin.ofNat 5632 (colN (nw m) t.val * 512 + f.val)).val = col (nw m) (grid0.coords t) * 512 + f.val := by
    rw [col_coords m hO t, Fin.val_ofNat]; omega
  have hi : (Fin.ofNat 73728 (t.val / 11 * 1024 + r.val)).val = t.val / 11 * 1024 + r.val := by
    rw [Fin.val_ofNat]; omega
  refine congrArg₂ (· * ·) (congrArg₂ gated (Finset.sum_congr rfl fun k _ => congrArg₂ (· * ·) ?_ ?_)
    (Finset.sum_congr rfl fun k _ => congrArg₂ (· * ·) ?_ ?_)) ?_
  · exact block_0 m hO c t r k _ hi
  · exact block_1 m hO c t 0 k f _ _ he hj
  · exact block_0 m hO c t r k _ hi
  · exact block_2 m hO c t 0 k f _ _ he hj
  · exact block_3 m hO c t 0 f d _ _ he hj

/-- At a tile's last point the sum runs over the hidden width. -/
theorem acc_sum (hx : ∀ k, expert m k < 8) (t : Fin (cfgM m hO).N) (hl : t.val % 11 = 10) (hu : used t.val (nw m))
    (r : Fin 1024) (d : Fin 2048) :
    (acc m hO c t.val t.isLt : S1024x2048.Idx → EReal) (ix2 r d)
      = row (V m c main_arg2) (V m c main_arg3) (V m c main_arg4) (V m c main_arg5) (ex m (t.val / 11))
          (Fin.ofNat 73728 (t.val / 11 * 1024 + r.val)) d := by
  have e := Pipeline.eq_sum_of_reset_step_of_mod
    (fun n h => (acc m hO c n h : S1024x2048.Idx → EReal) (ix2 r d)) 11 (0 : EReal) (term m c r d)
    (fun t h => by
      refine (congrFun (acc_first m hO c t h) (ix2 r d)).trans ((step_term m hO c hx t _ r d).trans ?_)
      exact congrArg (· + term m c r d t.val) (pay1_apply _))
    (fun t h => (congrFun (acc_next m hO c t h) (ix2 r d)).trans (step_term m hO c hx t _ r d)) t hl
  refine e.trans ?_
  rw [zero_add]
  unfold row
  let G : ℕ → EReal := fun j => hid (V m c main_arg2) (V m c main_arg3) (V m c main_arg4) (ex m (t.val / 11))
      (Fin.ofNat 73728 (t.val / 11 * 1024 + r.val)) (Fin.ofNat 5632 j)
    * (V m c main_arg5 : S8x5632x2048.Idx → EReal) (ix3 (ex m (t.val / 11)) (Fin.ofNat 5632 j) d)
  have hG : ∀ j : Fin 5632, G j.val = hid (V m c main_arg2) (V m c main_arg3) (V m c main_arg4) (ex m (t.val / 11))
      (Fin.ofNat 73728 (t.val / 11 * 1024 + r.val)) j
    * (V m c main_arg5 : S8x5632x2048.Idx → EReal) (ix3 (ex m (t.val / 11)) j d) := fun j => by
    show hid _ _ _ _ _ (Fin.ofNat 5632 j.val) * _ = _
    rw [show Fin.ofNat 5632 j.val = j from Fin.ext (Nat.mod_eq_of_lt j.isLt)]
  rw [← Finset.sum_congr rfl fun j _ => hG j, ← sum_blocks G]
  refine Finset.sum_congr rfl fun k hk => ?_
  have hk' : k < 11 := Finset.mem_range.1 hk
  have e1 : (11 * (t.val / 11) + k) / 11 = t.val / 11 := by omega
  have e2 : colN (nw m) (11 * (t.val / 11) + k) = k := by
    unfold colN; rw [e1, if_pos (show Scalar.cmpi .slt (BitVec.ofNat 32 (t.val / 11)) (nw m) = 1#1 from hu)]; omega
  unfold term
  rw [e1, e2]

/-- The result: in a tile in use, the row under its tile's expert times the row's weight; elsewhere zero. -/
def res : S73728x2048.Idx → EReal := fun i =>
  if Scalar.cmpi .slt (BitVec.ofNat 32 ((i 0).val / 1024)) (nw m) = 1#1 then
    row (V m c main_arg2) (V m c main_arg3) (V m c main_arg4) (V m c main_arg5) (ex m ((i 0).val / 1024)) (i 0) (i 1)
      * (V m c main_arg6 : S73728x1.Idx → EReal) (ix2 (i 0) 0)
  else 0

theorem out_apply (hx : ∀ k, expert m k < 8) (t : Fin (cfgM m hO).N) (hl : t.val % 11 = 10) (r : Fin 1024) (d : Fin 2048)
    (i : Fin 73728) (hi : i.val = t.val / 11 * 1024 + r.val) :
    (out m hO c t : S1024x2048.Idx → EReal) (ix2 r d) = res m c (ix2 i d) := by
  have hr := r.isLt
  have hq : ((ix2 i d : S73728x2048.Idx) 0).val / 1024 = t.val / 11 := by show i.val / 1024 = _; omega
  unfold res out
  rw [hq]
  by_cases hu : used t.val (nw m)
  · rw [if_pos hu, if_pos (show Scalar.cmpi .slt (BitVec.ofNat 32 (t.val / 11)) (nw m) = 1#1 from hu)]
    refine (pay3_apply _ _ r d).trans ?_
    rw [acc_sum m hO c hx t hl hu, show Fin.ofNat 73728 (t.val / 11 * 1024 + r.val) = i from Fin.ext (by rw [Fin.val_ofNat]; have := i.isLt; omega)]
    exact congrArg _ (block_4 m hO c t r 0 i hi)
  · rw [if_neg hu, if_neg (show ¬Scalar.cmpi .slt (BitVec.ofNat 32 (t.val / 11)) (nw m) = 1#1 from hu)]
    exact pay4_apply _

/-- The tiles cover the output. -/
theorem covers_5 : ((cfgM m hO).win 5).Covers := by
  refine ⟨(by decide : ∀ a : Fin 2, 0 < S1024x2048.size a), fun β => ?_⟩
  have h0 : (β (0 : Fin 2)).val < (73728 + 1024 - 1) / 1024 := (β (0 : Fin 2)).isLt
  have h1 : (β (1 : Fin 2)).val < (2048 + 2048 - 1) / 2048 := (β (1 : Fin 2)).isLt
  have hn : (β (0 : Fin 2)).val * 11 + 10 < 792 := by omega
  refine ⟨⟨(β (0 : Fin 2)).val * 11 + 10, hn⟩, (flush5 (adm m hO) _).2 (by show (_ * 11 + 10) % 11 = 10; omega), fun a => ?_⟩
  rw [index_5 m hO]
  have e : ((β (0 : Fin 2)).val * 11 + 10) / 11 = (β (0 : Fin 2)).val := by omega
  match a with
  | ⟨0, _⟩ => exact ⟨e, .inl rfl⟩
  | ⟨1, _⟩ => exact ⟨(show (β (1 : Fin 2)).val = 0 by omega).symm, .inl rfl⟩

/-- The run leaves the result in the output array. -/
theorem res_arr (hx : ∀ k, expert m k < 8) : (dats m hO 0 c).arrAt 5 (cfgM m hO).N = res m c := by
  refine (dats m hO 0 c).arrAt_eq_of_covers 5 _ (covers_5 m hO) fun t hf y => ?_
  have hl := (flush5 (adm m hO) t).1 hf
  have ht := lt_points m hO t
  rw [after5]
  obtain ⟨r, d, rfl⟩ : ∃ (r : Fin 1024) (d : Fin 2048), y = (ix2 r d : S1024x2048.Idx) := ⟨y (0 : Fin 2), y (1 : Fin 2), eq_ix2 _⟩
  blk_simp
  refine (out_apply m hO c hx t hl r d ⟨t.val / 11 * 1024 + r.val, by omega⟩ rfl).trans (congrArg (res m c) ?_)
  blk_ext! [index_5 m hO t]

end Cert.Experts

end
-- ==== Proof.ExpertsRef.lean ====
/-
  The experts' reference at an entry: the same sum over the hidden width, under the one expert its tile names.
-/
module

public import proofs.«01_k».proof.Proof.ExpertsValue
public import proofs.«01_k».proof.Proof.Gen.Reference2Ideal.Read
public import Idealize.ShloMosaic.Lib.IdealHost

@[expose] public section

noncomputable section

namespace Cert.Experts

open Cert.Reference2Ideal Cert.Reference2Ideal.Gen Cert.Reference2Ideal.Read
open Idealize.ShloMosaic Idealize.ShloMosaic.TcCoe Idealize.SL.Sem
open scoped BigOperators

/-- The reference's product of the rows with one expert's weights. -/
theorem ref_dot (x2 : S73728x2048.Idx → EReal) (x3 : S8x2048x5632.Idx → EReal) (e : Fin 8) (p : Fin 73728) (j : Fin 5632) :
    (val_main_v19 (F := Ideal) x2 x3 : S8x73728x5632.Idx → EReal) (ix3 e p j) = ∑ k : Fin 2048, x2 (ix2 p k) * x3 (ix3 e k j) := by
  rw [val_main_v19_apply, val_main_v18_apply]
  refine Finset.sum_congr rfl fun k _ => (mul_comm _ _).trans (congrArg₂ (· * ·) (congrArg x2 ?_) (congrArg x3 ?_))
  · funext a; match a with
    | ⟨0, _⟩ => rfl
    | ⟨1, _⟩ => rfl
  · funext a; match a with
    | ⟨0, _⟩ => rfl
    | ⟨1, _⟩ => rfl
    | ⟨2, _⟩ => rfl

/-- The reference's gated hidden value. -/
theorem ref_hid (x2 : S73728x2048.Idx → EReal) (x3 x4 : S8x2048x5632.Idx → EReal) (e : Fin 8) (p : Fin 73728) (j : Fin 5632) :
    (val_main_v25 (F := Ideal) x2 x3 x4 : S8x73728x5632.Idx → EReal) (ix3 e p j) = hid x2 x3 x4 e p j := by
  have hg := ref_dot x2 x3 e p j
  have hu : (val_main_v23 (F := Ideal) x2 x4 : S8x73728x5632.Idx → EReal) (ix3 e p j)
      = ∑ k : Fin 2048, x2 (ix2 p k) * x4 (ix3 e k j) := ref_dot x2 x4 e p j
  rw [val_main_v25_apply, val_main_v24_apply, val_main_call1_v5_apply, val_main_call1_v4_apply, val_main_call1_v3_apply,
    val_main_call1_v2_apply, val_main_call1_v1_apply, val_main_call1_v0_apply, hg, hu]
  show (_ * Ideal.div (Ideal.ofBits .f32 0x3F800000#32) (Ideal.ofBits .f32 0x3F800000#32 + Ideal.exp (-_))) * _ = _
  rw [Ideal.ofBits_one_f32]
  unfold hid gated
  rw [sub_eq_add_neg, zero_add]

/-- The reference's row under expert `e`. -/
theorem ref_row (x2 : S73728x2048.Idx → EReal) (x3 x4 : S8x2048x5632.Idx → EReal) (x5 : S8x5632x2048.Idx → EReal)
    (e : Fin 8) (p : Fin 73728) (d : Fin 2048) :
    (val_main_v27 (F := Ideal) x2 x3 x4 x5 : S8x73728x2048.Idx → EReal) (ix3 e p d) = row x2 x3 x4 x5 e p d := by
  rw [val_main_v27_apply]
  unfold row
  refine Finset.sum_congr rfl fun j _ => congrArg₂ (· * ·) ((congrArg _ ?_).trans (ref_hid x2 x3 x4 e p j)) (congrArg x5 ?_)
  · funext a; match a with
    | ⟨0, _⟩ => rfl
    | ⟨1, _⟩ => rfl
    | ⟨2, _⟩ => rfl
  · funext a; match a with
    | ⟨0, _⟩ => rfl
    | ⟨1, _⟩ => rfl
    | ⟨2, _⟩ => rfl

/-- A tile's place in a table of 72. -/
def place (k : Fin 72) : S72.Idx := fun a => ⟨k.val, by obtain rfl : a = 0 := Subsingleton.elim _ _; exact k.isLt⟩

/-- The number of tiles in use. -/
def count (x1 : S1.Idx → BitVec 32) : BitVec 32 := x1 (fun a => ⟨0, by obtain rfl : a = 0 := Subsingleton.elim _ _; decide⟩)

theorem count_read (x1 : S1.Idx → BitVec 32) (y : S_.Idx) :
    (val_main_v8 (F := Ideal) x1 : S_.Idx → BitVec 32) y = count x1 := by
  unfold val_main_v8
  exact congrArg x1 (funext fun a => Fin.ext (by
    obtain rfl : a = 0 := Subsingleton.elim _ _
    exact Nat.lt_one_iff.1 (Fin.isLt _)))

theorem and_one (a b : BitVec 1) : IntOp.andi a b = 1#1 ↔ a = 1#1 ∧ b = 1#1 := by revert a b; decide

theorem eq_one (a b : BitVec 32) : IntOp.cmpi .eq a b = 1#1 ↔ a = b := by
  have ofBool_one (p : Bool) : BitVec.ofBool p = 1#1 ↔ p = true := by cases p <;> decide
  simp only [IntOp.cmpi, ofBool_one, beq_iff_eq]

/-- A row's weight for expert `e`: its own weight when its tile is in use and names `e`, else zero. -/
theorem ref_weight (x0 : S72.Idx → BitVec 32) (x1 : S1.Idx → BitVec 32) (x6 : S73728x1.Idx → EReal) (e : Fin 8) (p : Fin 73728) :
    (val_main_v15 (F := Ideal) x0 x1 x6 : S73728x8.Idx → EReal) (ix2 p e)
      = if x0 (place (Fin.ofNat 72 (p.val / 1024))) = BitVec.ofNat 32 e.val
          ∧ Scalar.cmpi .slt (BitVec.ofNat 32 (p.val / 1024)) (count x1) = 1#1 then x6 (ix2 p 0) else 0 := by
  have hp := p.isLt
  have he := e.isLt
  have q0 : (p.val * 8 + e.val) / 8192 = p.val / 1024 := by omega
  have q2 : (p.val * 8 + e.val) % 8 = e.val := by omega
  have hw : (val_main_call0_v2 (F := Ideal) x6 : S72x1024x8.Idx → EReal) (idx_main_v15 (ix2 p e)) = x6 (ix2 p 0) := by
    rw [val_main_call0_v2_apply, val_main_v13_apply]
    refine congrArg x6 (funext fun a => Fin.ext ?_)
    match a with
    | ⟨0, _⟩ => show (((p.val * 8 + e.val) / 8192 * 1024 + (p.val * 8 + e.val) / 8 % 1024) * 1 + 0) / 1 = p.val; omega
    | ⟨1, _⟩ => rfl
  rw [val_main_v15_apply, val_main_v14_apply, hw, val_main_call0_v1_apply, val_main_v12_apply, val_main_v7_apply,
    val_main_v11_apply, val_main_v10_apply, val_main_v9_apply, count_read, val_main_v5_apply, val_main_v4_apply,
    val_main_v6_apply, val_main_v3_apply, val_main_v2_apply, val_main_v1_apply, val_main_v0_apply]
  show (if IntOp.andi (IntOp.cmpi .eq (x0 _) (BitVec.ofNat 32 ((p.val * 8 + e.val) % 8)))
      (IntOp.cmpi .slt (BitVec.ofNat 32 ((p.val * 8 + e.val) / 8192)) (count x1)) = 1#1 then x6 (ix2 p 0)
    else Ideal.ofBits .f32 0x00000000#32) = _
  rw [q0, q2, Ideal.ofBits_zero_f32,
    show (idx_main_v4 (idx_main_v5 (idx_main_call0_v1 (idx_main_v15 (ix2 p e))))) = place (Fin.ofNat 72 (p.val / 1024)) from
      funext fun a => Fin.ext (by
        obtain rfl : a = 0 := Subsingleton.elim _ _
        show (p.val * 8 + e.val) / 8192 = (Fin.ofNat 72 (p.val / 1024)).val
        rw [Fin.val_ofNat]; omega)]
  exact if_congr ((and_one _ _).trans (and_congr (eq_one _ _) Iff.rfl)) rfl rfl

/-- The reference's result at an entry. -/
theorem ref_out (x0 : S72.Idx → BitVec 32) (x1 : S1.Idx → BitVec 32) (x2 : S73728x2048.Idx → EReal) (x3 x4 : S8x2048x5632.Idx → EReal)
    (x5 : S8x5632x2048.Idx → EReal) (x6 : S73728x1.Idx → EReal) (p : Fin 73728) (d : Fin 2048) (e : Fin 8)
    (he : x0 (place (Fin.ofNat 72 (p.val / 1024))) = BitVec.ofNat 32 e.val) :
    (val_main_v29 (F := Ideal) x0 x1 x2 x3 x4 x5 x6 : S73728x2048.Idx → EReal) (ix2 p d)
      = if Scalar.cmpi .slt (BitVec.ofNat 32 (p.val / 1024)) (count x1) = 1#1 then row x2 x3 x4 x5 e p d * x6 (ix2 p 0) else 0 := by
  have hs : ∀ e' : Fin 8, (val_main_v15 (F := Ideal) x0 x1 x6 : S73728x8.Idx → EReal) (lidx_main_v28 (ix2 p d) e')
      * (val_main_v27 (F := Ideal) x2 x3 x4 x5 : S8x73728x2048.Idx → EReal) (ridx_main_v28 (ix2 p d) e')
      = (if BitVec.ofNat 32 e.val = BitVec.ofNat 32 e'.val ∧ Scalar.cmpi .slt (BitVec.ofNat 32 (p.val / 1024)) (count x1) = 1#1
          then x6 (ix2 p 0) else 0) * row x2 x3 x4 x5 e' p d := fun e' => by
    rw [← he, ← ref_weight, ← ref_row]
    refine congrArg₂ (· * ·) (congrArg _ ?_) (congrArg _ ?_)
    · funext a; match a with
      | ⟨0, _⟩ => rfl
      | ⟨1, _⟩ => rfl
    · funext a; match a with
      | ⟨0, _⟩ => rfl
      | ⟨1, _⟩ => rfl
      | ⟨2, _⟩ => rfl
  rw [val_main_v29_apply, val_main_v28_apply]
  refine (Finset.sum_congr rfl fun e' _ => hs e').trans ?_
  have word : ∀ e e' : Fin 8, BitVec.ofNat 32 e.val = BitVec.ofNat 32 e'.val ↔ e' = e := by decide
  rw [Finset.sum_eq_single e (fun e' _ hne => by rw [if_neg (fun q => hne ((word e e').1 q.1)), zero_mul])
    (fun q => absurd (Finset.mem_univ e) q)]
  by_cases hu : Scalar.cmpi .slt (BitVec.ofNat 32 (p.val / 1024)) (count x1) = 1#1
  · rw [if_pos ⟨rfl, hu⟩, if_pos hu, mul_comm]
  · rw [if_neg (fun q => hu q.2), if_neg hu, zero_mul]

end Cert.Experts

end
-- ==== Proof.ExpertsClaim.lean ====
/-
  The experts' claims: the reference's frame, and the call's value against the reference's.
-/
module

public import proofs.«01_k».proof.Defs
public import proofs.«01_k».proof.Proof.ExpertsRef
public import proofs.«01_k».proof.Proof.Gen.Reference2Ideal.Run

@[expose] public section

noncomputable section

namespace Cert.Experts

open Idealize.ShloMosaic Idealize.ShloMosaic.TcCoe Idealize.SL.Sem

/-- The reference's frame: its run read at the arguments; it declares no semaphore. -/
theorem frame_ref : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The reference's frame under the experts' precondition. -/
theorem frame_ref_pre : Cert.quiescent_Reference2Ideal_pre_experts_named := fun m ρ _ => frame_ref m ρ trivial

/-- The reference's result of the launch's arguments is the launch's. -/
theorem ref_res (m : (ℓ : Loc Cert.Kernel2Ideal.nD Cert.Kernel2Ideal.τ Cert.Kernel2Ideal.sig) → Buf (Elt Ideal) ℓ)
    (c : Dev Cert.Kernel2Ideal.nD) (hx : ∀ k, expert m k < 8) :
    Cert.Reference2Ideal.Read.val_main_v29 (F := Ideal) (V m c Cert.Kernel2Ideal.main_arg0) (V m c Cert.Kernel2Ideal.main_arg1)
      (V m c Cert.Kernel2Ideal.main_arg2) (V m c Cert.Kernel2Ideal.main_arg3) (V m c Cert.Kernel2Ideal.main_arg4)
      (V m c Cert.Kernel2Ideal.main_arg5) (V m c Cert.Kernel2Ideal.main_arg6) = res m c := by
  funext i
  obtain ⟨p, d, rfl⟩ : ∃ (p : Fin 73728) (d : Fin 2048), i = ix2 p d := ⟨i 0, i 1, eq_ix2 i⟩
  obtain rfl : c = 0 := Subsingleton.elim _ _
  refine (ref_out _ _ _ _ _ _ _ p d (ex m (p.val / 1024)) ?_).trans ?_
  · have h := hx (Fin.ofNat 72 (p.val / 1024))
    apply BitVec.eq_of_toNat_eq
    have e : (ex m (p.val / 1024)).val = expert m (Fin.ofNat 72 (p.val / 1024)) := Nat.mod_eq_of_lt h
    rw [e, BitVec.toNat_ofNat, Nat.mod_eq_of_lt (by omega)]
    rfl
  · have hw : count (V m 0 Cert.Kernel2Ideal.main_arg1) = nw m := by
      unfold nw Pipeline.Prefetch.Contents.atD
      refine Eq.trans ?_ (dif_pos (by decide : ∀ a : Fin 1, (![0] : Fin 1 → ℕ) a + 1 ≤ Cert.Kernel2Ideal.S1.size a)).symm
      exact congrArg (V m 0 Cert.Kernel2Ideal.main_arg1) (funext fun a => Fin.ext (by
        obtain rfl : a = 0 := Subsingleton.elim _ _; rfl))
    rw [hw]
    rfl

/-- Both runs end with the experts' rows. -/
theorem algebraic : Cert.algebraic_Kernel2Ideal_Reference2Ideal := by
  intro m g m' g' hpre hagree
  have hx := expert_lt m hpre
  have hO := ok_of_lt m hx
  refine ⟨fun c => res m c, ?_, ?_⟩
  · refine (θ_run Cert.Kernel2Ideal.defs _ _).mono (fun r h c => ⟨((h.1 c).1 5).trans (res_arr m hO c hx), ?_⟩) (run_main m g hO)
    exact ⟨(h.1 c).2 Cert.Kernel2Ideal.main_arg0 (by decide : Cert.Kernel2Ideal.main_arg0 ∈ Pipeline.restRefs Cert.Kernel2Ideal.sig Cert.Kernel2Ideal.spec0),
      (h.1 c).2 Cert.Kernel2Ideal.main_arg1 (by decide : Cert.Kernel2Ideal.main_arg1 ∈ Pipeline.restRefs Cert.Kernel2Ideal.sig Cert.Kernel2Ideal.spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3)),
      ((h.1 c).1 4).trans (((dats m hO 0 c).arrAt_in 4 rfl _).trans (A_eq m hO c 4))⟩
  · refine (θ_run Cert.Reference2Ideal.defs _ _).mono (fun r h c => ⟨(h c).1.trans ?_, (h c).2⟩)
      (Cert.Reference2Ideal.Value.run (F := Ideal) m' g')
    obtain ⟨e0, e1, e2, e3, e4, e5, e6⟩ := hagree c
    rw [Cert.Reference2Ideal.Read.val_main_v29_eq, e0, e1, e2, e3, e4, e5, e6]
    exact ref_res m c hx

end Cert.Experts

end
-- ==== Proof.ProjIn.lean ====
/-
  The in-projection's call: over the extended reals, its output array is the product of the rows with the weights, their
  columns arranged as the layer's parts take them, and zero in the columns past them.
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.Frame
public import Idealize.ShloMosaic.Lib.Pipeline.ValueKit
public import Idealize.ShloMosaic.Lib.Pointwise
public import Idealize.ShloMosaic.PureOps.Ideal.Laws

@[expose] public section

noncomputable section

namespace Cert.ProjIn

open Cert.Kernel3Ideal Cert.Kernel3Ideal.Gen
open Idealize.ShloMosaic Idealize.ShloMosaic.TcCoe Idealize.SL.Sem
open scoped BigOperators

/-- A value per source column, read at a result column: the queries' and gates' columns first, then the convolution's, then
    the compressed keys', then zeros. -/
def arranged (p : Fin 3904 → EReal) (j : Fin 4096) : EReal :=
  if j.val < 2048 then p (Fin.ofNat 3904 j.val)
  else if j.val < 3584 then p (Fin.ofNat 3904 (j.val + 320))
  else if j.val < 3904 then p (Fin.ofNat 3904 (j.val - 1536))
  else 0

/-- Four pieces laid side by side, as the host takes them. -/
theorem pieces (p : Fin 3904 → EReal) (j : Fin 4096) :
    (if h : j.val < 2048 then p ⟨j.val, by omega⟩
      else if h : j.val - 2048 < 1536 then p ⟨2368 + (j.val - 2048), by omega⟩
      else if h : j.val - 2048 - 1536 < 320 then p ⟨2048 + (j.val - 2048 - 1536), by omega⟩ else 0) = arranged p j := by
  have at_val : ∀ (a b : ℕ) (ha : a < 3904), a = b → p ⟨a, ha⟩ = p (Fin.ofNat 3904 b) := by
    rintro a _ ha rfl
    exact congrArg p (Fin.ext (Nat.mod_eq_of_lt ha).symm)
  unfold arranged
  split_ifs <;> first | omega | exact at_val _ _ _ (by omega) | with_reducible rfl

/-- Arranging the weights' columns arranges the products' columns. -/
theorem arranged_sum (x : Fin 2048 → EReal) (w : Fin 2048 → Fin 3904 → EReal) (j : Fin 4096) :
    ∑ k, x k * arranged (w k) j = arranged (fun l => ∑ k, x k * w k l) j := by
  unfold arranged
  by_cases h1 : j.val < 2048
  · simp only [if_pos h1]
  by_cases h2 : j.val < 3584
  · simp only [if_neg h1, if_pos h2]
  by_cases h3 : j.val < 3904
  · simp only [if_neg h1, if_neg h2, if_pos h3]
  · simp only [if_neg h1, if_neg h2, if_neg h3, mul_zero, Finset.sum_const_zero]

/-- A point's product of a block of rows with a block of columns. -/
theorem pay_apply (x0 : S1024x2048.Idx → EReal) (x1 : S2048x1024.Idx → EReal) (r d : Fin 1024) :
    (k0_pay1 (F := Ideal) x0 x1 : S1024x1024.Idx → EReal) (ix2 r d) = ∑ k : Fin 2048, x0 (ix2 r k) * x1 (ix2 k d) := by
  unfold k0_pay1
  pointwise

theorem index_0 : ∀ t : Fin cfg0.N, (cfg0.win 0).index t = ![t.val / 4, 0] :=
  (by decide +kernel : ∀ t : Fin grid0.N, win0_0.index t = ![t.val / 4, 0])
theorem index_1 : ∀ t : Fin cfg0.N, (cfg0.win 1).index t = ![0, t.val % 4] :=
  (by decide +kernel : ∀ t : Fin grid0.N, win0_1.index t = ![0, t.val % 4])
theorem index_2 : ∀ t : Fin cfg0.N, (cfg0.win 2).index t = ![t.val / 4, t.val % 4] :=
  (by decide +kernel : ∀ t : Fin grid0.N, win0_2.index t = ![t.val / 4, t.val % 4])

variable (m : (ℓ : Loc nD τ sig) → Buf (Elt Ideal) ℓ) (c : Dev nD)

/-- The layer's rows. -/
abbrev rows : S32768x2048.Idx → EReal := m ((c : Thread nD τ).loc main_arg0)
/-- The weights. -/
abbrev weights : S2048x3904.Idx → EReal := m ((c : Thread nD τ).loc main_arg1)

/-- The host's arrangement of the weights. -/
def placed (w : S2048x3904.Idx → EReal) : S2048x4096.Idx → EReal :=
  concatenate S2048x4096 1
    [⟨S2048x2048, extractStridedSlice S2048x2048 ![0, 0] w slices_S2048x3904_S2048x2048_0_0⟩,
      ⟨S2048x1536, extractStridedSlice S2048x1536 ![0, 2368] w slices_S2048x3904_S2048x1536_0_2368⟩,
      ⟨S2048x320, extractStridedSlice S2048x320 ![0, 2048] w slices_S2048x3904_S2048x320_0_2048⟩,
      ⟨S2048x192, broadcastInDim S2048x192 ![] bcast_S_S2048x192 (constant (F := Ideal) S_ .f32 0x00000000#32)⟩]
    concatenates_S2048x2048_S2048x1536_S2048x320_S2048x192_S2048x4096_d1

theorem placed_apply (w : S2048x3904.Idx → EReal) (k : Fin 2048) (j : Fin 4096) :
    placed w (ix2 k j) = arranged (fun l => w (ix2 k l)) j := by
  refine Eq.trans ?_ (pieces _ j)
  unfold placed
  pointwise

/-- The weights the call is launched with: the host's cast of them changes nothing. -/
theorem V_weights : (V m c main_v5 : S2048x4096.Idx → EReal) = placed (weights m c) := rfl

theorem block_0 (t : Fin cfg0.N) (r : Fin 1024) (k : Fin 2048) (i : Fin 32768) (hi : i.val = t.val / 4 * 1024 + r.val) :
    iblk m c 0 t (ix2 r k) = V m c main_arg0 (ix2 i k) := by
  blk_ext! [iblk, index_0 t]
theorem block_1 (t : Fin cfg0.N) (k : Fin 2048) (d : Fin 1024) (j : Fin 4096) (hj : j.val = t.val % 4 * 1024 + d.val) :
    iblk m c 1 t (ix2 k d) = V m c main_v5 (ix2 k j) := by
  blk_ext! [iblk, index_1 t]

/-- The product of the rows with the weights, its columns arranged. -/
def res : S32768x4096.Idx → EReal := fun i =>
  arranged (fun l => ∑ k : Fin 2048, rows m c (ix2 (i 0) k) * weights m c (ix2 k l)) (i 1)

/-- The run leaves the arranged product in the output array. -/
theorem res_arr : (dats m 0 c).arrAt 2 cfg0.N = res m c := by
  refine (dats m 0 c).arrAt_eq_of_covers 2 _ (by decide +kernel) fun t hf y => ?_
  have ht : t.val < 128 := t.isLt
  obtain ⟨r, d, rfl⟩ : ∃ (r d : Fin 1024), y = (ix2 r d : S1024x1024.Idx) := ⟨y (0 : Fin 2), y (1 : Fin 2), eq_ix2 _⟩
  blk_simp
  rw [after0_2]
  frame_out
  have hr := r.isLt
  have hd := d.isLt
  refine (pay_apply _ _ r d).trans ?_
  refine Eq.trans (Finset.sum_congr rfl fun k _ => congrArg₂ (· * ·)
    (block_0 m c t r k ⟨t.val / 4 * 1024 + r.val, by omega⟩ rfl)
    ((block_1 m c t k d ⟨t.val % 4 * 1024 + d.val, by omega⟩ rfl).trans
      ((congrFun (V_weights m c) _).trans (placed_apply (weights m c) k _)))) ?_
  rw [V_main_arg0]
  refine (arranged_sum _ (fun k l => weights m c (ix2 k l)) _).trans ?_
  refine (congrArg (res m c) ?_ : res m c (ix2 ⟨t.val / 4 * 1024 + r.val, by omega⟩ ⟨t.val % 4 * 1024 + d.val, by omega⟩) = _)
  blk_ext! [index_2 t]

/-- The kernel's frame, read on the machine. -/
theorem frame_p : Cert.quiescent_Kernel3 := fun m ρ _ => Cert.Kernel3.Gen.frame (F := Bits) m ρ

/-- The kernel's frame, read on the extended reals. -/
theorem frame_pi : Cert.quiescent_Kernel3Ideal := fun m ρ _ => Cert.Kernel3Ideal.Gen.frame (F := Ideal) m ρ

/-- The reference's frame: its run read at the arguments; it declares no semaphore. -/
theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The reference's parts laid side by side, read at a column. -/
theorem ref_parts (x : S32768x2048.Idx → EReal) (w : S2048x3904.Idx → EReal) (r : Fin 32768) (j : Fin 4096) :
    (Cert.Reference3Ideal.Read.val_main_v6 (F := Ideal) x w : S32768x4096.Idx → EReal) (ix2 r j)
      = arranged (fun l => (Cert.Reference3Ideal.Read.val_main_v1 (F := Ideal) x w : Cert.Reference3Ideal.S32768x3904.Idx → EReal) (ix2 r l)) j := by
  refine Eq.trans ?_ (pieces _ j)
  unfold Cert.Reference3Ideal.Read.val_main_v6 Cert.Reference3Ideal.Read.val_main_v2 Cert.Reference3Ideal.Read.val_main_v3
    Cert.Reference3Ideal.Read.val_main_v4 Cert.Reference3Ideal.Read.val_main_v5 Cert.Reference3Ideal.Read.val_main_cst
  generalize Cert.Reference3Ideal.Read.val_main_v1 (F := Ideal) x w = y
  pointwise

/-- The reference's result of the launch's arguments is the launch's. -/
theorem ref_res : Cert.Reference3Ideal.Read.val_main_v7 (F := Ideal) (rows m c) (weights m c) = res m c := by
  funext i
  obtain ⟨r, j, rfl⟩ : ∃ (r : Fin 32768) (j : Fin 4096), i = (ix2 r j : S32768x4096.Idx) := ⟨i (0 : Fin 2), i (1 : Fin 2), eq_ix2 _⟩
  refine (ref_parts (rows m c) (weights m c) r j).trans (congrArg (arranged · j) (funext fun l => ?_))
  refine (Cert.Reference3Ideal.Read.val_main_v1_apply _ _ _).trans (Finset.sum_congr rfl fun k _ => congrArg₂ (· * ·) ?_ ?_)
  · exact congrArg (rows m c) (eq_ix2 _)
  · exact congrArg (weights m c) (eq_ix2 _)

/-- Both runs end with the arranged product. -/
theorem algebraic : Cert.algebraic_Kernel3Ideal_Reference3Ideal := by
  intro m g m' g' hpre hagree
  refine ⟨fun c => res m c, ?_, ?_⟩
  · exact (θ_run Cert.Kernel3Ideal.defs _ _).mono (fun r h c => ⟨(h c).1.trans (res_arr m c), (h c).2⟩)
      (Cert.Kernel3Ideal.Value.run_blocks (F := Ideal) m g)
  · refine (θ_run Cert.Reference3Ideal.defs _ _).mono (fun r h c => ⟨(h c).1.trans ?_, (h c).2⟩)
      (Cert.Reference3Ideal.Value.run (F := Ideal) m' g')
    obtain ⟨e0, e1⟩ := hagree c
    rw [Cert.Reference3Ideal.Read.val_main_v7_eq, e0, e1]
    exact ref_res m c

end Cert.ProjIn

end
-- ==== Proof.ProjOut.lean ====
/-
  The out-projection's call: over the extended reals, its output array is the product of the mixed rows with the weights.
-/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.Frame
public import Idealize.ShloMosaic.Lib.Pipeline.ValueKit
public import Idealize.ShloMosaic.Lib.Pointwise
public import Idealize.ShloMosaic.PureOps.Ideal.Laws

@[expose] public section

noncomputable section

namespace Cert.ProjOut

open Cert.Kernel4Ideal Cert.Kernel4Ideal.Gen
open Idealize.ShloMosaic Idealize.ShloMosaic.TcCoe Idealize.SL.Sem
open scoped BigOperators

/-- A point's product of a block of rows with a block of columns. -/
theorem pay_apply (x0 : S1024x2048.Idx → EReal) (x1 : S2048x1024.Idx → EReal) (r d : Fin 1024) :
    (k0_pay1 (F := Ideal) x0 x1 : S1024x1024.Idx → EReal) (ix2 r d) = ∑ k : Fin 2048, x0 (ix2 r k) * x1 (ix2 k d) := by
  unfold k0_pay1
  pointwise

theorem index_0 : ∀ t : Fin cfg0.N, (cfg0.win 0).index t = ![t.val / 2, 0] :=
  (by decide +kernel : ∀ t : Fin grid0.N, win0_0.index t = ![t.val / 2, 0])
theorem index_1 : ∀ t : Fin cfg0.N, (cfg0.win 1).index t = ![0, t.val % 2] :=
  (by decide +kernel : ∀ t : Fin grid0.N, win0_1.index t = ![0, t.val % 2])
theorem index_2 : ∀ t : Fin cfg0.N, (cfg0.win 2).index t = ![t.val / 2, t.val % 2] :=
  (by decide +kernel : ∀ t : Fin grid0.N, win0_2.index t = ![t.val / 2, t.val % 2])

variable (m : (ℓ : Loc nD τ sig) → Buf (Elt Ideal) ℓ) (c : Dev nD)

/-- The mixed rows. -/
abbrev rows : S32768x2048.Idx → EReal := m ((c : Thread nD τ).loc main_arg0)
/-- The weights. -/
abbrev weights : S2048x2048.Idx → EReal := m ((c : Thread nD τ).loc main_arg1)

/-- The weights the call is launched with: the host's cast of them changes nothing. -/
theorem V_weights : (V m c main_v0 : S2048x2048.Idx → EReal) = weights m c := rfl

theorem block_0 (t : Fin cfg0.N) (r : Fin 1024) (k : Fin 2048) (i : Fin 32768) (hi : i.val = t.val / 2 * 1024 + r.val) :
    iblk m c 0 t (ix2 r k) = V m c main_arg0 (ix2 i k) := by
  blk_ext! [iblk, index_0 t]
theorem block_1 (t : Fin cfg0.N) (k : Fin 2048) (d : Fin 1024) (j : Fin 2048) (hj : j.val = t.val % 2 * 1024 + d.val) :
    iblk m c 1 t (ix2 k d) = V m c main_v0 (ix2 k j) := by
  blk_ext! [iblk, index_1 t]

/-- The product of the rows with the weights. -/
def res : S32768x2048.Idx → EReal := fun i => ∑ k : Fin 2048, rows m c (ix2 (i 0) k) * weights m c (ix2 k (i 1))

/-- The run leaves the product in the output array. -/
theorem res_arr : (dats m 0 c).arrAt 2 cfg0.N = res m c := by
  refine (dats m 0 c).arrAt_eq_of_covers 2 _ (by decide +kernel) fun t hf y => ?_
  have ht : t.val < 64 := t.isLt
  obtain ⟨r, d, rfl⟩ : ∃ (r d : Fin 1024), y = (ix2 r d : S1024x1024.Idx) := ⟨y (0 : Fin 2), y (1 : Fin 2), eq_ix2 _⟩
  blk_simp
  rw [after0_2]
  frame_out
  have hr := r.isLt
  have hd := d.isLt
  refine (pay_apply _ _ r d).trans ?_
  refine Eq.trans (Finset.sum_congr rfl fun k _ => congrArg₂ (· * ·)
    (block_0 m c t r k ⟨t.val / 2 * 1024 + r.val, by omega⟩ rfl)
    (block_1 m c t k d ⟨t.val % 2 * 1024 + d.val, by omega⟩ rfl)) ?_
  rw [V_main_arg0]
  refine (congrArg (res m c) ?_ : res m c (ix2 ⟨t.val / 2 * 1024 + r.val, by omega⟩ ⟨t.val % 2 * 1024 + d.val, by omega⟩) = _)
  blk_ext! [index_2 t]

/-- The kernel's frame, read on the machine. -/
theorem frame_p : Cert.quiescent_Kernel4 := fun m ρ _ => Cert.Kernel4.Gen.frame (F := Bits) m ρ

/-- The kernel's frame, read on the extended reals. -/
theorem frame_pi : Cert.quiescent_Kernel4Ideal := fun m ρ _ => Cert.Kernel4Ideal.Gen.frame (F := Ideal) m ρ

/-- The reference's frame: its run read at the arguments; it declares no semaphore. -/
theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The reference's result of the launch's arguments is the launch's. -/
theorem ref_res : Cert.Reference4Ideal.Read.val_main_v2 (F := Ideal) (rows m c) (weights m c) = res m c := by
  funext i
  refine (Cert.Reference4Ideal.Read.val_main_v1_apply _ _ i).trans (Finset.sum_congr rfl fun k _ => congrArg₂ (· * ·) ?_ ?_)
  · exact congrArg (rows m c) (eq_ix2 _)
  · exact congrArg (weights m c) (eq_ix2 _)

/-- Both runs end with the product. -/
theorem algebraic : Cert.algebraic_Kernel4Ideal_Reference4Ideal := by
  intro m g m' g' hpre hagree
  refine ⟨fun c => res m c, ?_, ?_⟩
  · exact (θ_run Cert.Kernel4Ideal.defs _ _).mono (fun r h c => ⟨(h c).1.trans (res_arr m c), (h c).2⟩)
      (Cert.Kernel4Ideal.Value.run_blocks (F := Ideal) m g)
  · refine (θ_run Cert.Reference4Ideal.defs _ _).mono (fun r h c => ⟨(h c).1.trans ?_, (h c).2⟩)
      (Cert.Reference4Ideal.Value.run (F := Ideal) m' g')
    obtain ⟨e0, e1⟩ := hagree c
    rw [Cert.Reference4Ideal.Read.val_main_v2_eq, e0, e1]
    exact ref_res m c

end Cert.ProjOut

end
-- ==== Proof.DenseRun.lean ====
/-
  One run of the dense feed-forward's body. It is launched with every row tile in use, so at every point it adds one block's
  contribution to the scratch; it clears the scratch first at a tile's first block and writes the output block at its last.
-/
module

public import proofs.«01_k».proof.Proof.Gen.Kernel5Ideal
public import proofs.«01_k».proof.Proof.Gen.Kernel5Ideal.Skeleton
public import proofs.«01_k».proof.Proof.Gen.Kernel5Ideal.Launch
public import Idealize.ShloMosaic.Lib.Pipeline.FrameBody
public import Idealize.ShloMosaic.Lib.Pipeline.ValueKit
public import Idealize.ShloMosaic.Lib.Pipeline.ReadBack
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384

noncomputable section

namespace Cert.Dense

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables: the tiles' weights (all the same ones) and the number of tiles in use (all of them). -/
abbrev which : Memref sig .tc .smem S32 .i32 := Memref.whole main_v6
abbrev count : Memref sig .tc .smem S1 .i32 := Memref.whole main_v7

/-- A table held at half the full share, at contents `f`. -/
abbrev tableAt (c : Dev nD) {S : Shape} (M : Memref sig .tc .smem S .i32) (f : Buf (Elt F) (M.view.loc (c : Thread nD τ))) : sProp 𝕄 :=
  M.view.loc (c : Thread nD τ) ↦{fullShare.right} f

/-- The word the body reads from the second table. -/
abbrev word (c : Dev nD) (T : Buf (Elt F) (count.view.loc (c : Thread nD τ))) : BitVec 32 :=
  View.readAt (Elt F) count.view (Rect.unit (s := S1) ![0] S1.size inb_S1_S1_0).toLoadRect T
    (Shape.Idx.first (numel1_S1.symm ▸ Nat.one_pos))

/-- The branches' conditions: the tile is in use, and it is moreover at its first block, or at its last. -/
abbrev inUse (i : grid0.Coords) (w : BitVec 32) : Prop :=
  Scalar.cmpi .ne (Scalar.extui (Scalar.cmpi .slt (BitVec.ofNat 32 (i 0).val) w)) 0#32 = 1#1
abbrev first (i : grid0.Coords) (w : BitVec 32) : Prop :=
  Scalar.cmpi .ne (Scalar.extui (Scalar.andi (Scalar.cmpi .slt (BitVec.ofNat 32 (i 0).val) w)
    (Scalar.cmpi .eq (BitVec.ofNat 32 (i 1).val) 0#32))) 0#32 = 1#1
abbrev last (i : grid0.Coords) (w : BitVec 32) : Prop := k0_cond3 i w = 1#1
/-- The tile is not in use and at its last block. -/
abbrev skipped (i : grid0.Coords) (w : BitVec 32) : Prop := k0_cond4 i w = 1#1

variable (c : Dev nD) (i : grid0.Coords)
  (arg4 : Memref sig .tc .vmem S1024x2048 .bf16) (harg4 : arg4.IsWhole)
  (arg5 : Memref sig .tc .vmem S1x2048x512 .bf16) (harg5 : arg5.IsWhole)
  (arg6 : Memref sig .tc .vmem S1x2048x512 .bf16) (harg6 : arg6.IsWhole)
  (arg7 : Memref sig .tc .vmem S1x512x2048 .bf16) (harg7 : arg7.IsWhole)
  (arg8 : Memref sig .tc .vmem S1024x1 .f32) (harg8 : arg8.IsWhole)
  (arg9 : Memref sig .tc .vmem S1024x2048 .bf16) (harg9 : arg9.IsWhole)
  (arg10 : Memref sig .tc .vmem S1024x2048 .f32) (harg10 : arg10.IsWhole)
  (x0 : Vec F S1024x2048 .bf16) (x1 : Vec F S1x2048x512 .bf16) (x2 : Vec F S1x2048x512 .bf16)
  (x3 : Vec F S1x512x2048 .bf16) (x4 : Vec F S1024x1 .f32)
  (T0 : Buf (Elt F) (which.view.loc (c : Thread nD τ))) (T1 : Buf (Elt F) (count.view.loc (c : Thread nD τ)))
  (y : Vec F S1024x2048 .bf16) (s : Vec F S1024x2048 .f32)

/-- What the body is run on, with `y` in the output block and `s` in the scratch. -/
abbrev held : sProp 𝕄 :=
  iprop(owns (c : Thread nD τ) arg4 fullShare x0 ∗ owns (c : Thread nD τ) arg5 fullShare x1
    ∗ owns (c : Thread nD τ) arg6 fullShare x2 ∗ owns (c : Thread nD τ) arg7 fullShare x3
    ∗ owns (c : Thread nD τ) arg8 fullShare x4 ∗ owns (c : Thread nD τ) arg9 fullShare y
    ∗ owns (c : Thread nD τ) arg10 fullShare s ∗ tableAt c which T0 ∗ tableAt c count T1)

/-- What a run leaves in the scratch, -/
def sumAfter (w : BitVec 32) : Vec F S1024x2048 .f32 := k0_pay2 x0 x1 x2 (if first i w then k0_pay1 else s) x3

/-- and in the output block. -/
def outAfter (w : BitVec 32) : Vec F S1024x2048 .bf16 := if last i w then k0_pay3 (sumAfter i x0 x1 x2 x3 s w) x4 else y

/-- A whole-shape store is all that is read back. -/
theorem covers {e : EltTy} (p : View.Piece (Elt F) S1024x2048 e) (h : p.1 = Rect.unit ![0, 0] S1024x2048.size inb_S1024x2048_S1024x2048_0_0)
    (L : List (View.Piece (Elt F) S1024x2048 e)) (z : S1024x2048.Idx) : ∃ q ∈ p :: L, z ∈ q.1.set :=
  ⟨p, List.mem_cons_self, by rw [h]; exact View.mem_set_unit_zero (View.eq_zero_of_forall (by decide)) _ z⟩

set_option maxHeartbeats 16000000 in
/-- One run of the body at a tile in use. -/
theorem run (hu : inUse i (word c T1)) (hn : ¬skipped i (word c T1)) (E : Set ℕ) (K : PUnit → sProp 𝕄) :
    iprop(held c arg4 arg5 arg6 arg7 arg8 arg9 arg10 x0 x1 x2 x3 x4 T0 T1 y s
        ∗ (held c arg4 arg5 arg6 arg7 arg8 arg9 arg10 x0 x1 x2 x3 x4 T0 T1 (outAfter i x0 x1 x2 x3 x4 y s (word c T1))
            (sumAfter i x0 x1 x2 x3 s (word c T1)) -∗ K ⟨⟩))
      ⊢ wp frame (wpE (defs₀ (F := F)) Variants.none c none) E
          (cc0_swiglu_ffn i which (Memref.isWhole_whole _) count (Memref.isWhole_whole _) arg4 harg4 arg5 harg5 arg6 harg6
            arg7 harg7 arg8 harg8 arg9 harg9 arg10 harg10) K := by
  unfold held
  simp only [cc0_swiglu_ffn_eq_skeleton]; unfold cc0_swiglu_ffn_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT0, HT1⟩, Hk⟩
  obtain rfl := harg4.eq_unread hf0; obtain rfl := harg5.eq_unread hf1; obtain rfl := harg6.eq_unread hf2
  obtain rfl := harg7.eq_unread hf3; obtain rfl := harg8.eq_unread hf4; obtain rfl := harg9.eq_unread hf5
  obtain rfl := harg10.eq_unread hf6
  by_cases h0 : first i (word c T1) <;> by_cases h2 : last i (word c T1)
  all_goals
    sl_exec (disch := first | sl_exact h0 | sl_exact hu | sl_exact h2 | sl_exact hn)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr
      swap; · iexact H5
      ipureintro
      try frame_open
      first
        | rw [View.read_writes_eq_canon _ _ _ (fun z => covers _ rfl _ z)]
          simp (disch := decide) only [View.canon_cons_unit_lit',
            View.ld_unit_lit', View.readCov_unit_lit', View.readCov_cons_unit_lit', View.readAt_eq_ld,
            Memref.IsWhole.read_unread]
        | rw [Memref.IsWhole.read_unread]
      unfold outAfter sumAfter; split_ifs <;> rfl
    isplitl [H6]
    · iexists _; isplitr
      swap; · iexact H6
      ipureintro
      try frame_open
      rw [View.read_writes_eq_canon _ _ _ (fun z => covers _ rfl _ z)]
      simp (disch := decide) only [View.canon_cons_unit_lit',
        View.ld_unit_lit', View.readCov_unit_lit', View.readCov_cons_unit_lit', View.readAt_eq_ld,
        Memref.IsWhole.read_unread]
      unfold sumAfter; split_ifs; rfl
    isplitl [HT0]; · iexact HT0
    iexact HT1

end Cert.Dense

end
-- ==== Proof.DenseFrame.lean ====
/-
  The dense feed-forward's launch. Its tables are constants the host writes: every tile names the one weight stack, and
  all 32 tiles are in use. After a block of a tile the scratch holds the sum over the tile's blocks so far, and the
  output block is written at the tile's last block.
-/
module

public import proofs.«01_k».proof.Proof.DenseRun
public import Idealize.ShloMosaic.Lib.Pipeline.Kit
public import Idealize.ShloMosaic.Lib.Claim
import Idealize.ShloMosaic.Lib.Pointwise.ShapeOpsCore

@[expose] public section

set_option maxRecDepth 16384

noncomputable section

namespace Cert.Dense

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branches, with all tiles in use -/

theorem always_used : ∀ t : Fin grid0.N, inUse (grid0.coords t) 32#32 := by decide +kernel
theorem never_skipped : ∀ t : Fin grid0.N, ¬skipped (grid0.coords t) 32#32 := by decide +kernel
theorem first_iff : ∀ t : Fin grid0.N, first (grid0.coords t) 32#32 ↔ t.val % 11 = 0 := by decide +kernel
theorem last_iff : ∀ t : Fin grid0.N, last (grid0.coords t) 32#32 ↔ t.val % 11 = 10 := by decide +kernel

/-! ## The tables and the windows' index maps -/

/-- The contents the host writes to the tables. -/
def consts : pre0.Contents (Elt F)
  | ⟨0, _⟩ => fun _ => (0#32 : BitVec 32)
  | ⟨1, _⟩ => fun _ => (32#32 : BitVec 32)

/-- A weight's window takes the point's own block of the hidden width. -/
theorem own_block : ∀ i : grid0.Coords,
    (Scalar.select (Scalar.cmpi .slt (BitVec.ofNat 32 (i 0).val) 32#32) (BitVec.ofNat 32 (i 1).val) 10#32 : BitVec 32).toNat
      = (i 1).val := by
  exact fun i => (by decide : ∀ a < 32, ∀ b < 11,
    (Scalar.select (Scalar.cmpi .slt (BitVec.ofNat 32 a) 32#32) (BitVec.ofNat 32 b) 10#32 : BitVec 32).toNat = b)
    (i 0).val (i 0).isLt (i 1).val (i 1).isLt

theorem ix_1 (i : grid0.Coords) :
    cc0_transform_1 k0_off1_inb numel1_S1 inb_S1_S1_0 (consts (F := F)) i = ![0, 0, (i 1).val] := by
  conv_rhs => rw [← own_block i]
  rfl
theorem ix_2 (i : grid0.Coords) :
    cc0_transform_2 k0_off1_inb numel1_S1 inb_S1_S1_0 (consts (F := F)) i = ![0, 0, (i 1).val] := by
  conv_rhs => rw [← own_block i]
  rfl
theorem ix_3 (i : grid0.Coords) :
    cc0_transform_3 k0_off1_inb numel1_S1 inb_S1_S1_0 (consts (F := F)) i = ![0, (i 1).val, 0] := by
  conv_rhs => rw [← own_block i]
  rfl

/-- The launch admits the tables. -/
theorem consts_ok : ok0 (F := F) consts := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have h1 : (i 1).val < 11 := (i 1).isLt
    simp only [ix_1, ix_2, ix_3]
    fin_cases a
  · show (0 + 1) * 1 ≤ 1; omega
  · show (0 + 1) * 2048 ≤ 2048; omega
  · show ((i 1).val + 1) * 512 ≤ 5632; omega
  · show (0 + 1) * 1 ≤ 1; omega
  · show (0 + 1) * 2048 ≤ 2048; omega
  · show ((i 1).val + 1) * 512 ≤ 5632; omega
  · show (0 + 1) * 1 ≤ 1; omega
  · show ((i 1).val + 1) * 512 ≤ 5632; omega
  · show (0 + 1) * 2048 ≤ 2048; omega

abbrev adm : (pcfg0 (F := F)).Adm := ⟨consts, consts_ok⟩
abbrev cfgK : Pipeline.Cfg sig Λ₀ := cfg0 (adm (F := F))

theorem flush5 (t : Fin (cfgK (F := F)).N) : ((cfgK (F := F)).win 5).flush t = true ↔ t.val % 11 = 10 :=
  (by decide +kernel : ∀ t : Fin grid0.N, Pipeline.Window.flushOf grid0 true cc0_transform_5 t = true ↔ t.val % 11 = 10) t

/-- The output block is written at a tile's last block only. -/
theorem idle5 (t : Fin (cfgK (F := F)).N) : (cfgK (F := F)).idle 5 (grid0.coords t) = !decide (t.val % 11 = 10) := by
  show (!(k0_cond3 (grid0.coords t) 32#32 == 1#1) && !(k0_cond4 (grid0.coords t) 32#32 == 1#1)) = _
  rw [beq_false_of_ne (never_skipped t), Bool.not_false, Bool.and_true]
  by_cases h : t.val % 11 = 10
  · rw [beq_iff_eq.2 ((last_iff t).2 h), decide_eq_true h]
  · rw [beq_false_of_ne fun q => h ((last_iff t).1 q), decide_eq_false h]

variable (m : (ℓ : Loc nD τ sig) → Buf (Elt F) ℓ) (ρ : Dev nD → PrngReg)

/-- A core's buffers when the launch begins: after the host's operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host's operations leave a buffer none of them writes. -/
theorem V_of_not_written (c : Dev nD) (b : Ref sig .tc)
    (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

/-- The host writes none of the program's arguments. -/
theorem not_written (b : Ref sig .tc) (hb : b = main_arg0 ∨ b = main_arg1 ∨ b = main_arg2 ∨ b = main_arg3) :
    (hostOps0 : List (HloOp τ sig (Elt F))).Forall fun op => Proc.devRef .tc b ∉ op.writes := by
  simp only [hostOps0, List.Forall, StableHlo.nullary_writes, StableHlo.unary_writes, Finset.mem_singleton]
  rcases hb with rfl | rfl | rfl | rfl
  all_goals
    repeat' apply And.intro
    all_goals exact StableHlo.devRef_ne_of_ne (by decide)

theorem V_pre (c : Dev nD) (j : Fin 2) : V m c (pre0.ref j) = consts j := by
  fin_cases j
  · show V m c main_v6 = fun _ => (0#32 : BitVec 32); rfl
  · show V m c main_v7 = fun _ => (32#32 : BitVec 32); rfl

theorem tables (c : Dev nD) :
    (Pipeline.ΦT pre0 consts c : sProp 𝕄) = iprop(tableAt c which (consts 0) ∗ tableAt c count (consts 1)) := by
  unfold Pipeline.ΦT Pipeline.prefHeld
  rw [show (Finset.univ : Finset (Fin 2)) = insert (0 : Fin 2) {(1 : Fin 2)} from by decide,
    bigSep_insert (by decide), bigSep_singleton]
  rfl

/-- The number of tiles in use, as the body reads it. -/
theorem word_eq (c : Dev nD) : word (F := F) c (consts 1) = 32#32 := rfl

/-! ## What the points leave -/

/-- Window `w`'s block at point `t`. -/
def iblk (c : Dev nD) (w : Fin (cfgK (F := F)).W) (t : Fin (cfgK (F := F)).N) :
    (((cfgK (F := F)).win w).xblock ((cfgK (F := F)).grid.coords t)).Idx → Elt F ((cfgK (F := F)).win w).elt :=
  (((cfgK (F := F)).win w).blk t).view.read (Elt F) (V m c (Pipeline.arrRef spec0 w))

/-- A point's contribution added to `s`. -/
abbrev add (c : Dev nD) (t : Fin (cfgK (F := F)).N) (s : Vec F S1024x2048 .f32) : Vec F S1024x2048 .f32 :=
  k0_pay2 (iblk m c 0 t) (iblk m c 1 t) (iblk m c 2 t) s (iblk m c 3 t)

/-- The sum over a tile's blocks so far, after point `n`. -/
def acc (c : Dev nD) : (n : ℕ) → n < (cfgK (F := F)).N → Vec F S1024x2048 .f32
  | 0, h => add m c ⟨0, h⟩ k0_pay1
  | n + 1, h => add m c ⟨n + 1, h⟩ (if (n + 1) % 11 = 0 then k0_pay1 else acc c n (Nat.lt_of_succ_lt h))

theorem acc_first (c : Dev nD) (t : Fin (cfgK (F := F)).N) (h : t.val % 11 = 0) : acc m c t.val t.isLt = add m c t k0_pay1 := by
  obtain ⟨n, hn⟩ := t
  cases n with
  | zero => rfl
  | succ n => simp only [acc]; rw [if_pos h]

theorem acc_next (c : Dev nD) (n : ℕ) (hn : n + 1 < (cfgK (F := F)).N) (h : ¬(n + 1) % 11 = 0) :
    acc m c (n + 1) hn = add m c ⟨n + 1, hn⟩ (acc m c n (Nat.lt_of_succ_lt hn)) := by
  simp only [acc]; rw [if_neg h]

/-- What the scratch holds before point `n`: after a point, the sum so far. -/
def Holds (c : Dev nD) (n : ℕ) (s : Vec F S1024x2048 .f32) : Prop :=
  ∀ k (hk : k < (cfgK (F := F)).N), n = k + 1 → s = acc m c k hk

theorem sum_step (c : Dev nD) (t : Fin (cfgK (F := F)).N) (s : Vec F S1024x2048 .f32) (h : Holds m c t.val s) :
    sumAfter (grid0.coords t) (iblk m c 0 t) (iblk m c 1 t) (iblk m c 2 t) (iblk m c 3 t) s 32#32 = acc m c t.val t.isLt := by
  unfold sumAfter
  by_cases h0 : t.val % 11 = 0
  · rw [if_pos ((first_iff t).2 h0), acc_first m c t h0]
  · rw [if_neg fun q => h0 ((first_iff t).1 q)]
    obtain ⟨n, hn⟩ := t
    cases n with
    | zero => exact absurd rfl h0
    | succ n => rw [h n (Nat.lt_of_succ_lt hn) rfl, acc_next m c n hn h0]

/-- The block written at a tile's last point. -/
def out (c : Dev nD) (t : Fin (cfgK (F := F)).N) : Vec F S1024x2048 .bf16 := k0_pay3 (acc m c t.val t.isLt) (iblk m c 4 t)

theorem out_step (c : Dev nD) (t : Fin (cfgK (F := F)).N) (y : Vec F S1024x2048 .bf16) (s : Vec F S1024x2048 .f32)
    (h : Holds m c t.val s) (hl : t.val % 11 = 10) :
    outAfter (grid0.coords t) (iblk m c 0 t) (iblk m c 1 t) (iblk m c 2 t) (iblk m c 3 t) (iblk m c 4 t) y s 32#32 = out m c t := by
  unfold outAfter out
  rw [if_pos ((last_iff t).2 hl), sum_step m c t s h]

theorem out_idle (c : Dev nD) (t : Fin (cfgK (F := F)).N) (y : Vec F S1024x2048 .bf16) (s : Vec F S1024x2048 .f32)
    (hl : ¬t.val % 11 = 10) :
    outAfter (grid0.coords t) (iblk m c 0 t) (iblk m c 1 t) (iblk m c 2 t) (iblk m c 3 t) (iblk m c 4 t) y s 32#32 = y := by
  unfold outAfter
  rw [if_neg fun q => hl ((last_iff t).1 q)]

/-! ## The proof data -/

/-- The invariant before point `n`: the scratch, the generator register and the tables. -/
def inv (c : Dev nD) (n : ℕ) : sProp 𝕄 :=
  iprop(((∃ s, ⌜Holds m c n s⌝ ∗ owns (c : Thread nD τ) (Memref.whole cc0_scratch0) fullShare s) ∗ (∃ r, prngReg c r))
    ∗ Pipeline.ΦT pre0 consts c)

/-- The launch's arrays, blocks and invariant. -/
def dats (_ : Fin 1) (c : Dev nD) : Dat τ (Elt F) Unit ℕ (UR sig nD τ) ℕ (cfgK (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out m c t
  Φ t := inv m c t.val
  q _ := fullShare
  owed _ := 0

theorem A_eq (c : Dev nD) (w : Fin (cfgK (F := F)).W) : (dats m 0 c).A w = V m c (Pipeline.arrRef spec0 w) := by
  dsimp only [dats]
theorem after5 (c : Dev nD) (t : Fin (cfgK (F := F)).N) : (dats m 0 c).after 5 t = out m c t := by
  dsimp only [dats]; try rfl

/-- An input's staging buffer holds its block at every point. -/
theorem before0 (c : Dev nD) (t : Fin (cfgK (F := F)).N) (d) : (dats m 0 c).before 0 t d = iblk m c 0 t :=
  ((dats m 0 c).before_in_eq_fetched 0 rfl (fun _ => rfl) (fun _ _ _ => rfl) (fun _ => rfl) t d).trans rfl
theorem before1 (c : Dev nD) (t : Fin (cfgK (F := F)).N) (d) : (dats m 0 c).before 1 t d = iblk m c 1 t :=
  ((dats m 0 c).before_in_eq_fetched 1 rfl (fun _ => rfl) (fun _ _ _ => rfl) (fun _ => rfl) t d).trans rfl
theorem before2 (c : Dev nD) (t : Fin (cfgK (F := F)).N) (d) : (dats m 0 c).before 2 t d = iblk m c 2 t :=
  ((dats m 0 c).before_in_eq_fetched 2 rfl (fun _ => rfl) (fun _ _ _ => rfl) (fun _ => rfl) t d).trans rfl
theorem before3 (c : Dev nD) (t : Fin (cfgK (F := F)).N) (d) : (dats m 0 c).before 3 t d = iblk m c 3 t :=
  ((dats m 0 c).before_in_eq_fetched 3 rfl (fun _ => rfl) (fun _ _ _ => rfl) (fun _ => rfl) t d).trans rfl
theorem before4 (c : Dev nD) (t : Fin (cfgK (F := F)).N) (d) : (dats m 0 c).before 4 t d = iblk m c 4 t :=
  ((dats m 0 c).before_in_eq_fetched 4 rfl (fun _ => rfl) (fun _ _ _ => rfl) (fun _ => rfl) t d).trans rfl

/-! ## The body at a point -/

/-- A window's current staging buffer. -/
abbrev st (w : Fin 6) (t : Fin (cfgK (F := F)).N) := ((cfgK (F := F)).win w).stage ((cfgK (F := F)).slots t w)

/-- The body at point `t` on the current staging buffers. -/
abbrev bodyAt (t : Fin (cfgK (F := F)).N) : Prog (TpuEff nD τ sig (Elt F) Λ₀ .tc) PUnit :=
  cc0_swiglu_ffn (grid0.coords t) which (Memref.isWhole_whole _) count (Memref.isWhole_whole _)
    (spec0_0.stage ((cfgK (F := F)).slots t 0)) (hstage0_0 (((cfgK (F := F)).slots t 0).cast nbuf0_0))
    (spec0_1.stage ((cfgK (F := F)).slots t 1)) (hstage0_1 (((cfgK (F := F)).slots t 1).cast nbuf0_1))
    (spec0_2.stage ((cfgK (F := F)).slots t 2)) (hstage0_2 (((cfgK (F := F)).slots t 2).cast nbuf0_2))
    (spec0_3.stage ((cfgK (F := F)).slots t 3)) (hstage0_3 (((cfgK (F := F)).slots t 3).cast nbuf0_3))
    (spec0_4.stage ((cfgK (F := F)).slots t 4)) (hstage0_4 (((cfgK (F := F)).slots t 4).cast nbuf0_4))
    (spec0_5.stage ((cfgK (F := F)).slots t 5)) (hstage0_5 (((cfgK (F := F)).slots t 5).cast nbuf0_5))
    (Memref.whole cc0_scratch0) (Memref.isWhole_whole _)

/-- What the body is called with at point `t`, -/
def bodyPre (c : Dev nD) (t : Fin (cfgK (F := F)).N) : sProp 𝕄 :=
  iprop(inv m c t.val ∗ (dats m 0 c).owesAt () t.castSucc
    ∗ (∃ d, owns (c : Thread nD τ) (st 0 t) fullShare ((dats m 0 c).before 0 t d))
    ∗ (∃ d, owns (c : Thread nD τ) (st 1 t) fullShare ((dats m 0 c).before 1 t d))
    ∗ (∃ d, owns (c : Thread nD τ) (st 2 t) fullShare ((dats m 0 c).before 2 t d))
    ∗ (∃ d, owns (c : Thread nD τ) (st 3 t) fullShare ((dats m 0 c).before 3 t d))
    ∗ (∃ d, owns (c : Thread nD τ) (st 4 t) fullShare ((dats m 0 c).before 4 t d))
    ∗ (∃ d, owns (c : Thread nD τ) (st 5 t) fullShare ((dats m 0 c).before 5 t d)))

/-- and what it returns. -/
def bodyPost (c : Dev nD) (t : Fin (cfgK (F := F)).N) : sProp 𝕄 :=
  iprop(inv m c (t.val + 1) ∗ (dats m 0 c).owesAt () t.castSucc
    ∗ owns (c : Thread nD τ) (st 0 t) fullShare (iblk m c 0 t)
    ∗ owns (c : Thread nD τ) (st 1 t) fullShare (iblk m c 1 t)
    ∗ owns (c : Thread nD τ) (st 2 t) fullShare (iblk m c 2 t)
    ∗ owns (c : Thread nD τ) (st 3 t) fullShare (iblk m c 3 t)
    ∗ owns (c : Thread nD τ) (st 4 t) fullShare (iblk m c 4 t)
    ∗ (dats m 0 c).leavesExact 5 t)

/-- The output window after the body, from what the run left in it. -/
theorem leaves5 (c : Dev nD) (t : Fin (cfgK (F := F)).N) (d) (s : Vec F S1024x2048 .f32) (h : Holds m c t.val s) :
    owns (c : Thread nD τ) (st 5 t) fullShare
        (outAfter (grid0.coords t) (iblk m c 0 t) (iblk m c 1 t) (iblk m c 2 t) (iblk m c 3 t) (iblk m c 4 t)
          ((dats m 0 c).before 5 t d) s 32#32)
      ⊢ (dats m 0 c).leavesExact 5 t := by
  by_cases hl : t.val % 11 = 10
  · have e := out_step m c t ((dats m 0 c).before 5 t d) s h hl
    rw [show (dats m 0 c).leavesExact 5 t
        = owns (c : Thread nD τ) (st 5 t) fullShare ((dats m 0 c).after 5 t) from by
      unfold Dat.leavesExact; rw [idle5 t, decide_eq_true hl]; rfl, after5]
    exact (congrArg (fun z => owns (c : Thread nD τ) (st 5 t) fullShare z) e).le
  · have e := out_idle m c t ((dats m 0 c).before 5 t d) s hl
    rw [Dat.leavesExact_idle (dats m 0 c) 5 t ((idle5 t).trans (by rw [decide_eq_false hl]; rfl))
      (Bool.eq_false_iff.2 fun q => hl ((flush5 t).1 q))]
    refine (congrArg (fun z => owns (c : Thread nD τ) (st 5 t) fullShare z) e).le.trans ?_
    show owns (c : Thread nD τ) (st 5 t) fullShare ((dats m 0 c).before 5 t d) ⊢ _
    iintro H; iexists _; iexact H

set_option maxHeartbeats 4000000 in
theorem sound (c : Dev nD) (t : Fin (cfgK (F := F)).N) :
    bodyPre m c t
      ⊢ wp frame (wpE (defs₀ (F := F)) Variants.none c none) Set.univ (bodyAt t) (fun _ => bodyPost m c t) := by
  unfold bodyPre bodyPost inv
  simp only [before0, before1, before2, before3, before4]
  rw [tables c]
  iintro ⟨⟨⟨⟨%s, %hs, HS⟩, Hg⟩, ⟨HT0, HT1⟩⟩, Ho, ⟨%d0, H0⟩, ⟨%d1, H1⟩, ⟨%d2, H2⟩, ⟨%d3, H3⟩, ⟨%d4, H4⟩, ⟨%d5, H5⟩⟩
  iapply (run c (grid0.coords t) _ (hstage0_0 (((cfgK (F := F)).slots t 0).cast nbuf0_0))
    _ (hstage0_1 (((cfgK (F := F)).slots t 1).cast nbuf0_1)) _ (hstage0_2 (((cfgK (F := F)).slots t 2).cast nbuf0_2))
    _ (hstage0_3 (((cfgK (F := F)).slots t 3).cast nbuf0_3)) _ (hstage0_4 (((cfgK (F := F)).slots t 4).cast nbuf0_4))
    _ (hstage0_5 (((cfgK (F := F)).slots t 5).cast nbuf0_5)) (Memref.whole cc0_scratch0) (Memref.isWhole_whole _)
    (iblk m c 0 t) (iblk m c 1 t) (iblk m c 2 t) (iblk m c 3 t) (iblk m c 4 t) (consts 0) (consts 1)
    ((dats m 0 c).before 5 t d5) s (always_used t) (never_skipped t) Set.univ _)
  rw [word_eq]
  unfold held
  isplitl [H0 H1 H2 H3 H4 H5 HS HT0 HT1]
  · isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HT0]; · iexact HT0
    iexact HT1
  iintro ⟨H0, H1, H2, H3, H4, H5, HS, HT0, HT1⟩
  isplitl [HS Hg HT0 HT1]
  · isplitl [HS Hg]
    · isplitl [HS]
      · iexists _; isplitr
        swap; · iexact HS
        ipureintro; rw [sum_step m c t s hs]; intro k hk e; obtain rfl : t.val = k := Nat.succ.inj e; rfl
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iapply (leaves5 m c t d5 s hs)
  iexact H5

theorem defs_row (t : Fin (cfgK (F := F)).N) :
    defs₀ (F := F) .tc (cfgK (F := F)).body ((cfgK (F := F)).bodyArgs t ((cfgK (F := F)).slots t)) = bodyAt t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (sound m c t) rfl .rfl fun _ => .rfl

theorem rest_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

theorem hin (c : Dev nD) : iprop(Pipeline.ΦA spec0 c ∗ Pipeline.ΦT pre0 consts c) ⊢ (dats (F := F) m 0 c).Φ 0 := by
  rw [show (dats m 0 c).Φ 0 = inv m c 0 from rfl, rest_eq]
  unfold inv
  iintro ⟨⟨⟨%s, HS⟩, Hg⟩, HT⟩
  isplitl [HS Hg]
  · isplitl [HS]
    · iexists s; isplitr
      swap; · iexact HS
      ipureintro; intro k _ e; exact absurd e.symm (Nat.succ_ne_zero k)
    iexact Hg
  iexact HT

theorem hout (c : Dev nD) : (dats (F := F) m 0 c).Φ (Fin.last (cfgK (F := F)).N) ⊢ Pipeline.ΦA spec0 c := by
  rw [show (dats m 0 c).Φ (Fin.last (cfgK (F := F)).N) = inv m c (Fin.last (cfgK (F := F)).N).val from rfl, rest_eq]
  unfold inv
  iintro ⟨⟨⟨%s, -, HS⟩, Hg⟩, -⟩
  isplitl [HS]
  · iexists _; iexact HS
  iexact Hg

/-! ## The run and the frame -/

set_option backward.isDefEq.respectTransparency.types false in
/-- The launch ends, with every array of its windows at what the proof data say and every counter at zero. -/
theorem run_main : θ_run defs (onTc (τ := τ) (main (F := F))) (s₀ m ρ) (fun r =>
    (Pipeline.FramePost (Pipeline.pin pcfgs fun _ => adm) (dats m) 0 (V m)) r ∧ r.2.sem = fun _ => 0) :=
  Pipeline.θ_run_frameP_track (Q' := _) pcfgs (fun _ => adm) (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hpf := V_pre m)
    (hin := hin m) (hout := hout m)

/-- What a run keeps: the arguments. -/
abbrev kept (mem : (ℓ : Loc nD τ sig) → Buf (Elt F) ℓ) (c : Dev nD) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)

/-- The run ends with the result's array as the proof data say, the arguments kept and every counter at zero. -/
theorem run_kept : θ_run defs (onTc (τ := τ) (main (F := F))) ⟨m, fun _ => 0, ρ⟩ (fun r =>
    (∀ c : Dev nD, r.2.mem ((c.tc : Thread nD τ).loc main_v9) = (dats m 0 c).arrAt 5 (cfgK (F := F)).N ∧ kept m r.2.mem c)
      ∧ r.2.sem = fun _ => 0) :=
  (θ_run defs _ _).mono (fun _ h => ⟨fun c => ⟨(h.1 c).1 5,
      ((h.1 c).1 0).trans (((dats m 0 c).arrAt_in 0 rfl _).trans
        ((A_eq m c 0).trans (V_of_not_written m c main_arg0 (not_written _ (by decide))))),
      ((h.1 c).2 main_arg1 (by decide : main_arg1 ∈ Pipeline.restRefs sig spec0)).trans
        (V_of_not_written m c main_arg1 (not_written _ (by decide))),
      ((h.1 c).2 main_arg2 (by decide : main_arg2 ∈ Pipeline.restRefs sig spec0)).trans
        (V_of_not_written m c main_arg2 (not_written _ (by decide))),
      ((h.1 c).2 main_arg3 (by decide : main_arg3 ∈ Pipeline.restRefs sig spec0)).trans
        (V_of_not_written m c main_arg3 (not_written _ (by decide)))⟩, h.2⟩) (run_main m ρ)

/-- The arguments end as they were, and every counter is at zero. -/
theorem frame : θ_run defs (onTc (τ := τ) (main (F := F))) ⟨m, fun _ => 0, ρ⟩ (fun r =>
    (∀ c : Dev nD, kept m r.2.mem c) ∧ r.2.sem = fun _ => 0) :=
  (θ_run defs _ _).mono (fun _ h => ⟨fun c => (h.1 c).2, h.2⟩) (run_kept m ρ)

end Cert.Dense

end
-- ==== Proof.DenseValue.lean ====
/-
  The dense feed-forward's result over the extended reals, entry by entry.

  A row's hidden values are gated products with the weights' columns, a point adds the products of one block of 512 of
  them with the last weights, and a tile's eleven points add up to the sum over all 5632.
-/
module

public import proofs.«01_k».proof.Proof.DenseFrame
public import proofs.«01_k».proof.Proof.ExpertsValue

@[expose] public section

noncomputable section

namespace Cert.Dense

open Cert.Kernel5Ideal Cert.Kernel5Ideal.Gen
open Idealize.ShloMosaic Idealize.ShloMosaic.TcCoe Idealize.SL.Sem
open Cert.Experts (gated)
open scoped BigOperators

/-! ## The body's values at an entry -/

theorem pay1_apply (y : S1024x2048.Idx) : (k0_pay1 (F := Ideal) : S1024x2048.Idx → EReal) y = 0 := Cert.Experts.pay1_apply y

theorem pay2_apply (x0 : S1024x2048.Idx → EReal) (x1 x2 : S1x2048x512.Idx → EReal) (s : S1024x2048.Idx → EReal)
    (x3 : S1x512x2048.Idx → EReal) (r : Fin 1024) (d : Fin 2048) :
    (k0_pay2 (F := Ideal) x0 x1 x2 s x3 : S1024x2048.Idx → EReal) (ix2 r d)
      = s (ix2 r d) + ∑ f : Fin 512, gated (∑ k : Fin 2048, x0 (ix2 r k) * x1 (ix3 0 k f))
          (∑ k : Fin 2048, x0 (ix2 r k) * x2 (ix3 0 k f)) * x3 (ix3 0 f d) :=
  Cert.Experts.pay2_apply x0 x1 x2 s x3 r d

theorem pay3_apply (s : S1024x2048.Idx → EReal) (w : S1024x1.Idx → EReal) (r : Fin 1024) (d : Fin 2048) :
    (k0_pay3 (F := Ideal) s w : S1024x2048.Idx → EReal) (ix2 r d) = s (ix2 r d) * w (ix2 r 0) := by
  unfold k0_pay3
  pointwise

/-! ## The arrays the launch reads -/

variable (m : (ℓ : Loc nD τ sig) → Buf (Elt Ideal) ℓ) (c : Dev nD)

abbrev rows : S32768x2048.Idx → EReal := m ((c : Thread nD τ).loc main_arg0)
abbrev gate : S2048x5632.Idx → EReal := m ((c : Thread nD τ).loc main_arg1)
abbrev up : S2048x5632.Idx → EReal := m ((c : Thread nD τ).loc main_arg2)
abbrev down : S5632x2048.Idx → EReal := m ((c : Thread nD τ).loc main_arg3)

theorem V_rows (i : Fin 32768) (k : Fin 2048) : (V m c main_arg0 : S32768x2048.Idx → EReal) (ix2 i k) = rows m c (ix2 i k) :=
  congrFun (V_of_not_written m c main_arg0 (not_written _ (by decide))) _

/-- The host stacks each weight once; its casts change nothing. -/
theorem V_gate (z : Fin 1) (k : Fin 2048) (j : Fin 5632) :
    (V m c main_v1 : S1x2048x5632.Idx → EReal) (ix3 z k j) = gate m c (ix2 k j) := by
  show (broadcastInDim S1x2048x5632 ![1, 2] bcast_S2048x5632_S1x2048x5632_1_2 (gate m c)) (ix3 z k j) = _
  pointwise
theorem V_up (z : Fin 1) (k : Fin 2048) (j : Fin 5632) :
    (V m c main_v3 : S1x2048x5632.Idx → EReal) (ix3 z k j) = up m c (ix2 k j) := by
  show (broadcastInDim S1x2048x5632 ![1, 2] bcast_S2048x5632_S1x2048x5632_1_2 (up m c)) (ix3 z k j) = _
  pointwise
theorem V_down (z : Fin 1) (j : Fin 5632) (d : Fin 2048) :
    (V m c main_v5 : S1x5632x2048.Idx → EReal) (ix3 z j d) = down m c (ix2 j d) := by
  show (broadcastInDim S1x5632x2048 ![1, 2] bcast_S5632x2048_S1x5632x2048_1_2 (down m c)) (ix3 z j d) = _
  pointwise
/-- Every row's weight is one. -/
theorem V_one (i : S32768x1.Idx) : (V m c main_v8 : S32768x1.Idx → EReal) i = (1 : EReal) := Ideal.ofBits_one_f32

/-! ## The windows' blocks -/

theorem index_0 (t : Fin (cfgK (F := Ideal)).N) : ((cfgK (F := Ideal)).win 0).index t = ![t.val / 11, 0] :=
  (by decide +kernel : ∀ t : Fin grid0.N, cc0_transform_0 (grid0.coords t) = ![t.val / 11, 0]) t
theorem index_4 (t : Fin (cfgK (F := Ideal)).N) : ((cfgK (F := Ideal)).win 4).index t = ![t.val / 11, 0] :=
  (by decide +kernel : ∀ t : Fin grid0.N, cc0_transform_4 (grid0.coords t) = ![t.val / 11, 0]) t
theorem index_5 (t : Fin (cfgK (F := Ideal)).N) : ((cfgK (F := Ideal)).win 5).index t = ![t.val / 11, 0] :=
  (by decide +kernel : ∀ t : Fin grid0.N, cc0_transform_5 (grid0.coords t) = ![t.val / 11, 0]) t
theorem coord_1 : ∀ t : Fin grid0.N, (grid0.coords t 1).val = t.val % 11 := by decide +kernel
theorem index_1 (t : Fin (cfgK (F := Ideal)).N) : ((cfgK (F := Ideal)).win 1).index t = ![0, 0, t.val % 11] := by
  rw [← coord_1 t]; exact ix_1 _
theorem index_2 (t : Fin (cfgK (F := Ideal)).N) : ((cfgK (F := Ideal)).win 2).index t = ![0, 0, t.val % 11] := by
  rw [← coord_1 t]; exact ix_2 _
theorem index_3 (t : Fin (cfgK (F := Ideal)).N) : ((cfgK (F := Ideal)).win 3).index t = ![0, t.val % 11, 0] := by
  rw [← coord_1 t]; exact ix_3 _

theorem block_0 (t : Fin (cfgK (F := Ideal)).N) (r : Fin 1024) (k : Fin 2048) (i : Fin 32768)
    (hi : i.val = t.val / 11 * 1024 + r.val) : iblk m c 0 t (ix2 r k) = rows m c (ix2 i k) := by
  rw [← V_rows]
  blk_ext! [iblk, index_0 t]
theorem block_1 (t : Fin (cfgK (F := Ideal)).N) (k : Fin 2048) (f : Fin 512) (j : Fin 5632)
    (hj : j.val = t.val % 11 * 512 + f.val) : iblk m c 1 t (ix3 0 k f) = gate m c (ix2 k j) := by
  rw [← V_gate m c 0]
  blk_ext! [iblk, index_1 t]
theorem block_2 (t : Fin (cfgK (F := Ideal)).N) (k : Fin 2048) (f : Fin 512) (j : Fin 5632)
    (hj : j.val = t.val % 11 * 512 + f.val) : iblk m c 2 t (ix3 0 k f) = up m c (ix2 k j) := by
  rw [← V_up m c 0]
  blk_ext! [iblk, index_2 t]
theorem block_3 (t : Fin (cfgK (F := Ideal)).N) (f : Fin 512) (d : Fin 2048) (j : Fin 5632)
    (hj : j.val = t.val % 11 * 512 + f.val) : iblk m c 3 t (ix3 0 f d) = down m c (ix2 j d) := by
  rw [← V_down m c 0]
  blk_ext! [iblk, index_3 t]
theorem block_4 (t : Fin (cfgK (F := Ideal)).N) (y : S1024x1.Idx) : (iblk m c 4 t : S1024x1.Idx → EReal) y = (1 : EReal) := V_one m c _

/-! ## The sum over the hidden width -/

/-- Row `p`'s hidden value `j`. -/
def hid (p : Fin 32768) (j : Fin 5632) : EReal :=
  gated (∑ k : Fin 2048, rows m c (ix2 p k) * gate m c (ix2 k j)) (∑ k : Fin 2048, rows m c (ix2 p k) * up m c (ix2 k j))

/-- The result: the hidden rows' product with the last weights. -/
def res : S32768x2048.Idx → EReal := fun i => ∑ j : Fin 5632, hid m c (i 0) j * down m c (ix2 j (i 1))

/-- The hidden value `j`'s part of row `p`, lane `d`, at numbers. -/
def part (p : ℕ) (d : Fin 2048) (j : ℕ) : EReal :=
  hid m c (Fin.ofNat 32768 p) (Fin.ofNat 5632 j) * down m c (ix2 (Fin.ofNat 5632 j) d)

/-- What point `n` adds to the sum at row `r`, lane `d`. -/
def term (r : Fin 1024) (d : Fin 2048) (n : ℕ) : EReal :=
  ∑ f : Fin 512, part m c (n / 11 * 1024 + r.val) d (n % 11 * 512 + f.val)

theorem add_apply (t : Fin (cfgK (F := Ideal)).N) (s : S1024x2048.Idx → EReal) (r : Fin 1024) (d : Fin 2048) :
    (add m c t s : S1024x2048.Idx → EReal) (ix2 r d) = s (ix2 r d) + term m c r d t.val := by
  have ht : t.val < 352 := t.isLt
  have hr := r.isLt
  refine (pay2_apply _ _ _ s _ r d).trans ?_
  unfold term part hid
  refine congrArg (s (ix2 r d) + ·) (Finset.sum_congr rfl fun f _ => ?_)
  have hf := f.isLt
  have hj : (Fin.ofNat 5632 (t.val % 11 * 512 + f.val)).val = t.val % 11 * 512 + f.val := by rw [Fin.val_ofNat]; omega
  have hi : (Fin.ofNat 32768 (t.val / 11 * 1024 + r.val)).val = t.val / 11 * 1024 + r.val := by rw [Fin.val_ofNat]; omega
  refine congrArg₂ (· * ·) (congrArg₂ gated (Finset.sum_congr rfl fun k _ => congrArg₂ (· * ·) ?_ ?_)
    (Finset.sum_congr rfl fun k _ => congrArg₂ (· * ·) ?_ ?_)) ?_
  · exact block_0 m c t r k _ hi
  · exact block_1 m c t k f _ hj
  · exact block_0 m c t r k _ hi
  · exact block_2 m c t k f _ hj
  · exact block_3 m c t f d _ hj

/-- At a tile's last point the sum runs over the hidden width. -/
theorem acc_sum (t : Fin (cfgK (F := Ideal)).N) (hl : t.val % 11 = 10) (r : Fin 1024) (d : Fin 2048) (i : Fin 32768)
    (hi : i.val = t.val / 11 * 1024 + r.val) : (acc m c t.val t.isLt : S1024x2048.Idx → EReal) (ix2 r d) = res m c (ix2 i d) := by
  have e := Pipeline.eq_sum_of_reset_step_of_mod
    (fun n h => (acc m c n h : S1024x2048.Idx → EReal) (ix2 r d)) 11 (0 : EReal) (term m c r d)
    (fun t h => (congrFun (acc_first m c t h) (ix2 r d)).trans ((add_apply m c t _ r d).trans
      (congrArg (· + term m c r d t.val) (pay1_apply _))))
    (fun t h => by
      obtain ⟨n, hn⟩ := t
      cases n with
      | zero => exact absurd rfl h
      | succ n => exact (congrFun (acc_next m c n hn h) (ix2 r d)).trans (add_apply m c _ _ r d)) t hl
  refine e.trans ?_
  rw [zero_add]
  have hG : ∀ j : Fin 5632, part m c i.val d j.val = hid m c i j * down m c (ix2 j d) := fun j => by
    unfold part
    rw [show Fin.ofNat 5632 j.val = j from Fin.ext (Nat.mod_eq_of_lt j.isLt),
      show Fin.ofNat 32768 i.val = i from Fin.ext (Nat.mod_eq_of_lt i.isLt)]
  refine Eq.trans ?_ ((Cert.Experts.sum_blocks (part m c i.val d)).trans (Finset.sum_congr rfl fun j _ => hG j))
  refine Finset.sum_congr rfl fun k hk => ?_
  have hk' : k < 11 := Finset.mem_range.1 hk
  unfold term
  rw [hi, show (11 * (t.val / 11) + k) / 11 = t.val / 11 by omega, show (11 * (t.val / 11) + k) % 11 = k by omega]

theorem out_apply (t : Fin (cfgK (F := Ideal)).N) (hl : t.val % 11 = 10) (r : Fin 1024) (d : Fin 2048) (i : Fin 32768)
    (hi : i.val = t.val / 11 * 1024 + r.val) : (out m c t : S1024x2048.Idx → EReal) (ix2 r d) = res m c (ix2 i d) := by
  refine (pay3_apply _ _ r d).trans ?_
  rw [block_4 m c t, mul_one]
  exact acc_sum m c t hl r d i hi

/-- The tiles cover the output. -/
theorem covers_5 : ((cfgK (F := Ideal)).win 5).Covers := by
  refine ⟨(by decide : ∀ a : Fin 2, 0 < S1024x2048.size a), fun β => ?_⟩
  have h0 : (β (0 : Fin 2)).val < (32768 + 1024 - 1) / 1024 := (β (0 : Fin 2)).isLt
  have h1 : (β (1 : Fin 2)).val < (2048 + 2048 - 1) / 2048 := (β (1 : Fin 2)).isLt
  have hn : (β (0 : Fin 2)).val * 11 + 10 < 352 := by omega
  refine ⟨⟨(β (0 : Fin 2)).val * 11 + 10, hn⟩, (flush5 _).2 (by show (_ * 11 + 10) % 11 = 10; omega), fun a => ?_⟩
  rw [index_5]
  have e : ((β (0 : Fin 2)).val * 11 + 10) / 11 = (β (0 : Fin 2)).val := by omega
  match a with
  | ⟨0, _⟩ => exact ⟨e, .inl rfl⟩
  | ⟨1, _⟩ => exact ⟨(show (β (1 : Fin 2)).val = 0 by omega).symm, .inl rfl⟩

/-- The run leaves the result in the output array. -/
theorem res_arr : (dats m 0 c).arrAt 5 (cfgK (F := Ideal)).N = res m c := by
  refine (dats m 0 c).arrAt_eq_of_covers 5 _ covers_5 fun t hf y => ?_
  have hl := (flush5 t).1 hf
  have ht : t.val < 352 := t.isLt
  rw [after5]
  obtain ⟨r, d, rfl⟩ : ∃ (r : Fin 1024) (d : Fin 2048), y = (ix2 r d : S1024x2048.Idx) := ⟨y (0 : Fin 2), y (1 : Fin 2), eq_ix2 _⟩
  blk_simp
  refine (out_apply m c t hl r d ⟨t.val / 11 * 1024 + r.val, by omega⟩ rfl).trans (congrArg (res m c) ?_)
  blk_ext! [index_5 t]

end Cert.Dense

end
-- ==== Proof.DenseClaim.lean ====
/-
  The dense feed-forward's claims: the frames of the call and of its reference, and the call's value against the
  reference's.
-/
module

public import proofs.«01_k».proof.Defs
public import proofs.«01_k».proof.Proof.DenseValue
public import proofs.«01_k».proof.Proof.Gen.Kernel5
public import proofs.«01_k».proof.Proof.Gen.Kernel5.Launch
public import proofs.«01_k».proof.Proof.Gen.Reference5Ideal.Run
public import proofs.«01_k».proof.Proof.Gen.Reference5Ideal.Read
public import Idealize.ShloMosaic.Lib.IdealHost

@[expose] public section

noncomputable section

namespace Cert.Dense

open Idealize.ShloMosaic Idealize.ShloMosaic.TcCoe Idealize.SL.Sem
open Cert.Reference5Ideal.Read
open scoped BigOperators

/-! ## The frames -/

/-- The two printings of the launch are one text: their body tables are equal. -/
theorem table_eq : Cert.Kernel5.defs₀ (F := Bits) = Cert.Kernel5Ideal.defs₀ (F := Bits) := by
  unfold Cert.Kernel5.defs₀ Cert.Kernel5Ideal.defs₀
  refine congrArg _ ?_
  funext l a
  cases l using Fin.cases
  · obtain ⟨t, s⟩ := a
    rfl
  · rename_i i; exact i.elim0

theorem defs_eq : Cert.Kernel5.defs (F := Bits) = Cert.Kernel5Ideal.defs (F := Bits) :=
  congrArg (Pipeline.defs (Cert.Kernel5Ideal.pcfgs (F := Bits))) table_eq

theorem main_eq : Cert.Kernel5.main (F := Bits) = Cert.Kernel5Ideal.main (F := Bits) := by
  funext c
  rw [Cert.Kernel5.Gen.main_chain, Cert.Kernel5Ideal.Gen.main_chain]
  rfl

/-- The kernel's frame, read on the machine. -/
theorem frame_p : Cert.quiescent_Kernel5 := by
  intro m ρ h
  have hf := frame (F := Bits) m ρ
  rw [← defs_eq, ← main_eq] at hf
  exact hf

/-- The kernel's frame, read on the extended reals. -/
theorem frame_pi : Cert.quiescent_Kernel5Ideal := fun m ρ _ => frame (F := Ideal) m ρ

/-- The reference's frame: its run read at the arguments; it declares no semaphore. -/
theorem frame_ri : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-! ## The reference at an entry -/

variable (m : (ℓ : Loc Cert.Kernel5Ideal.nD Cert.Kernel5Ideal.τ Cert.Kernel5Ideal.sig) → Buf (Elt Ideal) ℓ)
  (c : Dev Cert.Kernel5Ideal.nD)

/-- The reference's product of the rows with a weight. -/
theorem ref_dot (w : Cert.Kernel5Ideal.S2048x5632.Idx → EReal) (p : Fin 32768) (j : Fin 5632) :
    (val_main_v1 (F := Ideal) (rows m c) w : Cert.Reference5Ideal.S32768x5632.Idx → EReal) (ix2 p j)
      = ∑ k : Fin 2048, rows m c (ix2 p k) * w (ix2 k j) :=
  (val_main_v1_apply _ _ _).trans (Finset.sum_congr rfl fun _ _ =>
    congrArg₂ (· * ·) (congrArg (rows m c) (eq_ix2 _)) (congrArg w (eq_ix2 _)))

/-- The reference's gated hidden value. -/
theorem ref_hid (p : Fin 32768) (j : Fin 5632) :
    (val_main_v4 (F := Ideal) (rows m c) (gate m c) (up m c) : Cert.Reference5Ideal.S32768x5632.Idx → EReal) (ix2 p j) = hid m c p j := by
  have hg := ref_dot m c (gate m c) p j
  have hu : (val_main_v3 (F := Ideal) (rows m c) (up m c) : Cert.Reference5Ideal.S32768x5632.Idx → EReal) (ix2 p j) = _ :=
    ref_dot m c (up m c) p j
  rw [val_main_v4_apply, val_main_v2_apply, val_main_call0_v5_apply, val_main_call0_v4_apply, val_main_call0_v3_apply,
    val_main_call0_v2_apply, val_main_call0_v1_apply, val_main_call0_v0_apply, hg, hu]
  show (_ * Ideal.div (Ideal.ofBits .f32 0x3F800000#32) (Ideal.ofBits .f32 0x3F800000#32 + Ideal.exp (-_))) * _ = _
  rw [Ideal.ofBits_one_f32]
  unfold hid Cert.Experts.gated
  rw [sub_eq_add_neg, zero_add]

/-- The reference's result of the launch's arguments is the launch's. -/
theorem ref_res : val_main_v6 (F := Ideal) (rows m c) (gate m c) (up m c) (down m c) = res m c := by
  funext i
  refine (val_main_v5_apply _ _ _ _ i).trans (Finset.sum_congr rfl fun j _ => congrArg₂ (· * ·) ?_ ?_)
  · exact (congrArg _ (eq_ix2 _)).trans (ref_hid m c (i 0) j)
  · exact congrArg (down m c) (eq_ix2 _)

/-! ## The values -/

/-- Both runs end with the feed-forward's rows. -/
theorem algebraic : Cert.algebraic_Kernel5Ideal_Reference5Ideal := by
  intro m g m' g' hpre hagree
  refine ⟨fun c => res m c, ?_, ?_⟩
  · exact (θ_run Cert.Kernel5Ideal.defs _ _).mono (fun r h c => ⟨(h.1 c).1.trans (res_arr m c), (h.1 c).2⟩) (run_kept (F := Ideal) m g)
  · refine (θ_run Cert.Reference5Ideal.defs _ _).mono (fun r h c => ⟨(h c).1.trans ?_, (h c).2⟩)
      (Cert.Reference5Ideal.Value.run (F := Ideal) m' g')
    obtain ⟨e0, e1, e2, e3⟩ := hagree c
    rw [val_main_v6_eq, e0, e1, e2, e3]
    exact ref_res m c

end Cert.Dense

end
-- ==== Proof.Norm.lean ====
/-
  The root-mean-square norm of a row, over the extended reals.
-/
module

public import Idealize.ShloMosaic.PureOps.Ideal.Laws

@[expose] public section

noncomputable section

namespace Cert.Norm

open Idealize.ShloMosaic
open scoped BigOperators

/-- An entry of a row times the reciprocal root of the row's mean square (the sum of squares over `len`, plus the
    programs' small constant), times the gain's entry. -/
def normed {n : ℕ} (len : EReal) (x g : Fin n → EReal) (l : Fin n) : EReal :=
  x l * Ideal.rsqrt (Ideal.div (∑ k, x k * x k) len + Ideal.ofBits .f32 0x358637BD#32) * g l

end Cert.Norm

end
-- ==== Proof.AddNorm.lean ====
/-
  The residual sum's call: over the extended reals, its output arrays are the sum, the sum's norm and the router's scores.
-/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Norm
public import Idealize.ShloMosaic.Lib.Pipeline.Frame
public import Idealize.ShloMosaic.Lib.Pipeline.ValueKit
public import Idealize.ShloMosaic.Lib.Pointwise
public import Idealize.ShloMosaic.PureOps.Ideal.Laws

@[expose] public section

noncomputable section

namespace Cert.AddNorm

open Cert.Norm Cert.Kernel6Ideal Cert.Kernel6Ideal.Gen
open Idealize.ShloMosaic Idealize.ShloMosaic.TcCoe Idealize.SL.Sem
open scoped BigOperators

/-- The row length as the programs write it. -/
abbrev len : EReal := Ideal.ofBits .f32 0x45000000#32

/-- A point's sum of the stream and the branch. -/
theorem pay1_apply (x0 x1 : S512x2048.Idx → EReal) (r : Fin 512) (l : Fin 2048) :
    (k0_pay1 (F := Ideal) x0 x1 : S512x2048.Idx → EReal) (ix2 r l) = x0 (ix2 r l) + x1 (ix2 r l) := by
  unfold k0_pay1
  pointwise

/-- A point's norm of the sum. -/
theorem pay2_apply (x0 x1 : S512x2048.Idx → EReal) (g : S1x2048.Idx → EReal) (r : Fin 512) (l : Fin 2048) :
    (k0_pay2 (F := Ideal) x0 x1 g : S512x2048.Idx → EReal) (ix2 r l)
      = normed len (fun k => x0 (ix2 r k) + x1 (ix2 r k)) (fun k => g (ix2 0 k)) l := by
  unfold k0_pay2 k0_pay1 normed
  pointwise

/-- A point's norm of the sum, in the narrower format. -/
theorem pay3_apply (x0 x1 : S512x2048.Idx → EReal) (g : S1x2048.Idx → EReal) (r : Fin 512) (l : Fin 2048) :
    (k0_pay3 (F := Ideal) x0 x1 g : S512x2048.Idx → EReal) (ix2 r l)
      = normed len (fun k => x0 (ix2 r k) + x1 (ix2 r k)) (fun k => g (ix2 0 k)) l :=
  pay2_apply x0 x1 g r l

/-- A point's scores: the norm's product with the router's columns. -/
theorem pay4_apply (x0 x1 : S512x2048.Idx → EReal) (g : S1x2048.Idx → EReal) (w : S2048x128.Idx → EReal) (r : Fin 512)
    (j : Fin 128) :
    (k0_pay4 (F := Ideal) x0 x1 g w : S512x128.Idx → EReal) (ix2 r j)
      = ∑ l : Fin 2048, normed len (fun k => x0 (ix2 r k) + x1 (ix2 r k)) (fun k => g (ix2 0 k)) l * w (ix2 l j) := by
  simp only [← pay2_apply x0 x1 g r]
  unfold k0_pay4
  generalize k0_pay2 (F := Ideal) x0 x1 g = y
  pointwise

theorem index_0 : ∀ t : Fin cfg0.N, (cfg0.win 0).index t = ![t.val, 0] :=
  (by decide +kernel : ∀ t : Fin grid0.N, win0_0.index t = ![t.val, 0])
theorem index_1 : ∀ t : Fin cfg0.N, (cfg0.win 1).index t = ![t.val, 0] :=
  (by decide +kernel : ∀ t : Fin grid0.N, win0_1.index t = ![t.val, 0])
theorem index_2 : ∀ t : Fin cfg0.N, (cfg0.win 2).index t = ![0, 0] :=
  (by decide +kernel : ∀ t : Fin grid0.N, win0_2.index t = ![0, 0])
theorem index_3 : ∀ t : Fin cfg0.N, (cfg0.win 3).index t = ![0, 0] :=
  (by decide +kernel : ∀ t : Fin grid0.N, win0_3.index t = ![0, 0])
theorem index_4 : ∀ t : Fin cfg0.N, (cfg0.win 4).index t = ![t.val, 0] :=
  (by decide +kernel : ∀ t : Fin grid0.N, win0_4.index t = ![t.val, 0])
theorem index_5 : ∀ t : Fin cfg0.N, (cfg0.win 5).index t = ![t.val, 0] :=
  (by decide +kernel : ∀ t : Fin grid0.N, win0_5.index t = ![t.val, 0])
theorem index_6 : ∀ t : Fin cfg0.N, (cfg0.win 6).index t = ![t.val, 0] :=
  (by decide +kernel : ∀ t : Fin grid0.N, win0_6.index t = ![t.val, 0])

/-- The router's weights with the host's columns of zeros after them. -/
def padded (w : S2048x8.Idx → EReal) : S2048x128.Idx → EReal :=
  pad S2048x128 ![0, 0] ![0, 120] ![0, 0] w (sitofp (F := Ideal) .f32 (constantI S_ 32 0#32)) pads_S2048x8_S2048x128_000_01200 h_S_

/-- The fill of the host's columns is zero. -/
theorem fill : (FloatOps.sitofp (F := Ideal) .f32 (0#32) : EReal) = 0 := by
  show (((0#32 : BitVec 32).toInt : ℝ) : EReal) = 0
  simp

theorem padded_apply (w : S2048x8.Idx → EReal) (k : Fin 2048) (j : Fin 128) :
    padded w (ix2 k j) = if h : j.val < 8 then w (ix2 k ⟨j.val, h⟩) else 0 := by
  unfold padded
  pointwise
  rw [fill]

variable (m : (ℓ : Loc nD τ sig) → Buf (Elt Ideal) ℓ) (c : Dev nD)

/-- The stream's rows. -/
abbrev rows : S32768x2048.Idx → EReal := m ((c : Thread nD τ).loc main_arg0)
/-- The branch's rows. -/
abbrev branch : S32768x2048.Idx → EReal := m ((c : Thread nD τ).loc main_arg1)
/-- The norm's gain. -/
abbrev gain : S2048.Idx → EReal := m ((c : Thread nD τ).loc main_arg2)
/-- The router's weights. -/
abbrev router : S2048x8.Idx → EReal := m ((c : Thread nD τ).loc main_arg3)

/-- The router's weights the call is launched with. -/
theorem V_router : (V m c main_v0 : S2048x128.Idx → EReal) = padded (router m c) := rfl

/-- The gain the call is launched with: one row of it. -/
theorem V_gain (l : Fin 2048) : V m c main_v1 (ix2 0 l) = gain m c (ix1 l) := by
  have e : (V m c main_v1 : S1x2048.Idx → EReal) = shapeCast S1x2048 (gain m c) shapeCasts_S2048_S1x2048 := rfl
  rw [e]
  pointwise

theorem block_0 (t : Fin cfg0.N) (r : Fin 512) (k : Fin 2048) (i : Fin 32768) (hi : i.val = t.val * 512 + r.val) :
    iblk m c 0 t (ix2 r k) = rows m c (ix2 i k) := by
  refine Eq.trans ?_ (congrFun (V_main_arg0 m c) (ix2 i k))
  blk_ext! [iblk, index_0 t]
theorem block_1 (t : Fin cfg0.N) (r : Fin 512) (k : Fin 2048) (i : Fin 32768) (hi : i.val = t.val * 512 + r.val) :
    iblk m c 1 t (ix2 r k) = branch m c (ix2 i k) := by
  refine Eq.trans ?_ (congrFun (V_main_arg1 m c) (ix2 i k))
  blk_ext! [iblk, index_1 t]
theorem block_2 (t : Fin cfg0.N) (k : Fin 2048) : iblk m c 2 t (ix2 0 k) = gain m c (ix1 k) := by
  rw [← V_gain m c]
  blk_ext! [iblk, index_2 t]
theorem block_3 (t : Fin cfg0.N) (k : Fin 2048) (j : Fin 128) :
    iblk m c 3 t (ix2 k j) = padded (router m c) (ix2 k j) := by
  rw [← V_router m c]
  blk_ext! [iblk, index_3 t]

/-- The stream's rows and the branch's, added. -/
def total : S32768x2048.Idx → EReal := fun i => rows m c i + branch m c i

/-- The sum's norm. -/
def norm : S32768x2048.Idx → EReal := fun i =>
  normed len (fun k => total m c (ix2 (i 0) k)) (fun k => gain m c (ix1 k)) (i 1)

/-- The router's scores of the norm, then columns of zeros. -/
def scores : S32768x128.Idx → EReal := fun i =>
  ∑ l : Fin 2048, norm m c (ix2 (i 0) l) * padded (router m c) (ix2 l (i 1))

/-- The row of the stream a point reads. -/
abbrev rowAt (t : Fin cfg0.N) (r : Fin 512) (k : Fin 2048) : EReal := iblk m c 0 t (ix2 r k)
/-- The row of the branch a point reads. -/
abbrev branchAt (t : Fin cfg0.N) (r : Fin 512) (k : Fin 2048) : EReal := iblk m c 1 t (ix2 r k)

/-- A point's row of sums is a row of the arrays' sum. -/
theorem row_eq (t : Fin cfg0.N) (r : Fin 512) (i : Fin 32768) (hi : i.val = t.val * 512 + r.val) :
    (fun k : Fin 2048 => rowAt m c t r k + branchAt m c t r k) = fun k => total m c (ix2 i k) :=
  funext fun k => congrArg₂ (fun a b : EReal => a + b) (block_0 m c t r k i hi) (block_1 m c t r k i hi)

/-- A point's gain is the array's. -/
theorem gain_eq (t : Fin cfg0.N) :
    (fun k : Fin 2048 => (iblk m c 2 t (ix2 0 k) : EReal)) = fun k => gain m c (ix1 k) :=
  funext fun k => block_2 m c t k

/-- The run leaves the sum in the first output array. -/
theorem total_arr : (dats m 0 c).arrAt 4 cfg0.N = total m c := by
  refine (dats m 0 c).arrAt_eq_of_covers 4 _ (by decide +kernel) fun t hf y => ?_
  have ht : t.val < 64 := t.isLt
  obtain ⟨r, l, rfl⟩ : ∃ (r : Fin 512) (l : Fin 2048), y = (ix2 r l : S512x2048.Idx) := ⟨y (0 : Fin 2), y (1 : Fin 2), eq_ix2 _⟩
  blk_simp
  rw [after0_4]
  frame_out
  have hr := r.isLt
  refine (pay1_apply _ _ r l).trans ?_
  refine (congrFun (row_eq m c t r ⟨t.val * 512 + r.val, by omega⟩ rfl) l).trans ?_
  refine congrArg (total m c) ?_
  blk_ext! [index_4 t]

/-- The run leaves the sum's norm in the second. -/
theorem norm_arr : (dats m 0 c).arrAt 5 cfg0.N = norm m c := by
  refine (dats m 0 c).arrAt_eq_of_covers 5 _ (by decide +kernel) fun t hf y => ?_
  have ht : t.val < 64 := t.isLt
  obtain ⟨r, l, rfl⟩ : ∃ (r : Fin 512) (l : Fin 2048), y = (ix2 r l : S512x2048.Idx) := ⟨y (0 : Fin 2), y (1 : Fin 2), eq_ix2 _⟩
  blk_simp
  rw [after0_5]
  frame_out
  have hr := r.isLt
  refine (pay3_apply _ _ _ r l).trans ?_
  refine (congrArg₂ (fun a b => normed len a b l) (row_eq m c t r ⟨t.val * 512 + r.val, by omega⟩ rfl) (gain_eq m c t)).trans ?_
  refine (congrArg (norm m c) ?_ : norm m c (ix2 ⟨t.val * 512 + r.val, by omega⟩ l) = _)
  blk_ext! [index_5 t]

/-- The run leaves the scores in the third. -/
theorem scores_arr : (dats m 0 c).arrAt 6 cfg0.N = scores m c := by
  refine (dats m 0 c).arrAt_eq_of_covers 6 _ (by decide +kernel) fun t hf y => ?_
  have ht : t.val < 64 := t.isLt
  obtain ⟨r, j, rfl⟩ : ∃ (r : Fin 512) (j : Fin 128), y = (ix2 r j : S512x128.Idx) := ⟨y (0 : Fin 2), y (1 : Fin 2), eq_ix2 _⟩
  blk_simp
  rw [after0_6]
  frame_out
  have hr := r.isLt
  refine (pay4_apply _ _ _ _ r j).trans ?_
  refine (Finset.sum_congr rfl fun l _ => congrArg₂ (· * ·)
    (congrArg₂ (fun a b => normed len a b l) (row_eq m c t r ⟨t.val * 512 + r.val, by omega⟩ rfl) (gain_eq m c t))
    (block_3 m c t l j)).trans ?_
  refine (congrArg (scores m c) ?_ : scores m c (ix2 ⟨t.val * 512 + r.val, by omega⟩ j) = _)
  blk_ext! [index_6 t]

/-- The kernel's frame, read on the machine. -/
theorem frame_p : Cert.quiescent_Kernel6 := fun m ρ _ => Cert.Kernel6.Gen.frame (F := Bits) m ρ

/-- The kernel's frame, read on the extended reals. -/
theorem frame_pi : Cert.quiescent_Kernel6Ideal := fun m ρ _ => Cert.Kernel6Ideal.Gen.frame (F := Ideal) m ρ

/-- The reference's frame: its run read at the arguments; it declares no semaphore. -/
theorem frame_ri : Cert.quiescent_Reference6Ideal := fun m ρ _ =>
  (θ_run Cert.Reference6Ideal.defs _ _).mono (fun r h => ⟨fun c => (h c).2.2.2,
      Idealize.ShloMosaic.sem_eq_zero_of_no_sems (by decide) r.2⟩)
    (Cert.Reference6Ideal.Value.run (F := Ideal) m ρ)

open Cert.Reference6Ideal.Read in
/-- The reference's norm of the launch's arguments is the launch's. -/
theorem ref_norm (i : Fin 32768) (l : Fin 2048) :
    (val_main_v14 (F := Ideal) (rows m c) (branch m c) (gain m c) : S32768x2048.Idx → EReal) (ix2 i l) = norm m c (ix2 i l) := by
  unfold val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1
    norm normed total
  generalize rows m c = x
  generalize branch m c = d
  generalize gain m c = g
  pointwise

open Cert.Reference6Ideal.Read in
/-- The reference's scores of the launch's arguments are the launch's. -/
theorem ref_scores :
    (val_main_v16 (F := Ideal) (rows m c) (branch m c) (gain m c) (router m c) : S32768x128.Idx → EReal) = scores m c := by
  funext y
  obtain ⟨i, j, rfl⟩ : ∃ (i : Fin 32768) (j : Fin 128), y = ix2 i j := ⟨y (0 : Fin 2), y (1 : Fin 2), eq_ix2 _⟩
  refine Eq.trans ?_ (Finset.sum_congr rfl fun l _ => congrArg₂ (· * ·) (ref_norm m c i l) (padded_apply (router m c) l j).symm)
  unfold val_main_v16 val_main_v15 val_main_call0_v0 val_main_c
  generalize val_main_v14 (F := Ideal) (rows m c) (branch m c) (gain m c) = h
  generalize router m c = w
  pointwise
  split_ifs with hj
  · rfl
  · rw [fill]
    simp

open Cert.Reference6Ideal.Read in
/-- Both runs end with the sum, its norm and its scores. -/
theorem algebraic : Cert.algebraic_Kernel6Ideal_Reference6Ideal := by
  intro m g m' g' hpre hagree
  refine ⟨fun c => total m c, fun c => norm m c, fun c => scores m c, ?_, ?_⟩
  · exact (θ_run Cert.Kernel6Ideal.defs _ _).mono (fun r h c => ⟨(h c).1.trans (total_arr m c), (h c).2.1.trans (norm_arr m c),
        (h c).2.2.1.trans (scores_arr m c), (h c).2.2.2⟩)
      (Cert.Kernel6Ideal.Value.run_blocks (F := Ideal) m g)
  · refine (θ_run Cert.Reference6Ideal.defs _ _).mono (fun r h c => ?_) (Cert.Reference6Ideal.Value.run (F := Ideal) m' g')
    obtain ⟨h1, h2, h3, h4⟩ := h c
    obtain ⟨e0, e1, e2, e3⟩ := hagree c
    refine ⟨h1.trans ?_, h2.trans ?_, h3.trans ?_, h4⟩
    · rw [val_main_v1_eq, e0, e1]
      rfl
    · rw [val_main_v17_eq, e0, e1, e2]
      funext y
      exact (congrArg _ (eq_ix2 y)).trans ((ref_norm m c (y 0) (y 1)).trans (congrArg (norm m c) (eq_ix2 y).symm))
    · rw [val_main_v16_eq, e0, e1, e2, e3]
      exact ref_scores m c

end Cert.AddNorm

end
-- ==== Proof.MixNorm.lean ====
/-
  The mix norm's call: over the extended reals, its output array is the three branches' norms side by side.
-/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Norm
public import Idealize.ShloMosaic.Lib.Pipeline.Frame
public import Idealize.ShloMosaic.Lib.Pipeline.ReadBack
public import Idealize.ShloMosaic.Lib.Pipeline.ValueKit
public import Idealize.ShloMosaic.Lib.Pointwise
public import Idealize.ShloMosaic.PureOps.Ideal.Laws

@[expose] public section

noncomputable section

namespace Cert.MixNorm

open Cert.Norm Cert.Kernel7Ideal Cert.Kernel7Ideal.Gen
open Idealize.ShloMosaic Idealize.ShloMosaic.TcCoe Idealize.SL.Sem
open scoped BigOperators

/-- The outer branches' row length as the programs write it. -/
abbrev len : EReal := Ideal.ofBits .f32 0x44000000#32
/-- The middle branch's. -/
abbrev wide : EReal := Ideal.ofBits .f32 0x44800000#32

/-- Three branches' rows, each normed with its own columns of the gain, side by side. -/
def mixed (x : Fin 512 → EReal) (y : Fin 1024 → EReal) (z : Fin 512 → EReal) (g : Fin 2048 → EReal) (j : Fin 2048) : EReal :=
  if h : j.val < 512 then normed len x (fun k => g ⟨k.val, by omega⟩) ⟨j.val, h⟩
  else if h : j.val - 512 < 1024 then normed wide y (fun k => g ⟨512 + k.val, by omega⟩) ⟨j.val - 512, h⟩
  else normed len z (fun k => g ⟨1536 + k.val, by omega⟩) ⟨j.val - 512 - 1024, by omega⟩

theorem mixed_left (x : Fin 512 → EReal) (y : Fin 1024 → EReal) (z : Fin 512 → EReal) (g : Fin 2048 → EReal) (l : Fin 512) :
    mixed x y z g ⟨0 + l.val, by omega⟩ = normed len x (fun k => g ⟨0 + k.val, by omega⟩) l := by
  unfold mixed
  simp only [Nat.zero_add]
  rw [dif_pos l.isLt]

theorem mixed_middle (x : Fin 512 → EReal) (y : Fin 1024 → EReal) (z : Fin 512 → EReal) (g : Fin 2048 → EReal) (l : Fin 1024) :
    mixed x y z g ⟨512 + l.val, by omega⟩ = normed wide y (fun k => g ⟨512 + k.val, by omega⟩) l := by
  unfold mixed
  rw [dif_neg (by show ¬ 512 + l.val < 512; omega), dif_pos (by show 512 + l.val - 512 < 1024; omega)]
  exact congrArg _ (Fin.ext (by show 512 + l.val - 512 = l.val; omega))

theorem mixed_right (x : Fin 512 → EReal) (y : Fin 1024 → EReal) (z : Fin 512 → EReal) (g : Fin 2048 → EReal) (l : Fin 512) :
    mixed x y z g ⟨1536 + l.val, by omega⟩ = normed len z (fun k => g ⟨1536 + k.val, by omega⟩) l := by
  unfold mixed
  rw [dif_neg (by show ¬ 1536 + l.val < 512; omega), dif_neg (by show ¬ 1536 + l.val - 512 < 1024; omega)]
  exact congrArg _ (Fin.ext (by show 1536 + l.val - 512 - 1024 = l.val; omega))

/-- A point's norm of the first branch. -/
theorem pay2_apply (x : S1024x512.Idx → EReal) (g : S1x512.Idx → EReal) (r : Fin 1024) (l : Fin 512) :
    (k0_pay2 (F := Ideal) x g : S1024x512.Idx → EReal) (ix2 r l) = normed len (fun k => x (ix2 r k)) (fun k => g (ix2 0 k)) l := by
  unfold k0_pay2 normed
  pointwise

/-- A point's norm of the second. -/
theorem pay3_apply (x : S1024x1024.Idx → EReal) (g : S1x1024.Idx → EReal) (r : Fin 1024) (l : Fin 1024) :
    (k0_pay3 (F := Ideal) x g : S1024x1024.Idx → EReal) (ix2 r l) = normed wide (fun k => x (ix2 r k)) (fun k => g (ix2 0 k)) l := by
  unfold k0_pay3 normed
  pointwise

/-- A point's norm of the third. -/
theorem pay1_apply (x : S1024x512.Idx → EReal) (g : S1x512.Idx → EReal) (r : Fin 1024) (l : Fin 512) :
    (k0_pay1 (F := Ideal) x g : S1024x512.Idx → EReal) (ix2 r l) = normed len (fun k => x (ix2 r k)) (fun k => g (ix2 0 k)) l := by
  unfold k0_pay1 normed
  pointwise

/-- What a point leaves in its block. -/
def blockF (x : S1024x512.Idx → EReal) (y : S1024x1024.Idx → EReal) (z : S1024x512.Idx → EReal) (g : S1x2048.Idx → EReal) :
    S1024x2048.Idx → EReal := fun i =>
  mixed (fun k => x (ix2 (i 0) k)) (fun k => y (ix2 (i 0) k)) (fun k => z (ix2 (i 0) k)) (fun k => g (ix2 0 k)) (i 1)

/-- Where a stored tile's entry lies in the block. -/
theorem tile_at {n o : ℕ} (inb) (r : Fin 1024) (l : Fin n) (h : o + l.val < 2048) :
    (Rect.unit (s := S1024x2048) ![0, o] ![1024, n] inb).emb (ix2 r l) = ix2 r ⟨o + l.val, h⟩ :=
  funext fun a => match a with
    | ⟨0, _⟩ => Fin.ext (show 0 + 1 * r.val = r.val by omega)
    | ⟨1, _⟩ => Fin.ext (show o + 1 * l.val = o + l.val by omega)

/-- The gain's columns a tile reads. -/
theorem gain_at {n o : ℕ} (g : S1x2048.Idx → EReal) (inb) (l : Fin n) (h : o + l.val < 2048) :
    View.ld (Val := Elt Ideal) (e' := .f32) g (Rect.unit (s := S1x2048) ![0, o] ![1, n] inb) (ix2 0 l) = g (ix2 0 ⟨o + l.val, h⟩) :=
  congrArg g (funext fun a => match a with
    | ⟨0, _⟩ => Fin.ext (show 0 + 1 * 0 = 0 by omega)
    | ⟨1, _⟩ => Fin.ext (show o + 1 * l.val = o + l.val by omega))

theorem index_0 : ∀ t : Fin cfg0.N, (cfg0.win 0).index t = ![t.val, 0] :=
  (by decide +kernel : ∀ t : Fin grid0.N, win0_0.index t = ![t.val, 0])
theorem index_1 : ∀ t : Fin cfg0.N, (cfg0.win 1).index t = ![t.val, 0] :=
  (by decide +kernel : ∀ t : Fin grid0.N, win0_1.index t = ![t.val, 0])
theorem index_2 : ∀ t : Fin cfg0.N, (cfg0.win 2).index t = ![t.val, 0] :=
  (by decide +kernel : ∀ t : Fin grid0.N, win0_2.index t = ![t.val, 0])
theorem index_3 : ∀ t : Fin cfg0.N, (cfg0.win 3).index t = ![0, 0] :=
  (by decide +kernel : ∀ t : Fin grid0.N, win0_3.index t = ![0, 0])
theorem index_4 : ∀ t : Fin cfg0.N, (cfg0.win 4).index t = ![t.val, 0] :=
  (by decide +kernel : ∀ t : Fin grid0.N, win0_4.index t = ![t.val, 0])

variable (m : (ℓ : Loc nD τ sig) → Buf (Elt Ideal) ℓ) (c : Dev nD)

/-- The first branch's rows. -/
abbrev left : S32768x512.Idx → EReal := m ((c : Thread nD τ).loc main_arg0)
/-- The second's. -/
abbrev middle : S32768x1024.Idx → EReal := m ((c : Thread nD τ).loc main_arg1)
/-- The third's. -/
abbrev right : S32768x512.Idx → EReal := m ((c : Thread nD τ).loc main_arg2)
/-- The norms' gain. -/
abbrev gain : S2048.Idx → EReal := m ((c : Thread nD τ).loc main_arg3)

/-- The gain the call is launched with: one row of it. -/
theorem V_gain (l : Fin 2048) : V m c main_v0 (ix2 0 l) = gain m c (ix1 l) := by
  have e : (V m c main_v0 : S1x2048.Idx → EReal) = shapeCast S1x2048 (gain m c) shapeCasts_S2048_S1x2048 := rfl
  rw [e]
  pointwise

theorem block_0 (t : Fin cfg0.N) (r : Fin 1024) (k : Fin 512) (i : Fin 32768) (hi : i.val = t.val * 1024 + r.val) :
    iblk m c 0 t (ix2 r k) = left m c (ix2 i k) := by
  refine Eq.trans ?_ (congrFun (V_main_arg0 m c) (ix2 i k))
  blk_ext! [iblk, index_0 t]
theorem block_1 (t : Fin cfg0.N) (r : Fin 1024) (k : Fin 1024) (i : Fin 32768) (hi : i.val = t.val * 1024 + r.val) :
    iblk m c 1 t (ix2 r k) = middle m c (ix2 i k) := by
  refine Eq.trans ?_ (congrFun (V_main_arg1 m c) (ix2 i k))
  blk_ext! [iblk, index_1 t]
theorem block_2 (t : Fin cfg0.N) (r : Fin 1024) (k : Fin 512) (i : Fin 32768) (hi : i.val = t.val * 1024 + r.val) :
    iblk m c 2 t (ix2 r k) = right m c (ix2 i k) := by
  refine Eq.trans ?_ (congrFun (V_main_arg2 m c) (ix2 i k))
  blk_ext! [iblk, index_2 t]
theorem block_3 (t : Fin cfg0.N) (k : Fin 2048) : iblk m c 3 t (ix2 0 k) = gain m c (ix1 k) := by
  rw [← V_gain m c]
  blk_ext! [iblk, index_3 t]

/-- A point's stores leave the block. -/
theorem outs_eq (t : Fin cfg0.N) : outsAt0 m c t = blockF (iblk m c 0 t) (iblk m c 1 t) (iblk m c 2 t) (iblk m c 3 t) := by
  unfold outsAt0
  frame_out
  refine funext fun y => (congrArg (fun K => View.canon K y) (List.append_nil _).symm).trans
    (View.canon_append_of_piecesOf (Val := Elt Ideal) (e := .bf16) _ [] [_, _, _] ⟨?_, ?_, ?_, trivial⟩ y
      (View.cover_of_tiledBy (s := S1024x2048) _ ![1024, 512] (by sl_kernel_rfl) y))
  · intro x
    obtain ⟨r, l, rfl⟩ : ∃ (r : Fin 1024) (l : Fin 512), x = ix2 r l := ⟨_, _, eq_ix2 x⟩
    refine (pay1_apply _ _ r l).trans ?_
    refine Eq.trans ?_ (congrArg (blockF _ _ _ _) (tile_at inb_S1024x2048_S1024x512_0_1536 r l (by omega))).symm
    refine Eq.trans ?_ (mixed_right _ _ _ _ l).symm
    exact congrArg (fun a => normed len _ a l) (funext fun k => gain_at _ _ k (by omega))
  · intro x
    obtain ⟨r, l, rfl⟩ : ∃ (r : Fin 1024) (l : Fin 1024), x = ix2 r l := ⟨_, _, eq_ix2 x⟩
    refine (pay3_apply _ _ r l).trans ?_
    refine Eq.trans ?_ (congrArg (blockF _ _ _ _) (tile_at inb_S1024x2048_S1024x1024_0_512 r l (by omega))).symm
    refine Eq.trans ?_ (mixed_middle _ _ _ _ l).symm
    exact congrArg (fun a => normed wide _ a l) (funext fun k => gain_at _ _ k (by omega))
  · intro x
    obtain ⟨r, l, rfl⟩ : ∃ (r : Fin 1024) (l : Fin 512), x = ix2 r l := ⟨_, _, eq_ix2 x⟩
    refine (pay2_apply _ _ r l).trans ?_
    refine Eq.trans ?_ (congrArg (blockF _ _ _ _) (tile_at inb_S1024x2048_S1024x512_0_0 r l (by omega))).symm
    refine Eq.trans ?_ (mixed_left _ _ _ _ l).symm
    exact congrArg (fun a => normed len _ a l) (funext fun k => gain_at _ _ k (by omega))

/-- The three branches' norms side by side. -/
def res : S32768x2048.Idx → EReal := fun i =>
  mixed (fun k => left m c (ix2 (i 0) k)) (fun k => middle m c (ix2 (i 0) k)) (fun k => right m c (ix2 (i 0) k))
    (fun k => gain m c (ix1 k)) (i 1)

/-- The run leaves them in the output array. -/
theorem res_arr : (dats m 0 c).arrAt 4 cfg0.N = res m c := by
  refine (dats m 0 c).arrAt_eq_of_covers 4 _ (by decide +kernel) fun t hf y => ?_
  have ht : t.val < 32 := t.isLt
  obtain ⟨r, j, rfl⟩ : ∃ (r : Fin 1024) (j : Fin 2048), y = (ix2 r j : S1024x2048.Idx) := ⟨y (0 : Fin 2), y (1 : Fin 2), eq_ix2 _⟩
  blk_simp
  rw [after0_4, outs_eq]
  have hr := r.isLt
  have e0 : (fun k : Fin 512 => (iblk m c 0 t (ix2 r k) : EReal)) = fun k => left m c (ix2 ⟨t.val * 1024 + r.val, by omega⟩ k) :=
    funext fun k => block_0 m c t r k _ rfl
  have e1 : (fun k : Fin 1024 => (iblk m c 1 t (ix2 r k) : EReal)) = fun k => middle m c (ix2 ⟨t.val * 1024 + r.val, by omega⟩ k) :=
    funext fun k => block_1 m c t r k _ rfl
  have e2 : (fun k : Fin 512 => (iblk m c 2 t (ix2 r k) : EReal)) = fun k => right m c (ix2 ⟨t.val * 1024 + r.val, by omega⟩ k) :=
    funext fun k => block_2 m c t r k _ rfl
  have e3 : (fun k : Fin 2048 => (iblk m c 3 t (ix2 0 k) : EReal)) = fun k => gain m c (ix1 k) :=
    funext fun k => block_3 m c t k
  refine (congrArg₂ (fun f g => f g j) (congrArg₂ (fun f z => f z) (congrArg₂ mixed e0 e1) e2) e3).trans ?_
  refine (congrArg (res m c) ?_ : res m c (ix2 ⟨t.val * 1024 + r.val, by omega⟩ j) = _)
  blk_ext! [index_4 t]

/-- The kernel's frame, read on the machine. -/
theorem frame_p : Cert.quiescent_Kernel7 := fun m ρ _ => Cert.Kernel7.Gen.frame (F := Bits) m ρ

/-- The kernel's frame, read on the extended reals. -/
theorem frame_pi : Cert.quiescent_Kernel7Ideal := fun m ρ _ => Cert.Kernel7Ideal.Gen.frame (F := Ideal) m ρ

/-- The reference's frame: its run read at the arguments; it declares no semaphore. -/
theorem frame_ri : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

open Cert.Reference7Ideal.Read in
/-- The reference's norm of the first branch. -/
theorem ref_left (x : S32768x512.Idx → EReal) (g : S2048.Idx → EReal) (i : Fin 32768) (l : Fin 512) :
    (val_main_v16 (F := Ideal) x g : S32768x512.Idx → EReal) (ix2 i l)
      = normed len (fun k => x (ix2 i k)) (fun k => g (ix1 ⟨k.val, by omega⟩)) l := by
  unfold val_main_v16 val_main_v15 val_main_v14 val_main_v13 val_main_v12 val_main_v11 val_main_v10 val_main_v9 val_main_v8 val_main_v7
    val_main_v6 val_main_v5 val_main_v4 val_main_v3 val_main_v0 val_main_cst val_main_cst_0 val_main_cst_1 normed
  pointwise

open Cert.Reference7Ideal.Read in
/-- The reference's norm of the second. -/
theorem ref_middle (x : S32768x1024.Idx → EReal) (g : S2048.Idx → EReal) (i : Fin 32768) (l : Fin 1024) :
    (val_main_v30 (F := Ideal) x g : S32768x1024.Idx → EReal) (ix2 i l)
      = normed wide (fun k => x (ix2 i k)) (fun k => g (ix1 ⟨512 + k.val, by omega⟩)) l := by
  unfold val_main_v30 val_main_v29 val_main_v28 val_main_v27 val_main_v26 val_main_v25 val_main_v24 val_main_v23 val_main_v22 val_main_v21
    val_main_v20 val_main_v19 val_main_v18 val_main_v17 val_main_v1 val_main_cst_2 val_main_cst_3 val_main_cst_4 normed
  pointwise

open Cert.Reference7Ideal.Read in
/-- The reference's norm of the third. -/
theorem ref_right (x : S32768x512.Idx → EReal) (g : S2048.Idx → EReal) (i : Fin 32768) (l : Fin 512) :
    (val_main_v43 (F := Ideal) x g : S32768x512.Idx → EReal) (ix2 i l)
      = normed len (fun k => x (ix2 i k)) (fun k => g (ix1 ⟨1536 + k.val, by omega⟩)) l := by
  unfold val_main_v43 val_main_v42 val_main_v41 val_main_v40 val_main_v39 val_main_v38 val_main_v37 val_main_v36 val_main_v35 val_main_v34
    val_main_v33 val_main_v32 val_main_v31 val_main_v2 val_main_cst_5 val_main_cst_6 val_main_cst_7 normed
  pointwise

open Cert.Reference7Ideal.Read in
/-- The reference's result of the launch's arguments is the launch's. -/
theorem ref_res : (val_main_v45 (F := Ideal) (left m c) (middle m c) (right m c) (gain m c) : S32768x2048.Idx → EReal) = res m c := by
  funext y
  obtain ⟨i, j, rfl⟩ : ∃ (i : Fin 32768) (j : Fin 2048), y = ix2 i j := ⟨y (0 : Fin 2), y (1 : Fin 2), eq_ix2 _⟩
  show _ = mixed (fun k => left m c (ix2 i k)) (fun k => middle m c (ix2 i k)) (fun k => right m c (ix2 i k)) (fun k => gain m c (ix1 k)) j
  unfold mixed
  simp only [← ref_left, ← ref_middle, ← ref_right]
  unfold val_main_v45 val_main_v44
  generalize val_main_v16 (F := Ideal) (left m c) (gain m c) = p
  generalize val_main_v30 (F := Ideal) (middle m c) (gain m c) = q
  generalize val_main_v43 (F := Ideal) (right m c) (gain m c) = s
  pointwise

open Cert.Reference7Ideal.Read in
/-- Both runs end with the three branches' norms. -/
theorem algebraic : Cert.algebraic_Kernel7Ideal_Reference7Ideal := by
  intro m g m' g' hpre hagree
  refine ⟨fun c => res m c, ?_, ?_⟩
  · exact (θ_run Cert.Kernel7Ideal.defs _ _).mono (fun r h c => ⟨(h c).1.trans (res_arr m c), (h c).2⟩)
      (Cert.Kernel7Ideal.Value.run_blocks (F := Ideal) m g)
  · refine (θ_run Cert.Reference7Ideal.defs _ _).mono (fun r h c => ⟨(h c).1.trans ?_, (h c).2⟩)
      (Cert.Reference7Ideal.Value.run (F := Ideal) m' g')
    obtain ⟨e0, e1, e2, e3⟩ := hagree c
    rw [val_main_v45_eq, e0, e1, e2, e3]
    exact ref_res m c

end Cert.MixNorm

end
-- ==== Proof.ShortConv.lean ====
/-
  The short convolution's call: over the extended reals, its output array is the three taps' sum along every sequence.
-/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.Frame
public import Idealize.ShloMosaic.Lib.Pipeline.ReadBack
public import Idealize.ShloMosaic.Lib.Pipeline.ValueKit
public import Idealize.ShloMosaic.Lib.Pointwise
public import Idealize.ShloMosaic.PureOps.Ideal.Laws

@[expose] public section

noncomputable section

namespace Cert.ShortConv

open Cert.Kernel8Ideal Cert.Kernel8Ideal.Gen
open Idealize.ShloMosaic Idealize.ShloMosaic.TcCoe Idealize.SL.Sem

/-- The three taps' sum with the bias. -/
def taps (p x n w0 w1 w2 b : EReal) : EReal := p * w0 + x * w1 + n * w2 + b

/-- A point's sum of its three rows. -/
theorem pay1_apply (x p n : S1024x512.Idx → EReal) (w0 w1 w2 b : S1x512.Idx → EReal) (r : Fin 1024) (l : Fin 512) :
    (k0_pay1 (F := Ideal) x p n w0 w1 w2 b : S1024x512.Idx → EReal) (ix2 r l)
      = taps (p (ix2 r l)) (x (ix2 r l)) (n (ix2 r l)) (w0 (ix2 0 l)) (w1 (ix2 0 l)) (w2 (ix2 0 l)) (b (ix2 0 l)) := by
  unfold k0_pay1 taps
  pointwise

/-- A point's place in its sequence, as the call computes it. -/
def place (n : ℕ) : BitVec 32 :=
  let c := BitVec.ofNat 32 n
  let d := Scalar.select (Scalar.cmpi .eq 8#32 0#32) 1#32 8#32
  let q := Scalar.remsi c d
  Scalar.select (Scalar.andi (Scalar.xori (Scalar.cmpi .slt q 0#32) (Scalar.cmpi .slt d 0#32)) (Scalar.cmpi .ne q 0#32))
    (Scalar.addi q d) q

theorem at_start : ∀ n : Fin 32, Scalar.cmpi .eq (place n.val) 0#32 = if n.val % 8 = 0 then 1#1 else 0#1 := by decide +kernel
theorem at_end : ∀ n : Fin 32, Scalar.cmpi .eq (place n.val) 7#32 = if n.val % 8 = 7 then 1#1 else 0#1 := by decide +kernel
theorem first_row : ∀ r : Fin 1024, IntOp.cmpi .eq (BitVec.ofNat 32 r.val) 0#32 = if r.val = 0 then 1#1 else 0#1 := by decide +kernel
theorem last_row : ∀ r : Fin 1024, IntOp.cmpi .eq (BitVec.ofNat 32 r.val) 1023#32 = if r.val = 1023 then 1#1 else 0#1 := by decide +kernel

/-- A choice by a bit that a proposition decides. -/
theorem choose {α : Type} (p : Prop) [Decidable p] (a b : α) : Scalar.select (if p then 1#1 else 0#1) a b = if p then a else b := by
  split <;> rfl

/-- The row before: of the halo at the block's first row, zero there at a sequence's start. -/
theorem pay3_apply (i : grid0.Coords) (x : S1024x512.Idx → EReal) (h : S1x512.Idx → EReal) (r : Fin 1024) (l : Fin 512) :
    (k0_pay3 (F := Ideal) i x h : S1024x512.Idx → EReal) (ix2 r l)
      = if r.val = 0 then (if (i 0).val % 8 = 0 then 0 else h (ix2 0 l)) else x (ix2 ⟨r.val - 1, by omega⟩ l) := by
  unfold k0_pay3 k0_pay2
  pointwise
  show Scalar.select _ (Scalar.select (Scalar.cmpi .eq (place (i 0).val) 0#32) 0 _) _ = _
  rw [first_row r, show Scalar.cmpi .eq (place (i 0).val) 0#32 = _ from at_start (i 0), choose, choose]
  split
  · rfl
  · exact congrArg (fun k => x (ix2 k l)) (Fin.ext (by show (r.val + 1024 - 1) % 1024 = r.val - 1; omega))

/-- The row after: of the halo at the block's last row, zero there at a sequence's end. -/
theorem pay4_apply (i : grid0.Coords) (x : S1024x512.Idx → EReal) (h : S1x512.Idx → EReal) (r : Fin 1024) (l : Fin 512) :
    (k0_pay4 (F := Ideal) i x h : S1024x512.Idx → EReal) (ix2 r l)
      = if h' : r.val = 1023 then (if (i 0).val % 8 = 7 then 0 else h (ix2 0 l)) else x (ix2 ⟨r.val + 1, by omega⟩ l) := by
  unfold k0_pay4 k0_pay2
  pointwise
  show Scalar.select _ (Scalar.select (Scalar.cmpi .eq (place (i 0).val) 7#32) 0 _) _ = _
  rw [last_row r, show Scalar.cmpi .eq (place (i 0).val) 7#32 = _ from at_end (i 0), choose, choose]
  split
  · rfl
  · exact congrArg (fun k => x (ix2 k l)) (Fin.ext (by show (r.val + 1024 - 1023) % 1024 = r.val + 1; omega))

theorem index_0 : ∀ t : Fin cfg0.N, (cfg0.win 0).index t = ![t.val / 3, 4 + t.val % 3] :=
  (by decide +kernel : ∀ t : Fin grid0.N, win0_0.index t = ![t.val / 3, 4 + t.val % 3])
theorem index_1 : ∀ t : Fin cfg0.N, (cfg0.win 1).index t = ![t.val / 3 * 64 - 1, 4 + t.val % 3] :=
  (by decide +kernel : ∀ t : Fin grid0.N, win0_1.index t = ![t.val / 3 * 64 - 1, 4 + t.val % 3])
theorem index_2 : ∀ t : Fin cfg0.N, (cfg0.win 2).index t = ![min (t.val / 3 * 64 + 64) 2047, 4 + t.val % 3] :=
  (by decide +kernel : ∀ t : Fin grid0.N, win0_2.index t = ![min (t.val / 3 * 64 + 64) 2047, 4 + t.val % 3])
theorem index_3 : ∀ t : Fin cfg0.N, (cfg0.win 3).index t = ![0, t.val % 3] :=
  (by decide +kernel : ∀ t : Fin grid0.N, win0_3.index t = ![0, t.val % 3])
theorem index_4 : ∀ t : Fin cfg0.N, (cfg0.win 4).index t = ![0, t.val % 3] :=
  (by decide +kernel : ∀ t : Fin grid0.N, win0_4.index t = ![0, t.val % 3])
theorem index_5 : ∀ t : Fin cfg0.N, (cfg0.win 5).index t = ![t.val / 3, t.val % 3] :=
  (by decide +kernel : ∀ t : Fin grid0.N, win0_5.index t = ![t.val / 3, t.val % 3])
theorem coord (t : Fin grid0.N) : (grid0.coords t 0).val = t.val / 3 :=
  (by decide +kernel : ∀ t : Fin grid0.N, (grid0.coords t 0).val = t.val / 3) t

variable (m : (ℓ : Loc nD τ sig) → Buf (Elt Ideal) ℓ) (c : Dev nD)

/-- The projection's rows. -/
abbrev rows : S32768x4096.Idx → EReal := m ((c : Thread nD τ).loc main_arg0)
/-- The taps' weights. -/
abbrev weights : S3x1536.Idx → EReal := m ((c : Thread nD τ).loc main_arg1)
/-- The bias. -/
abbrev bias : S1536.Idx → EReal := m ((c : Thread nD τ).loc main_arg2)

/-- The bias the call is launched with: one row of it. -/
theorem V_bias (l : Fin 1536) : V m c main_v0 (ix2 0 l) = bias m c (ix1 l) := by
  have e : (V m c main_v0 : S1x1536.Idx → EReal) = shapeCast S1x1536 (bias m c) shapeCasts_S1536_S1x1536 := rfl
  rw [e]
  pointwise

theorem block_0 (t : Fin cfg0.N) (r : Fin 1024) (l : Fin 512) (i : Fin 32768) (j : Fin 4096)
    (hi : i.val = t.val / 3 * 1024 + r.val) (hj : j.val = (4 + t.val % 3) * 512 + l.val) :
    iblk m c 0 t (ix2 r l) = rows m c (ix2 i j) := by
  refine Eq.trans ?_ (congrFun (V_main_arg0 m c) (ix2 i j))
  blk_ext! [iblk, index_0 t]
theorem block_1 (t : Fin cfg0.N) (r : Fin 16) (l : Fin 512) (i : Fin 32768) (j : Fin 4096)
    (hi : i.val = (t.val / 3 * 64 - 1) * 16 + r.val) (hj : j.val = (4 + t.val % 3) * 512 + l.val) :
    iblk m c 1 t (ix2 r l) = rows m c (ix2 i j) := by
  refine Eq.trans ?_ (congrFun (V_main_arg0 m c) (ix2 i j))
  blk_ext! [iblk, index_1 t]
theorem block_2 (t : Fin cfg0.N) (r : Fin 16) (l : Fin 512) (i : Fin 32768) (j : Fin 4096)
    (hi : i.val = min (t.val / 3 * 64 + 64) 2047 * 16 + r.val) (hj : j.val = (4 + t.val % 3) * 512 + l.val) :
    iblk m c 2 t (ix2 r l) = rows m c (ix2 i j) := by
  refine Eq.trans ?_ (congrFun (V_main_arg0 m c) (ix2 i j))
  blk_ext! [iblk, index_2 t]
theorem block_3 (t : Fin cfg0.N) (r : Fin 3) (l : Fin 512) (j : Fin 1536) (hj : j.val = t.val % 3 * 512 + l.val) :
    iblk m c 3 t (ix2 r l) = weights m c (ix2 r j) := by
  refine Eq.trans ?_ (congrFun (V_main_arg1 m c) (ix2 r j))
  blk_ext! [iblk, index_3 t]
theorem block_4 (t : Fin cfg0.N) (l : Fin 512) (j : Fin 1536) (hj : j.val = t.val % 3 * 512 + l.val) :
    iblk m c 4 t (ix2 0 l) = bias m c (ix1 j) := by
  rw [← V_bias m c]
  blk_ext! [iblk, index_4 t]

/-- The row before in the same sequence, zero at its start. -/
def prior (x : S32768x4096.Idx → EReal) (i : Fin 32768) (j : Fin 4096) : EReal :=
  if i.val % 8192 = 0 then 0 else x (ix2 ⟨i.val - 1, by omega⟩ j)

/-- The row after in the same sequence, zero at its end. -/
def later (x : S32768x4096.Idx → EReal) (i : Fin 32768) (j : Fin 4096) : EReal :=
  if h : i.val % 8192 = 8191 then 0 else x (ix2 ⟨i.val + 1, by omega⟩ j)

/-- The call's column of the projection. -/
abbrev col (j : Fin 1536) : Fin 4096 := ⟨2048 + j.val, by omega⟩

/-- The three taps' sum along every sequence. -/
def conv (x : S32768x4096.Idx → EReal) (w : S3x1536.Idx → EReal) (b : S1536.Idx → EReal) (i : Fin 32768) (j : Fin 1536) : EReal :=
  taps (prior x i (col j)) (x (ix2 i (col j))) (later x i (col j)) (w (ix2 0 j)) (w (ix2 1 j)) (w (ix2 2 j)) (b (ix1 j))

/-- The same as an array. -/
def res : S32768x1536.Idx → EReal := fun i => conv (rows m c) (weights m c) (bias m c) (i 0) (i 1)

/-- A point's rows before are the array's. -/
theorem prior_eq (t : Fin cfg0.N) (r : Fin 1024) (l : Fin 512) (i : Fin 32768) (j : Fin 4096)
    (hi : i.val = t.val / 3 * 1024 + r.val) (hj : j.val = (4 + t.val % 3) * 512 + l.val) :
    (k0_pay3 (F := Ideal) (grid0.coords t) (iblk m c 0 t) (View.ld (iblk m c 1 t) r0_1) : S1024x512.Idx → EReal) (ix2 r l)
      = prior (rows m c) i j := by
  have hc := coord t
  have ht : t.val < 96 := t.isLt
  have hr := r.isLt
  refine (pay3_apply _ _ _ r l).trans ?_
  unfold prior
  rw [hc]
  by_cases h0 : r.val = 0
  · rw [if_pos h0]
    by_cases h1 : t.val / 3 % 8 = 0
    · rw [if_pos h1, if_pos (by omega)]
    · rw [if_neg h1, if_neg (by omega)]
      refine Eq.trans ?_ (block_1 m c t 15 l ⟨i.val - 1, by omega⟩ j (by show i.val - 1 = (t.val / 3 * 64 - 1) * 16 + 15; omega) hj)
      pointwise
  · rw [if_neg h0, if_neg (by omega)]
    refine Eq.trans ?_ (block_0 m c t ⟨r.val - 1, by omega⟩ l ⟨i.val - 1, by omega⟩ j (by show i.val - 1 = t.val / 3 * 1024 + (r.val - 1); omega) hj)
    pointwise

/-- A point's rows after are the array's. -/
theorem later_eq (t : Fin cfg0.N) (r : Fin 1024) (l : Fin 512) (i : Fin 32768) (j : Fin 4096)
    (hi : i.val = t.val / 3 * 1024 + r.val) (hj : j.val = (4 + t.val % 3) * 512 + l.val) :
    (k0_pay4 (F := Ideal) (grid0.coords t) (iblk m c 0 t) (View.ld (iblk m c 2 t) r0_2) : S1024x512.Idx → EReal) (ix2 r l)
      = later (rows m c) i j := by
  have hc := coord t
  have ht : t.val < 96 := t.isLt
  have hr := r.isLt
  refine (pay4_apply _ _ _ r l).trans ?_
  unfold later
  rw [hc]
  by_cases h0 : r.val = 1023
  · rw [dif_pos h0]
    by_cases h1 : t.val / 3 % 8 = 7
    · rw [if_pos h1, dif_pos (by omega)]
    · rw [if_neg h1, dif_neg (by omega)]
      refine Eq.trans ?_ (block_2 m c t 0 l ⟨i.val + 1, by omega⟩ j
        (by show i.val + 1 = min (t.val / 3 * 64 + 64) 2047 * 16 + 0; omega) hj)
      pointwise
  · rw [dif_neg h0, dif_neg (by omega)]
    refine Eq.trans ?_ (block_0 m c t ⟨r.val + 1, by omega⟩ l ⟨i.val + 1, by omega⟩ j (by show i.val + 1 = t.val / 3 * 1024 + (r.val + 1); omega) hj)
    pointwise

/-- The run leaves them in the output array. -/
theorem res_arr : (dats m 0 c).arrAt 5 cfg0.N = res m c := by
  refine (dats m 0 c).arrAt_eq_of_covers 5 _ (by decide +kernel) fun t hf y => ?_
  have ht : t.val < 96 := t.isLt
  obtain ⟨r, l, rfl⟩ : ∃ (r : Fin 1024) (l : Fin 512), y = (ix2 r l : S1024x512.Idx) := ⟨y (0 : Fin 2), y (1 : Fin 2), eq_ix2 _⟩
  blk_simp
  rw [after0_5]
  frame_out
  have hr := r.isLt
  have hl := l.isLt
  refine (pay1_apply _ _ _ _ _ _ _ r l).trans ?_
  have hj : (col ⟨t.val % 3 * 512 + l.val, by omega⟩).val = (4 + t.val % 3) * 512 + l.val := by
    show 2048 + (t.val % 3 * 512 + l.val) = _; omega
  refine Eq.trans (b := conv (rows m c) (weights m c) (bias m c) ⟨t.val / 3 * 1024 + r.val, by omega⟩ ⟨t.val % 3 * 512 + l.val, by omega⟩) ?_ ?_
  · unfold conv
    refine congr (congr (congr (congr (congr (congr (congrArg taps ?_) ?_) ?_) ?_) ?_) ?_) ?_
    · exact prior_eq m c t r l _ _ rfl hj
    · exact block_0 m c t r l _ _ rfl hj
    · exact later_eq m c t r l _ _ rfl hj
    · refine Eq.trans ?_ (block_3 m c t 0 l _ rfl)
      pointwise
    · refine Eq.trans ?_ (block_3 m c t 1 l _ rfl)
      pointwise
    · refine Eq.trans ?_ (block_3 m c t 2 l _ rfl)
      pointwise
    · exact block_4 m c t l _ rfl
  · refine (congrArg (res m c) ?_ : res m c (ix2 ⟨t.val / 3 * 1024 + r.val, by omega⟩ ⟨t.val % 3 * 512 + l.val, by omega⟩) = _)
    blk_ext! [index_5 t]

/-- The kernel's frame, read on the machine. -/
theorem frame_p : Cert.quiescent_Kernel8 := fun m ρ _ => Cert.Kernel8.Gen.frame (F := Bits) m ρ

/-- The kernel's frame, read on the extended reals. -/
theorem frame_pi : Cert.quiescent_Kernel8Ideal := fun m ρ _ => Cert.Kernel8Ideal.Gen.frame (F := Ideal) m ρ

/-- The reference's frame: its run read at the arguments; it declares no semaphore. -/
theorem frame_ri : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- The fill of the host's rows is zero. -/
theorem fill : (FloatOps.sitofp (F := Ideal) .f32 (0#32) : EReal) = 0 := by
  show (((0#32 : BitVec 32).toInt : ℝ) : EReal) = 0
  simp

open Cert.Reference8Ideal.Read in
/-- The padded rows: row zero and the last are zero, the others a sequence's. -/
theorem ref_pad (x : S32768x4096.Idx → EReal) (b : Fin 4) (s : Fin 8194) (j : Fin 1536) :
    (val_main_v3 (F := Ideal) x : Cert.Reference8Ideal.S4x8194x1536.Idx → EReal) (ix3 b s j)
      = if h : 1 ≤ s.val ∧ s.val - 1 < 8192 then x (ix2 ⟨b.val * 8192 + (s.val - 1), by omega⟩ (col j)) else 0 := by
  unfold val_main_v3 val_main_v2 val_main_v1 val_main_v0 val_main_call0_v0 val_main_c
  pointwise
  rw [fill]

open Cert.Reference8Ideal.Read in
/-- The reference's sum in a sequence. -/
theorem ref_sum (x : S32768x4096.Idx → EReal) (w : S3x1536.Idx → EReal) (u : S1536.Idx → EReal) (b : Fin 4) (s : Fin 8192) (j : Fin 1536) :
    (val_main_v26 (F := Ideal) x w u : Cert.Reference8Ideal.S4x8192x1536.Idx → EReal) (ix3 b s j)
      = taps (val_main_v3 (F := Ideal) x (ix3 b ⟨s.val, by omega⟩ j)) (val_main_v3 (F := Ideal) x (ix3 b ⟨1 + s.val, by omega⟩ j))
          (val_main_v3 (F := Ideal) x (ix3 b ⟨2 + s.val, by omega⟩ j)) (w (ix2 0 j)) (w (ix2 1 j)) (w (ix2 2 j)) (u (ix1 j)) := by
  unfold val_main_v26 val_main_v25 val_main_v24 val_main_v23 val_main_v22 val_main_v21 val_main_v20 val_main_v19 val_main_v18
    val_main_v17 val_main_v16 val_main_v15 val_main_v14 val_main_v13 val_main_v12 val_main_v11 val_main_v10 val_main_v9 val_main_v8
    val_main_v7 val_main_v6 val_main_v5 val_main_v4 taps
  generalize val_main_v3 (F := Ideal) x = p
  pointwise

open Cert.Reference8Ideal.Read in
/-- The reference's result of the launch's arguments is the launch's. -/
theorem ref_res : (val_main_v27 (F := Ideal) (rows m c) (weights m c) (bias m c) : S32768x1536.Idx → EReal) = res m c := by
  funext y
  obtain ⟨i, j, rfl⟩ : ∃ (i : Fin 32768) (j : Fin 1536), y = ix2 i j := ⟨y (0 : Fin 2), y (1 : Fin 2), eq_ix2 _⟩
  show _ = conv (rows m c) (weights m c) (bias m c) i j
  have hi := i.isLt
  refine Eq.trans (b := (val_main_v26 (F := Ideal) (rows m c) (weights m c) (bias m c) : Cert.Reference8Ideal.S4x8192x1536.Idx → EReal)
    (ix3 ⟨i.val / 8192, by omega⟩ ⟨i.val % 8192, by omega⟩ j)) ?_ ?_
  · unfold val_main_v27
    generalize val_main_v26 (F := Ideal) (rows m c) (weights m c) (bias m c) = p
    pointwise
  · rw [ref_sum, ref_pad, ref_pad, ref_pad]
    unfold conv
    refine congr (congr (congr (congr (congr (congr (congrArg taps ?_) ?_) ?_) rfl) rfl) rfl) rfl
    · unfold prior
      by_cases h : i.val % 8192 = 0
      · rw [if_pos h, dif_neg (by show ¬ (1 ≤ i.val % 8192 ∧ _); omega)]
      · rw [if_neg h, dif_pos (by show 1 ≤ i.val % 8192 ∧ i.val % 8192 - 1 < 8192; omega)]
        exact congrArg (fun k => rows m c (ix2 k (col j))) (Fin.ext (by show i.val / 8192 * 8192 + (i.val % 8192 - 1) = i.val - 1; omega))
    · rw [dif_pos (by show 1 ≤ 1 + i.val % 8192 ∧ 1 + i.val % 8192 - 1 < 8192; omega)]
      exact congrArg (fun k => rows m c (ix2 k (col j))) (Fin.ext (by show i.val / 8192 * 8192 + (1 + i.val % 8192 - 1) = i.val; omega))
    · unfold later
      by_cases h : i.val % 8192 = 8191
      · rw [dif_pos h, dif_neg (by show ¬ (1 ≤ 2 + i.val % 8192 ∧ 2 + i.val % 8192 - 1 < 8192); omega)]
      · rw [dif_neg h, dif_pos (by show 1 ≤ 2 + i.val % 8192 ∧ 2 + i.val % 8192 - 1 < 8192; omega)]
        exact congrArg (fun k => rows m c (ix2 k (col j))) (Fin.ext (by show i.val / 8192 * 8192 + (2 + i.val % 8192 - 1) = i.val + 1; omega))

open Cert.Reference8Ideal.Read in
/-- Both runs end with the taps' sums. -/
theorem algebraic : Cert.algebraic_Kernel8Ideal_Reference8Ideal := by
  intro m g m' g' hpre hagree
  refine ⟨fun c => res m c, ?_, ?_⟩
  · exact (θ_run Cert.Kernel8Ideal.defs _ _).mono (fun r h c => ⟨(h c).1.trans (res_arr m c), (h c).2⟩)
      (Cert.Kernel8Ideal.Value.run_blocks (F := Ideal) m g)
  · refine (θ_run Cert.Reference8Ideal.defs _ _).mono (fun r h c => ⟨(h c).1.trans ?_, (h c).2⟩)
      (Cert.Reference8Ideal.Value.run (F := Ideal) m' g')
    obtain ⟨e0, e1, e2⟩ := hagree c
    rw [val_main_v27_eq, e0, e1, e2]
    exact ref_res m c

end Cert.ShortConv

end
-- ==== Proof.MlaSpec.lean ====
/-
  The queries, the keys and the values of the latent attention, over the extended reals.
-/
module

public import proofs.«01_k».proof.Kernel9Ideal
public import proofs.«01_k».proof.Proof.Norm
public import Idealize.ShloMosaic.Lib.Pointwise
public import Idealize.ShloMosaic.PureOps.Ideal.Laws

@[expose] public section

noncomputable section

namespace Cert.MlaPrep

open Cert.Norm Cert.Kernel9Ideal
open Idealize.ShloMosaic Idealize.ShloMosaic.TcCoe
open scoped BigOperators

/-- The head's width, as the programs write it. -/
abbrev width : EReal := Ideal.ofBits .f32 0x43400000#32
/-- The factor that the attention's call expects on the queries. -/
abbrev scale : EReal := Ideal.ofBits .f32 0x3DD53B95#32

/-- A token's latent query at the projection's columns. -/
abbrev colQ (k : Fin 512) : Fin 4096 := ⟨1536 + k.val, by omega⟩
/-- A token's latent key and value at the projection's columns. -/
abbrev colKV (k : Fin 256) : Fin 4096 := ⟨3584 + k.val, by omega⟩
/-- A token's lanes to be turned, at the projection's columns. -/
abbrev colR (d : Fin 64) : Fin 4096 := ⟨3840 + d.val, by omega⟩

variable (x : S32768x4096.Idx → EReal) (gq : S512.Idx → EReal) (gkv : S256.Idx → EReal) (wq : S512x1536.Idx → EReal)
  (wkv : S256x2048.Idx → EReal) (hq hk : S192.Idx → EReal)

/-- A token's normed latent query. -/
def latQ (i : Fin 32768) (k : Fin 512) : EReal :=
  normed (Ideal.ofBits .f32 0x44000000#32) (fun k => x (ix2 i (colQ k))) (fun k => gq (ix1 k)) k
/-- A token's normed latent key and value. -/
def latKV (i : Fin 32768) (k : Fin 256) : EReal :=
  normed (Ideal.ofBits .f32 0x43800000#32) (fun k => x (ix2 i (colKV k))) (fun k => gkv (ix1 k)) k

/-- A head's query before its norm. -/
def query (i : Fin 32768) (h : Fin 8) (d : Fin 192) : EReal :=
  ∑ k : Fin 512, latQ x gq i k * wq (ix2 k ⟨h.val * 192 + d.val, by omega⟩)
/-- A head's key without the turned lanes, then its value. -/
def keyValue (i : Fin 32768) (h : Fin 8) (e : Fin 256) : EReal :=
  ∑ k : Fin 256, latKV x gkv i k * wkv (ix2 k ⟨h.val * 256 + e.val, by omega⟩)
/-- A head's key before its norm. -/
def key (i : Fin 32768) (h : Fin 8) (d : Fin 192) : EReal :=
  if hd : d.val < 128 then keyValue x gkv wkv i h ⟨d.val, by omega⟩ else x (ix2 i (colR ⟨d.val - 128, by omega⟩))

/-- The normed query of a head. -/
def queryN (i : Fin 32768) (h : Fin 8) (d : Fin 192) : EReal :=
  normed width (query x gq wq i h) (fun d => hq (ix1 d)) d
/-- The normed key of a head. -/
def keyN (i : Fin 32768) (h : Fin 8) (d : Fin 192) : EReal :=
  normed width (key x gkv wkv i h) (fun d => hk (ix1 d)) d

/-- Lanes turned in pairs by the angles. -/
def turned (c s : Fin 32 → EReal) (z : Fin 64 → EReal) (d : Fin 64) : EReal :=
  if h : d.val < 32 then z d * c ⟨d.val, h⟩ - z ⟨32 + d.val, by omega⟩ * s ⟨d.val, h⟩
  else z ⟨d.val - 32, by omega⟩ * s ⟨d.val - 32, by omega⟩ + z ⟨32 + (d.val - 32), by omega⟩ * c ⟨d.val - 32, by omega⟩

end Cert.MlaPrep

end
-- ==== Proof.MlaBlock.lean ====
/-
  What a grid point of the attention's preparation computes from its blocks, index by index.
-/
module

public import proofs.«01_k».proof.Proof.MlaSpec
public import proofs.«01_k».proof.Proof.Gen.Kernel9Ideal.Value
public import Idealize.ShloMosaic.Lib.Pipeline.ValueKit
public import Idealize.ShloMosaic.Lib.Pointwise

@[expose] public section

noncomputable section

namespace Cert.MlaPrep

open Cert.Norm Cert.Kernel9Ideal Cert.Kernel9Ideal.Gen
open Idealize.ShloMosaic Idealize.ShloMosaic.TcCoe
open scoped BigOperators

/-- A choice by a bit that a proposition decides. -/
theorem choose {α : Type} (p : Prop) [Decidable p] (a b : α) : Scalar.select (if p then 1#1 else 0#1) a b = if p then a else b := by
  split <;> rfl

/-- The lanes of a pair's first head. -/
theorem first_apply (r : Fin 512) (l : Fin 128) : k0_pay8 (ix2 r l) = if l.val < 64 then 1#1 else 0#1 := by
  have h : k0_pay8 (ix2 r l) = k0_pay8 (ix2 0 l) := rfl
  refine h.trans ?_
  clear h
  revert l
  decide +kernel

/-- The lanes of a head's first half. -/
theorem low_apply (r : Fin 512) (l : Fin 128) : k0_pay9 (ix2 r l) = if l.val % 64 < 32 then 1#1 else 0#1 := by
  have h : k0_pay9 (ix2 r l) = k0_pay9 (ix2 0 l) := rfl
  refine h.trans ?_
  clear h
  revert l
  decide +kernel

/-- A point's queries. -/
theorem pay3_apply (X : S512x512.Idx → EReal) (G : S1x512.Idx → EReal) (W : S512x1536.Idx → EReal) (r : Fin 512) (j : Fin 1536) :
    (k0_pay3 (F := Ideal) X G W : S512x1536.Idx → EReal) (ix2 r j)
      = ∑ k : Fin 512, normed (Ideal.ofBits .f32 0x44000000#32) (fun k => X (ix2 r k)) (fun k => G (ix2 0 k)) k * W (ix2 k j) := by
  unfold k0_pay3 normed
  pointwise

/-- A point's keys and values. -/
abbrev kvBlk (X : S512x256.Idx → EReal) (G : S1x256.Idx → EReal) (W : S256x2048.Idx → EReal) : S512x2048.Idx → EReal :=
  k0_pay6 (F := Ideal) (k0_pay4 (F := Ideal) X G) (k0_pay5 (F := Ideal) W) (constant S512x2048 .f32 0x00000000#32)

theorem kvBlk_apply (X : S512x256.Idx → EReal) (G : S1x256.Idx → EReal) (W : S256x2048.Idx → EReal) (r : Fin 512) (j : Fin 2048) :
    kvBlk X G W (ix2 r j)
      = ∑ k : Fin 256, normed (Ideal.ofBits .f32 0x43800000#32) (fun k => X (ix2 r k)) (fun k => G (ix2 0 k)) k * W (ix2 k j) := by
  unfold kvBlk k0_pay6 k0_pay5 k0_pay4 normed
  pointwise

/-- A sum whose second summand is there on the first lanes only. -/
theorem sum_even (f g : Fin 128 → EReal) :
    (∑ l : Fin 128, (f l + if l.val < 64 then g l else 0)) = (∑ l, f l) + ∑ d : Fin 64, g ⟨d.val, by omega⟩ := by
  rw [Finset.sum_add_distrib]
  refine congrArg (fun t => (∑ l, f l) + t) ?_
  refine (Fin.sum_univ_add (a := 64) (b := 64) fun l : Fin 128 => if l.val < 64 then g l else 0).trans ?_
  have h0 : (∑ i : Fin 64, if (Fin.natAdd 64 i : Fin 128).val < 64 then g (Fin.natAdd 64 i) else 0) = 0 :=
    Finset.sum_eq_zero fun i _ => if_neg (by show ¬ 64 + i.val < 64; omega)
  rw [h0, add_zero]
  exact Finset.sum_congr rfl fun i _ => if_pos i.isLt

/-- A sum whose second summand is there on the last lanes only. -/
theorem sum_odd (f g : Fin 128 → EReal) :
    (∑ l : Fin 128, (f l + if l.val < 64 then 0 else g l)) = (∑ l, f l) + ∑ d : Fin 64, g ⟨64 + d.val, by omega⟩ := by
  rw [Finset.sum_add_distrib]
  refine congrArg (fun t => (∑ l, f l) + t) ?_
  refine (Fin.sum_univ_add (a := 64) (b := 64) fun l : Fin 128 => if l.val < 64 then 0 else g l).trans ?_
  have h0 : (∑ i : Fin 64, if (Fin.castAdd 64 i : Fin 128).val < 64 then 0 else g (Fin.castAdd 64 i)) = 0 :=
    Finset.sum_eq_zero fun i _ => if_pos i.isLt
  rw [h0, zero_add]
  exact Finset.sum_congr rfl fun i _ => if_neg (by show ¬ 64 + i.val < 64; omega)

/-- A head's sum: its own lanes, then the lanes to be turned. -/
theorem sum_head (f : Fin 192 → EReal) :
    (∑ d, f d) = (∑ l : Fin 128, f ⟨l.val, by omega⟩) + ∑ d : Fin 64, f ⟨128 + d.val, by omega⟩ :=
  Fin.sum_univ_add (a := 128) (b := 64) f

/-- The other lanes' bit. -/
theorem not_bit (p : Prop) [Decidable p] : IntOp.xori (if p then 1#1 else 0#1) 1#1 = if p then 0#1 else 1#1 := by
  split <;> rfl
theorem choose_not {α : Type} (p : Prop) [Decidable p] (a b : α) : Scalar.select (if p then 0#1 else 1#1) a b = if p then b else a := by
  split <;> rfl

theorem sq_eq {a b : EReal} (h : a = b) : a * a = b * b := by rw [h]

/-- A square read at equal columns. -/
theorem sq_at {n w : ℕ} (Q : (⟨2, ![n, w]⟩ : Shape).Idx → EReal) (r : Fin n) {a b : Fin w} (h : a.val = b.val) :
    Q (ix2 r a) * Q (ix2 r a) = Q (ix2 r b) * Q (ix2 r b) := by
  obtain rfl := Fin.ext h
  rfl

/-- The squares of a head's query, in the order of the call's columns. -/
def sumQ (Q : S512x1536.Idx → EReal) (r : Fin 512) (h : Fin 8) : EReal :=
  (∑ l : Fin 128, Q (ix2 r ⟨h.val * 128 + l.val, by omega⟩) * Q (ix2 r ⟨h.val * 128 + l.val, by omega⟩))
    + ∑ d : Fin 64, Q (ix2 r ⟨1024 + h.val / 2 * 128 + (h.val % 2 * 64 + d.val), by omega⟩) * Q (ix2 r ⟨1024 + h.val / 2 * 128 + (h.val % 2 * 64 + d.val), by omega⟩)

/-- The squares of a head's key. -/
def sumK (K : S512x2048.Idx → EReal) (X : S512x128.Idx → EReal) (r : Fin 512) (h : Fin 8) : EReal :=
  (∑ l : Fin 128, K (ix2 r ⟨h.val * 128 + l.val, by omega⟩) * K (ix2 r ⟨h.val * 128 + l.val, by omega⟩))
    + ∑ d : Fin 64, X (ix2 r ⟨d.val, by omega⟩) * X (ix2 r ⟨d.val, by omega⟩)

open Cert.Kernel9Ideal.Value in
theorem fam_q (X : S512x512.Idx → EReal) (G : S1x512.Idx → EReal) (W : S512x1536.Idx → EReal) (g : S1x128.Idx → EReal) (h : Fin 8)
    (r : Fin 512) :
    (Fam13_1 (F := Ideal) X G W g h : S512.Idx → EReal) (ix1 r) = sumQ (k0_pay3 (F := Ideal) X G W) r h := by
  unfold Fam13_1 sumQ
  generalize k0_pay3 (F := Ideal) X G W = Q
  fin_cases h <;>
  · dsimp only
    pointwise
    simp only [first_apply, not_bit, choose, choose_not, sum_even, sum_odd]
    try
      refine congrArg₂ (· + ·) (Finset.sum_congr rfl fun l _ => sq_at Q r ?_) (Finset.sum_congr rfl fun l _ => sq_at Q r ?_) <;>
        first
        | rfl
        | (dsimp only; omega)

open Cert.Kernel9Ideal.Value in
theorem fam_k (X : S512x256.Idx → EReal) (G : S1x256.Idx → EReal) (W : S256x2048.Idx → EReal) (R : S512x128.Idx → EReal)
    (g : S1x128.Idx → EReal) (h : Fin 8) (r : Fin 512) :
    (Fam15_1 (F := Ideal) X G W R g h : S512.Idx → EReal) (ix1 r) = sumK (kvBlk X G W) R r h := by
  unfold Fam15_1 sumK
  fin_cases h <;>
  · dsimp only
    pointwise
    simp only [first_apply, choose, sum_even]
    refine congrArg (fun t => t + _) (Finset.sum_congr rfl fun l _ => ?_)
    refine sq_eq ?_
    unfold kvBlk k0_pay6 k0_pay5 k0_pay4
    pointwise

open Cert.Kernel9Ideal.Value in
theorem fam_first (A B : S512x128.Idx → EReal) (D : S1x128.Idx → EReal) (R : S512x128.Idx → EReal) (X : S512x256.Idx → EReal)
    (G : S1x256.Idx → EReal) (W : S256x2048.Idx → EReal) (p : Fin 4) (r : Fin 512) :
    (Fam16_2 (F := Ideal) A B D R X G W p : S512.Idx → EReal) (ix1 r) = sumK (kvBlk X G W) R r ⟨2 * p.val, by omega⟩ := by
  unfold Fam16_2 sumK
  fin_cases p <;>
  · dsimp only
    pointwise
    simp only [first_apply, choose, sum_even]
    refine congrArg (fun t => t + _) (Finset.sum_congr rfl fun l _ => ?_)
    refine sq_eq ?_
    unfold kvBlk k0_pay6 k0_pay5 k0_pay4
    pointwise

open Cert.Kernel9Ideal.Value in
theorem fam_second (A B : S512x128.Idx → EReal) (D : S1x128.Idx → EReal) (R : S512x128.Idx → EReal) (X : S512x256.Idx → EReal)
    (G : S1x256.Idx → EReal) (W : S256x2048.Idx → EReal) (p : Fin 4) (r : Fin 512) :
    (Fam16_3 (F := Ideal) A B D R X G W p : S512.Idx → EReal) (ix1 r) = sumK (kvBlk X G W) R r ⟨2 * p.val + 1, by omega⟩ := by
  unfold Fam16_3 sumK
  fin_cases p <;>
  · dsimp only
    pointwise
    simp only [first_apply, choose, sum_even]
    refine congrArg (fun t => t + _) (Finset.sum_congr rfl fun l _ => ?_)
    refine sq_eq ?_
    unfold kvBlk k0_pay6 k0_pay5 k0_pay4
    pointwise

/-- A row's factor: one over the root of its mean square. -/
def factor (s : EReal) : EReal :=
  Ideal.rsqrt (s * Named.named (F := Ideal) Cert.Kernel9Ideal.κ "share" (φ := .f32) 0x3BAAAAAB#32 + Ideal.ofBits .f32 0x358637BD#32)

/-- A lane turned by the tables. -/
def lane (C S Z : Fin 128 → EReal) (l : Fin 128) : EReal :=
  Z l * C l + (if l.val % 64 < 32 then Z ⟨(l.val + 128 - 96) % 128, by omega⟩ else Z ⟨(l.val + 128 - 32) % 128, by omega⟩) * S l

theorem pay18_apply (C S : S512x128.Idx → EReal) (g : S1x128.Idx → EReal) (X : S512x128.Idx → EReal) (r : Fin 512) (l : Fin 128) :
    (k0_pay18 (F := Ideal) k0_pay8 k0_pay9 C S g X : S512x128.Idx → EReal) (ix2 r l)
      = lane (fun l => C (ix2 r l)) (fun l => S (ix2 r l))
          (fun l => (if l.val < 64 then X (ix2 r l) else X (ix2 r ⟨(l.val + 128 - 64) % 128, by omega⟩)) * g (ix2 0 l)) l := by
  unfold k0_pay18 k0_pay16 lane
  pointwise
  simp only [first_apply, low_apply, choose]
  trace_state

/-- A pair of heads' turned lanes: the query's columns, each head's factor, the gain, the tables, the scale. -/
def pairQ (Q : S512x1536.Idx → EReal) (C S : S512x128.Idx → EReal) (g : S1x128.Idx → EReal) (p : Fin 4) (r : Fin 512) (l : Fin 128) : EReal :=
  lane (fun l => C (ix2 r l)) (fun l => S (ix2 r l))
      (fun l => Q (ix2 r ⟨1024 + p.val * 128 + l.val, by omega⟩)
        * (if l.val < 64 then factor (sumQ Q r ⟨2 * p.val, by omega⟩) else factor (sumQ Q r ⟨2 * p.val + 1, by omega⟩)) * g (ix2 0 l)) l
    * scale

theorem pair0 (Q : S512x1536.Idx → EReal) (C S : S512x128.Idx → EReal) (g : S1x128.Idx → EReal) (r : Fin 512) (l : Fin 128) :
    (k0_pay35 (F := Ideal) k0_pay8 k0_pay9 (k0_pay10 C) (k0_pay11 S) (k0_pay13 g) (k0_pay19 Q) (k0_pay22 Q k0_pay8)
      (k0_pay29 Q k0_pay8 (k0_pay20 Q)) : S512x128.Idx → EReal) (ix2 r l) = pairQ Q C S g 0 r l := by
  unfold k0_pay35 k0_pay10 k0_pay11 k0_pay13 k0_pay22 k0_pay29 k0_pay20 k0_pay21 k0_pay28 k0_pay19 pairQ lane factor sumQ scale
  pointwise
  simp only [first_apply, low_apply, choose, not_bit, choose_not, sum_even, sum_odd]

theorem pair1 (Q : S512x1536.Idx → EReal) (C S : S512x128.Idx → EReal) (g : S1x128.Idx → EReal) (r : Fin 512) (l : Fin 128) :
    (k0_pay52 (F := Ideal) k0_pay8 k0_pay9 (k0_pay10 C) (k0_pay11 S) (k0_pay13 g) (k0_pay37 Q) (k0_pay40 Q k0_pay8)
      (k0_pay47 Q k0_pay8 (k0_pay38 Q)) : S512x128.Idx → EReal) (ix2 r l) = pairQ Q C S g 1 r l := by
  unfold k0_pay52 k0_pay10 k0_pay11 k0_pay13 k0_pay40 k0_pay47 k0_pay38 k0_pay39 k0_pay46 k0_pay37 pairQ lane factor sumQ scale
  pointwise
  simp only [first_apply, low_apply, choose, not_bit, choose_not, sum_even, sum_odd]

theorem pair2 (Q : S512x1536.Idx → EReal) (C S : S512x128.Idx → EReal) (g : S1x128.Idx → EReal) (r : Fin 512) (l : Fin 128) :
    (k0_pay70 (k0_pay69 (F := Ideal) k0_pay8 k0_pay9 (k0_pay10 C) (k0_pay11 S) (k0_pay13 g) (k0_pay54 Q) (k0_pay57 Q k0_pay8 (k0_pay54 Q))
      (k0_pay63 Q k0_pay8 (k0_pay54 Q))) (Scalar.ofBits .f32 0x3DD53B95#32) : S512x128.Idx → EReal) (ix2 r l) = pairQ Q C S g 2 r l := by
  unfold k0_pay70 k0_pay69 k0_pay64 k0_pay10 k0_pay11 k0_pay13 k0_pay57 k0_pay63 k0_pay55 k0_pay56 k0_pay62 k0_pay54 pairQ lane factor sumQ scale
  pointwise
  simp only [first_apply, low_apply, choose, not_bit, choose_not, sum_even, sum_odd]

theorem pair3 (Q : S512x1536.Idx → EReal) (C S : S512x128.Idx → EReal) (g : S1x128.Idx → EReal) (r : Fin 512) (l : Fin 128) :
    (k0_pay1 (F := Ideal) k0_pay8 k0_pay9 (k0_pay10 C) (k0_pay11 S) (k0_pay13 g) (k0_pay72 Q) (k0_pay75 Q k0_pay8)
      (k0_pay82 Q k0_pay8 (k0_pay73 Q)) : S512x128.Idx → EReal) (ix2 r l) = pairQ Q C S g 3 r l := by
  unfold k0_pay1 k0_pay10 k0_pay11 k0_pay13 k0_pay75 k0_pay82 k0_pay73 k0_pay74 k0_pay81 k0_pay72 pairQ lane factor sumQ scale
  pointwise
  simp only [first_apply, low_apply, choose, not_bit, choose_not, sum_even, sum_odd]

end Cert.MlaPrep

end
-- ==== Proof.MlaRef.lean ====
/-
  The reference's queries, keys and values of the latent attention, index by index.
-/
module

public import proofs.«01_k».proof.Proof.MlaSpec
public import proofs.«01_k».proof.Proof.Gen.Reference9Ideal.Read
public import Idealize.ShloMosaic.Lib.Pointwise

@[expose] public section

noncomputable section

namespace Cert.MlaPrep

open Cert.Norm Cert.Reference9Ideal Cert.Reference9Ideal.Read
open Idealize.ShloMosaic Idealize.ShloMosaic.TcCoe
open scoped BigOperators

variable (x : S32768x4096.Idx → EReal) (gq : S512.Idx → EReal) (gkv : S256.Idx → EReal) (wq : S512x1536.Idx → EReal)
  (wkv : S256x2048.Idx → EReal) (hq hk : S192.Idx → EReal)

/-- A token's place among all tokens. -/
abbrev tok (b : Fin 4) (n : Fin 8192) : Fin 32768 := ⟨b.val * 8192 + n.val, by omega⟩

theorem ref_latQ (b : Fin 4) (n : Fin 8192) (k : Fin 512) :
    (val_main_v18 (F := Ideal) x gq : S4x8192x512.Idx → EReal) (ix3 b n k) = latQ x gq (tok b n) k := by
  unfold val_main_v18 val_main_v17 val_main_v16 val_main_v15 val_main_v14 val_main_v13 val_main_v12 val_main_v11 val_main_v10
    val_main_v9 val_main_v8 val_main_v7 val_main_v6 val_main_v2 val_main_v1 val_main_v0 val_main_cst val_main_cst_0 val_main_cst_1
    latQ normed
  pointwise

theorem ref_latKV (b : Fin 4) (n : Fin 8192) (k : Fin 256) :
    (val_main_v33 (F := Ideal) x gkv : S4x8192x256.Idx → EReal) (ix3 b n k) = latKV x gkv (tok b n) k := by
  unfold val_main_v33 val_main_v32 val_main_v31 val_main_v30 val_main_v29 val_main_v28 val_main_v27 val_main_v26 val_main_v25
    val_main_v24 val_main_v23 val_main_v22 val_main_v21 val_main_v3 val_main_v1 val_main_v0 val_main_cst_2 val_main_cst_3 val_main_cst_4
    latKV normed
  pointwise

theorem ref_query (b : Fin 4) (n : Fin 8192) (h : Fin 8) (d : Fin 192) :
    (val_main_v20 (F := Ideal) x gq wq : S4x8192x8x192.Idx → EReal) (ix4 b n h d) = query x gq wq (tok b n) h d := by
  unfold query
  simp only [← ref_latQ]
  unfold val_main_v20 val_main_v19
  generalize val_main_v18 (F := Ideal) x gq = y
  pointwise

theorem ref_keyValue (b : Fin 4) (n : Fin 8192) (h : Fin 8) (d : Fin 256) :
    (val_main_v35 (F := Ideal) x gkv wkv : S4x8192x8x256.Idx → EReal) (ix4 b n h d) = keyValue x gkv wkv (tok b n) h d := by
  unfold keyValue
  simp only [← ref_latKV]
  unfold val_main_v35 val_main_v34
  generalize val_main_v33 (F := Ideal) x gkv = y
  pointwise

theorem ref_key (b : Fin 4) (n : Fin 8192) (h : Fin 8) (d : Fin 192) :
    (val_main_v40 (F := Ideal) x gkv wkv : S4x8192x8x192.Idx → EReal) (ix4 b n h d) = key x gkv wkv (tok b n) h d := by
  unfold key
  simp only [← ref_keyValue]
  unfold val_main_v40 val_main_v36 val_main_v39 val_main_v38 val_main_v4 val_main_v1 val_main_v0
  generalize val_main_v35 (F := Ideal) x gkv wkv = y
  pointwise

theorem ref_queryN (b : Fin 4) (n : Fin 8192) (h : Fin 8) (d : Fin 192) :
    (val_main_v53 (F := Ideal) x gq wq hq : S4x8192x8x192.Idx → EReal) (ix4 b n h d) = queryN x gq wq hq (tok b n) h d := by
  unfold queryN normed
  simp only [← ref_query]
  unfold val_main_v53 val_main_v52 val_main_v51 val_main_v50 val_main_v49 val_main_v48 val_main_v47 val_main_v46 val_main_v45
    val_main_v44 val_main_v43 val_main_v42 val_main_v41 val_main_cst_5 val_main_cst_6 val_main_cst_7
  generalize val_main_v20 (F := Ideal) x gq wq = y
  pointwise

theorem ref_keyN (b : Fin 4) (n : Fin 8192) (h : Fin 8) (d : Fin 192) :
    (val_main_v66 (F := Ideal) x gkv wkv hk : S4x8192x8x192.Idx → EReal) (ix4 b n h d) = keyN x gkv wkv hk (tok b n) h d := by
  unfold keyN normed
  simp only [← ref_key]
  unfold val_main_v66 val_main_v65 val_main_v64 val_main_v63 val_main_v62 val_main_v61 val_main_v60 val_main_v59 val_main_v58
    val_main_v57 val_main_v56 val_main_v55 val_main_v54 val_main_cst_8 val_main_cst_9 val_main_cst_10
  generalize val_main_v40 (F := Ideal) x gkv wkv = y
  pointwise

/-- The angles' cosines. -/
def cosAt (n : Fin 8192) (j : Fin 32) : EReal := (val_main_v80 (F := Ideal) : S8192x32.Idx → EReal) (ix2 n j)
/-- The angles' sines. -/
def sinAt (n : Fin 8192) (j : Fin 32) : EReal := (val_main_v82 (F := Ideal) : S8192x32.Idx → EReal) (ix2 n j)

theorem ref_turnedQ (b : Fin 4) (n : Fin 8192) (h : Fin 8) (d : Fin 64) :
    (val_main_v100 (F := Ideal) x gq wq hq : S4x8192x8x64.Idx → EReal) (ix4 b n h d)
      = turned (cosAt n) (sinAt n) (fun d => queryN x gq wq hq (tok b n) h ⟨128 + d.val, by omega⟩) d := by
  unfold turned cosAt sinAt
  simp only [← ref_queryN]
  unfold val_main_v100 val_main_v99 val_main_v98 val_main_v97 val_main_v96 val_main_v95 val_main_v94 val_main_v93 val_main_v92
    val_main_v91 val_main_v90 val_main_v89 val_main_v88 val_main_v87 val_main_v86 val_main_v85 val_main_v84 val_main_v83
    val_main_v81 val_main_v67
  generalize val_main_v53 (F := Ideal) x gq wq hq = y
  generalize val_main_v80 (F := Ideal) = cs
  generalize val_main_v82 (F := Ideal) = sn
  pointwise

theorem ref_turnedK (b : Fin 4) (n : Fin 8192) (h : Fin 8) (d : Fin 64) :
    (val_main_v134 (F := Ideal) x gkv wkv hk : S4x8192x8x64.Idx → EReal) (ix4 b n h d)
      = turned (cosAt n) (sinAt n) (fun d => keyN x gkv wkv hk (tok b n) h ⟨128 + d.val, by omega⟩) d := by
  unfold turned cosAt sinAt
  simp only [← ref_keyN]
  unfold val_main_v134 val_main_v133 val_main_v132 val_main_v131 val_main_v130 val_main_v129 val_main_v128 val_main_v127
    val_main_v126 val_main_v125 val_main_v124 val_main_v123 val_main_v122 val_main_v121 val_main_v120 val_main_v119
    val_main_v118 val_main_v117 val_main_v115 val_main_v101
  rw [show val_main_v114 (F := Ideal) = val_main_v80 (F := Ideal) from rfl, show val_main_v116 (F := Ideal) = val_main_v82 (F := Ideal) from rfl]
  generalize val_main_v66 (F := Ideal) x gkv wkv hk = y
  generalize val_main_v80 (F := Ideal) = cs
  generalize val_main_v82 (F := Ideal) = sn
  pointwise

/-- The token of a row of the results. -/
theorem tok_of (i : Fin 32768) : tok ⟨i.val / 8192, by omega⟩ ⟨i.val % 8192, by omega⟩ = i :=
  Fin.ext (by show i.val / 8192 * 8192 + i.val % 8192 = i.val; omega)

/-- The place of a row of the results in its sequence. -/
abbrev place (i : Fin 32768) : Fin 8192 := ⟨i.val % 8192, by omega⟩

theorem ref_qn (i : Fin 32768) (y : Fin 1024) :
    (val_main_v139 (F := Ideal) x gq wq hq : S32768x1024.Idx → EReal) (ix2 i y)
      = queryN x gq wq hq i ⟨y.val / 128, by omega⟩ ⟨y.val % 128, by omega⟩ * scale := by
  refine Eq.trans ?_ (congrArg (fun t => queryN x gq wq hq t ⟨y.val / 128, by omega⟩ ⟨y.val % 128, by omega⟩ * scale) (tok_of i))
  simp only [← ref_queryN]
  unfold val_main_v139 val_main_v138 val_main_v137 val_main_v136 val_main_v135 val_main_cst_15
  generalize val_main_v53 (F := Ideal) x gq wq hq = q
  pointwise

theorem ref_qr (i : Fin 32768) (y : Fin 512) :
    (val_main_v143 (F := Ideal) x gq wq hq : S32768x512.Idx → EReal) (ix2 i y)
      = turned (cosAt (place i)) (sinAt (place i)) (fun d => queryN x gq wq hq i ⟨y.val / 64, by omega⟩ ⟨128 + d.val, by omega⟩)
          ⟨y.val % 64, by omega⟩ * scale := by
  refine Eq.trans ?_ (congrArg (fun t => turned (cosAt (place i)) (sinAt (place i)) (fun d => queryN x gq wq hq t ⟨y.val / 64, by omega⟩
    ⟨128 + d.val, by omega⟩) ⟨y.val % 64, by omega⟩ * scale) (tok_of i))
  rw [← ref_turnedQ]
  unfold val_main_v143 val_main_v142 val_main_v141 val_main_v140 val_main_cst_16
  generalize val_main_v100 (F := Ideal) x gq wq hq = q
  pointwise

theorem ref_kn (i : Fin 32768) (y : Fin 1024) :
    (val_main_v146 (F := Ideal) x gkv wkv hk : S32768x1024.Idx → EReal) (ix2 i y)
      = keyN x gkv wkv hk i ⟨y.val / 128, by omega⟩ ⟨y.val % 128, by omega⟩ := by
  refine Eq.trans ?_ (congrArg (fun t => keyN x gkv wkv hk t ⟨y.val / 128, by omega⟩ ⟨y.val % 128, by omega⟩) (tok_of i))
  simp only [← ref_keyN]
  unfold val_main_v146 val_main_v145 val_main_v144
  generalize val_main_v66 (F := Ideal) x gkv wkv hk = q
  pointwise

theorem ref_kr (i : Fin 32768) (y : Fin 512) :
    (val_main_v148 (F := Ideal) x gkv wkv hk : S32768x512.Idx → EReal) (ix2 i y)
      = turned (cosAt (place i)) (sinAt (place i)) (fun d => keyN x gkv wkv hk i ⟨y.val / 64, by omega⟩ ⟨128 + d.val, by omega⟩)
          ⟨y.val % 64, by omega⟩ := by
  refine Eq.trans ?_ (congrArg (fun t => turned (cosAt (place i)) (sinAt (place i)) (fun d => keyN x gkv wkv hk t ⟨y.val / 64, by omega⟩
    ⟨128 + d.val, by omega⟩) ⟨y.val % 64, by omega⟩) (tok_of i))
  rw [← ref_turnedK]
  unfold val_main_v148 val_main_v147
  generalize val_main_v134 (F := Ideal) x gkv wkv hk = q
  pointwise

theorem ref_v (i : Fin 32768) (y : Fin 1024) :
    (val_main_v150 (F := Ideal) x gkv wkv : S32768x1024.Idx → EReal) (ix2 i y)
      = keyValue x gkv wkv i ⟨y.val / 128, by omega⟩ ⟨128 + y.val % 128, by omega⟩ := by
  refine Eq.trans ?_ (congrArg (fun t => keyValue x gkv wkv t ⟨y.val / 128, by omega⟩ ⟨128 + y.val % 128, by omega⟩) (tok_of i))
  simp only [← ref_keyValue]
  unfold val_main_v150 val_main_v149 val_main_v37
  generalize val_main_v35 (F := Ideal) x gkv wkv = q
  pointwise

end Cert.MlaPrep

end
-- ==== Proof.MlaHost.lean ====
/-
  The arrays that the host code hands to the latent attention's call, index by index.
-/
module

public import proofs.«01_k».proof.Proof.MlaRef
public import proofs.«01_k».proof.Proof.Gen.Kernel9Ideal.Value
public import Idealize.ShloMosaic.Lib.Pipeline.Frame
public import Idealize.ShloMosaic.Lib.Pipeline.ValueKit
public import Idealize.ShloMosaic.Lib.Pointwise

@[expose] public section

noncomputable section

namespace Cert.MlaPrep

open Cert.Norm Cert.Kernel9Ideal Cert.Kernel9Ideal.Gen
open Idealize.ShloMosaic Idealize.ShloMosaic.TcCoe Idealize.SL.Sem
open scoped BigOperators

variable (m : (ℓ : Loc nD τ sig) → Buf (Elt Ideal) ℓ) (c : Dev nD)

/-- The projected rows. -/
abbrev rows : S32768x4096.Idx → EReal := m ((c : Thread nD τ).loc main_arg0)
/-- The gain of the latent query's norm. -/
abbrev gainQ : S512.Idx → EReal := m ((c : Thread nD τ).loc main_arg1)
/-- The gain of the latent key and value's norm. -/
abbrev gainKV : S256.Idx → EReal := m ((c : Thread nD τ).loc main_arg2)
/-- The queries' weights. -/
abbrev weightQ : S512x1536.Idx → EReal := m ((c : Thread nD τ).loc main_arg3)
/-- The keys' and the values' weights. -/
abbrev weightKV : S256x2048.Idx → EReal := m ((c : Thread nD τ).loc main_arg4)
/-- The gain of the head's query. -/
abbrev headQ : S192.Idx → EReal := m ((c : Thread nD τ).loc main_arg5)
/-- The gain of the head's key. -/
abbrev headK : S192.Idx → EReal := m ((c : Thread nD τ).loc main_arg6)

theorem V_gainQ (k : Fin 512) : V m c main_v41 (ix2 0 k) = gainQ m c (ix1 k) := by
  have e : (V m c main_v41 : S1x512.Idx → EReal)
      = shapeCast S1x512 (shapeCast S512 (broadcastInDim S1x512 ![0, 1] bcast_S1x512_S1x512_0_1
          (shapeCast S1x512 (gainQ m c) shapeCasts_S512_S1x512)) shapeCasts_S1x512_S512) shapeCasts_S512_S1x512 := rfl
  rw [e]
  pointwise

theorem V_gainKV (k : Fin 256) : V m c main_v45 (ix2 0 k) = gainKV m c (ix1 k) := by
  have e : (V m c main_v45 : S1x256.Idx → EReal)
      = shapeCast S1x256 (shapeCast S256 (broadcastInDim S1x256 ![0, 1] bcast_S1x256_S1x256_0_1
          (shapeCast S1x256 (gainKV m c) shapeCasts_S256_S1x256)) shapeCasts_S1x256_S256) shapeCasts_S256_S1x256 := rfl
  rw [e]
  pointwise

/-- A head gain's first lanes as the host code lays them out. -/
def plainGain (g : S192.Idx → EReal) : S1x128.Idx → EReal :=
  shapeCast S1x128 (shapeCast S128 (broadcastInDim S1x128 ![0, 1] bcast_S1x128_S1x128_0_1
    (shapeCast S1x128 (extractStridedSlice S128 ![0] g slices_S192_S128_0) shapeCasts_S128_S1x128)) shapeCasts_S1x128_S128)
    shapeCasts_S128_S1x128

theorem plainGain_apply (g : S192.Idx → EReal) (l : Fin 128) : plainGain g (ix2 0 l) = g (ix1 ⟨l.val, by omega⟩) := by
  unfold plainGain
  pointwise

/-- A head gain's last lanes as the host code lays them out: for two heads at a time. -/
def turnedGain (g : S192.Idx → EReal) : S1x128.Idx → EReal :=
  shapeCast S1x128 (shapeCast S128 (broadcastInDim S2x64 ![0, 1] bcast_S1x64_S2x64_0_1
    (shapeCast S1x64 (extractStridedSlice S64 ![128] g slices_S192_S64_128) shapeCasts_S64_S1x64)) shapeCasts_S2x64_S128)
    shapeCasts_S128_S1x128

theorem turnedGain_apply (g : S192.Idx → EReal) (l : Fin 128) :
    turnedGain g (ix2 0 l) = g (ix1 ⟨128 + l.val % 64, by omega⟩) := by
  unfold turnedGain
  pointwise

theorem V_plainQ : (V m c main_v50 : S1x128.Idx → EReal) = plainGain (headQ m c) := rfl
theorem V_turnedQ : (V m c main_v55 : S1x128.Idx → EReal) = turnedGain (headQ m c) := rfl
theorem V_plainK : (V m c main_v60 : S1x128.Idx → EReal) = plainGain (headK m c) := rfl
theorem V_turnedK : (V m c main_v65 : S1x128.Idx → EReal) = turnedGain (headK m c) := rfl

/-- The queries' weights as the host code orders their columns. -/
def orderedQ (w : S512x1536.Idx → EReal) : S512x1536.Idx → EReal :=
  concatenate S512x1536 1
    [⟨S512x1024, shapeCast S512x1024 (extractStridedSlice S512x8x128 ![0, 0, 0]
        (shapeCast S512x8x192 w shapeCasts_S512x1536_S512x8x192) slices_S512x8x192_S512x8x128_0_0_0) shapeCasts_S512x8x128_S512x1024⟩,
     ⟨S512x512, shapeCast S512x512 (extractStridedSlice S512x8x64 ![0, 0, 128]
        (shapeCast S512x8x192 w shapeCasts_S512x1536_S512x8x192) slices_S512x8x192_S512x8x64_0_0_128) shapeCasts_S512x8x64_S512x512⟩]
    concatenates_S512x1024_S512x512_S512x1536_d1

theorem orderedQ_apply (w : S512x1536.Idx → EReal) (k : Fin 512) (j : Fin 1536) :
    orderedQ w (ix2 k j)
      = if h : j.val < 1024 then w (ix2 k ⟨j.val / 128 * 192 + j.val % 128, by omega⟩)
        else w (ix2 k ⟨(j.val - 1024) / 64 * 192 + (128 + (j.val - 1024) % 64), by omega⟩) := by
  unfold orderedQ
  pointwise

/-- The keys' and the values' weights as the host code orders their columns. -/
def orderedKV (w : S256x2048.Idx → EReal) : S256x2048.Idx → EReal :=
  concatenate S256x2048 1
    [⟨S256x1024, shapeCast S256x1024 (extractStridedSlice S256x8x128 ![0, 0, 0]
        (shapeCast S256x8x256 w shapeCasts_S256x2048_S256x8x256) slices_S256x8x256_S256x8x128_0_0_0) shapeCasts_S256x8x128_S256x1024⟩,
     ⟨S256x1024, shapeCast S256x1024 (extractStridedSlice S256x8x128 ![0, 0, 128]
        (shapeCast S256x8x256 w shapeCasts_S256x2048_S256x8x256) slices_S256x8x256_S256x8x128_0_0_128) shapeCasts_S256x8x128_S256x1024⟩]
    concatenates_S256x1024_S256x1024_S256x2048_d1

theorem orderedKV_apply (w : S256x2048.Idx → EReal) (k : Fin 256) (j : Fin 2048) :
    orderedKV w (ix2 k j)
      = if h : j.val < 1024 then w (ix2 k ⟨j.val / 128 * 256 + j.val % 128, by omega⟩)
        else w (ix2 k ⟨(j.val - 1024) / 128 * 256 + (128 + (j.val - 1024) % 128), by omega⟩) := by
  unfold orderedKV
  pointwise

theorem V_orderedQ : (V m c main_v6 : S512x1536.Idx → EReal) = orderedQ (weightQ m c) := rfl
theorem V_orderedKV : (V m c main_v13 : S256x2048.Idx → EReal) = orderedKV (weightKV m c) := rfl

/-- The two halves of a table, for two heads at a time. -/
def twice (a b : S8192x32.Idx → EReal) : S8192x128.Idx → EReal :=
  shapeCast S8192x128 (broadcastInDim S1x8192x2x64 ![0, 1, 2, 3] bcast_S1x8192x1x64_S1x8192x2x64_0_1_2_3
    (shapeCast S1x8192x1x64 (concatenate S8192x64 1 [⟨S8192x32, a⟩, ⟨S8192x32, b⟩] concatenates_S8192x32_S8192x32_S8192x64_d1)
      shapeCasts_S8192x64_S1x8192x1x64)) shapeCasts_S1x8192x2x64_S8192x128

theorem twice_apply (a b : S8192x32.Idx → EReal) (n : Fin 8192) (l : Fin 128) :
    twice a b (ix2 n l)
      = if h : l.val % 64 < 32 then a (ix2 n ⟨l.val % 64, h⟩) else b (ix2 n ⟨l.val % 64 - 32, by omega⟩) := by
  unfold twice
  pointwise

theorem V_cos : (V m c main_v32 : S8192x128.Idx → EReal)
    = twice (Cert.Reference9Ideal.Read.val_main_v80 (F := Ideal)) (Cert.Reference9Ideal.Read.val_main_v80 (F := Ideal)) := rfl
theorem V_sin : (V m c main_v37 : S8192x128.Idx → EReal)
    = twice (Host.negf (F := Ideal) (φ := .f32) (Cert.Reference9Ideal.Read.val_main_v82 (F := Ideal)))
        (Cert.Reference9Ideal.Read.val_main_v82 (F := Ideal)) := rfl

end Cert.MlaPrep

end
-- ==== Proof.MlaHead.lean ====
/-
  A row of the latent attention's call, head by head.
-/
module

public import proofs.«01_k».proof.Proof.MlaBlock
public import proofs.«01_k».proof.Proof.MlaHost

@[expose] public section

set_option backward.proofsInPublic true

noncomputable section

namespace Cert.MlaPrep

open Cert.Norm Cert.Kernel9Ideal Cert.Kernel9Ideal.Gen
open Idealize.ShloMosaic Idealize.ShloMosaic.TcCoe
open scoped BigOperators

/-- The head's width is 192. -/
theorem width_eq : width = ((192 : ℝ) : EReal) := by
  simp [width, Ideal.ofBits, Ideal.ieee, -EReal.coe_mul]
  norm_num

/-- The named constant is the width's inverse. -/
theorem factor_eq (s : EReal) : factor s = Ideal.rsqrt (Ideal.div s width + Ideal.ofBits .f32 0x358637BD#32) := by
  have e : (Named.named (F := Ideal) Cert.Kernel9Ideal.κ "share" (φ := .f32) 0x3BAAAAAB#32 : EReal) = ((192⁻¹ : ℝ) : EReal) :=
    IdealRules.named_const.ideal_named_scalar _ _ _ _ rfl
  unfold factor
  rw [width_eq, Ideal.div_coe (by norm_num), e, one_div]

theorem square_nonneg (a : EReal) : 0 ≤ a * a := by
  rcases le_total 0 a with h | h
  · exact mul_nonneg h h
  · exact EReal.mul_nonneg_iff.mpr (.inr ⟨h, h⟩)

theorem eps_pos : 0 < Ideal.ofBits .f32 0x358637BD#32 := by
  simp [Ideal.ofBits, Ideal.ieee, -EReal.coe_mul]
  try norm_num

/-- A row's factor of a sum of squares is a real number that is not negative. -/
theorem factor_bounds (s : EReal) (h : 0 ≤ s) : 0 ≤ factor s ∧ factor s ≠ ⊤ := by
  have hp : 0 < s * Named.named (F := Ideal) Cert.Kernel9Ideal.κ "share" (φ := .f32) 0x3BAAAAAB#32 + Ideal.ofBits .f32 0x358637BD#32 := by
    have e : (Named.named (F := Ideal) Cert.Kernel9Ideal.κ "share" (φ := .f32) 0x3BAAAAAB#32 : EReal) = ((192⁻¹ : ℝ) : EReal) :=
      IdealRules.named_const.ideal_named_scalar _ _ _ _ rfl
    rw [e]
    refine lt_of_lt_of_le eps_pos (le_add_of_nonneg_left (mul_nonneg h ?_))
    exact EReal.coe_nonneg.mpr (by norm_num)
  unfold factor
  generalize s * Named.named (F := Ideal) Cert.Kernel9Ideal.κ "share" (φ := .f32) 0x3BAAAAAB#32 + Ideal.ofBits .f32 0x358637BD#32 = y at hp ⊢
  induction y using EReal.rec with
  | bot => exact absurd hp (by simp)
  | top =>
    have hs : Ideal.rsqrt (⊤ : EReal) = 0 := rfl
    rw [hs]
    exact ⟨le_refl _, EReal.zero_ne_top⟩
  | coe y =>
    have hy : 0 < y := EReal.coe_pos.mp hp
    have hs : Ideal.rsqrt (y : EReal) = (((Real.sqrt y)⁻¹ : ℝ) : EReal) := by
      have hs : Ideal.rsqrt (y : EReal) = if y < 0 then ⊥ else if y = 0 then ⊤ else (((Real.sqrt y)⁻¹ : ℝ) : EReal) := rfl
      rw [hs, if_neg (not_lt.mpr hy.le), if_neg hy.ne']
    rw [hs]
    exact ⟨EReal.coe_nonneg.mpr (by positivity), EReal.coe_ne_top _⟩

/-- The tables' form of a turn is the pairs' form. -/
theorem lane_turned (C S Z : Fin 128 → EReal) (c s : Fin 32 → EReal) (l : Fin 128)
    (hC : C l = if h : l.val % 64 < 32 then c ⟨l.val % 64, h⟩ else c ⟨l.val % 64 - 32, by omega⟩)
    (hS : S l = if h : l.val % 64 < 32 then - s ⟨l.val % 64, h⟩ else s ⟨l.val % 64 - 32, by omega⟩) :
    lane C S Z l = turned c s (fun d => Z ⟨l.val / 64 * 64 + d.val, by omega⟩) ⟨l.val % 64, by omega⟩ := by
  have hl := l.isLt
  unfold lane turned
  rw [hC, hS]
  by_cases h : l.val % 64 < 32
  · rw [dif_pos h, dif_pos h, if_pos h, dif_pos h, mul_neg, ← sub_eq_add_neg]
    have e1 : (⟨l.val / 64 * 64 + l.val % 64, by omega⟩ : Fin 128) = l := Fin.ext (by dsimp only; omega)
    have e2 : (⟨(l.val + 128 - 96) % 128, by omega⟩ : Fin 128) = ⟨l.val / 64 * 64 + (32 + l.val % 64), by omega⟩ :=
      Fin.ext (by dsimp only; omega)
    dsimp only
    rw [e1, e2]
  · rw [dif_neg h, dif_neg h, if_neg h, dif_neg h, add_comm]
    have e1 : (⟨l.val / 64 * 64 + (32 + (l.val % 64 - 32)), by omega⟩ : Fin 128) = l := Fin.ext (by dsimp only; omega)
    have e2 : (⟨(l.val + 128 - 32) % 128, by omega⟩ : Fin 128) = ⟨l.val / 64 * 64 + (l.val % 64 - 32), by omega⟩ :=
      Fin.ext (by dsimp only; omega)
    dsimp only
    rw [e1, e2]

/-- A turn of scaled lanes is the turn, scaled. -/
theorem turned_scale (c s : Fin 32 → EReal) (z : Fin 64 → EReal) (f : EReal) (h0 : 0 ≤ f) (h1 : f ≠ ⊤) (d : Fin 64) :
    turned c s z d * f = turned c s (fun d => z d * f) d := by
  unfold turned
  split_ifs with h
  · rw [sub_eq_add_neg, EReal.right_distrib_of_nonneg_of_ne_top h0 h1, neg_mul, mul_right_comm, mul_right_comm (z _) (s _) f,
      ← sub_eq_add_neg]
  · rw [EReal.right_distrib_of_nonneg_of_ne_top h0 h1, mul_right_comm, mul_right_comm (z _) (c _) f]

variable (x : S32768x4096.Idx → EReal) (gq : S512.Idx → EReal) (gkv : S256.Idx → EReal) (wq : S512x1536.Idx → EReal)
  (wkv : S256x2048.Idx → EReal) (hq hk : S192.Idx → EReal) (i : Fin 32768) (r : Fin 512)

section Query

variable (Q : S512x1536.Idx → EReal) (hQ : ∀ j, Q (ix2 r j) = ∑ k : Fin 512, latQ x gq i k * orderedQ wq (ix2 k j))
include hQ

theorem query_plain (h : Fin 8) (d : Fin 192) (j : Fin 1536) (hd : d.val < 128) (hj : j.val = h.val * 128 + d.val) :
    Q (ix2 r j) = query x gq wq i h d := by
  have hh := h.isLt
  rw [hQ]
  refine Finset.sum_congr rfl fun k _ => congrArg (fun t => latQ x gq i k * t) ?_
  rw [orderedQ_apply, dif_pos (by omega)]
  exact congrArg (fun t => wq (ix2 k t)) (Fin.ext (by dsimp only; omega))

theorem query_turned (h : Fin 8) (d : Fin 192) (j : Fin 1536) (hd : 128 ≤ d.val) (hj : j.val = 1024 + h.val * 64 + (d.val - 128)) :
    Q (ix2 r j) = query x gq wq i h d := by
  have hh := h.isLt
  have hd' := d.isLt
  rw [hQ]
  refine Finset.sum_congr rfl fun k _ => congrArg (fun t => latQ x gq i k * t) ?_
  rw [orderedQ_apply, dif_neg (by omega)]
  exact congrArg (fun t => wq (ix2 k t)) (Fin.ext (by dsimp only; omega))

theorem sumQ_eq (h : Fin 8) : sumQ Q r h = ∑ d : Fin 192, query x gq wq i h d * query x gq wq i h d := by
  rw [sum_head]
  unfold sumQ
  refine congrArg₂ (fun a b : EReal => a + b) (Finset.sum_congr rfl fun l _ => sq_eq ?_) (Finset.sum_congr rfl fun d _ => sq_eq ?_)
  · exact query_plain x gq wq i r Q hQ h _ _ l.isLt rfl
  · exact query_turned x gq wq i r Q hQ h _ _ (by dsimp only; omega) (by dsimp only; omega)

theorem query_normed (h : Fin 8) (d : Fin 192) : query x gq wq i h d * factor (sumQ Q r h) * hq (ix1 d) = queryN x gq wq hq i h d := by
  rw [sumQ_eq x gq wq i r Q hQ h, factor_eq]
  rfl

/-- A pair of heads' turned queries. -/
theorem pairQ_eq (C S : S512x128.Idx → EReal) (g : S1x128.Idx → EReal) (c s : Fin 32 → EReal)
    (hC : ∀ l : Fin 128, C (ix2 r l) = if h : l.val % 64 < 32 then c ⟨l.val % 64, h⟩ else c ⟨l.val % 64 - 32, by omega⟩)
    (hS : ∀ l : Fin 128, S (ix2 r l) = if h : l.val % 64 < 32 then - s ⟨l.val % 64, h⟩ else s ⟨l.val % 64 - 32, by omega⟩)
    (hg : ∀ l : Fin 128, g (ix2 0 l) = hq (ix1 ⟨128 + l.val % 64, by omega⟩)) (p : Fin 4) (l : Fin 128) :
    pairQ Q C S g p r l
      = turned c s (fun d => queryN x gq wq hq i ⟨2 * p.val + l.val / 64, by omega⟩ ⟨128 + d.val, by omega⟩) ⟨l.val % 64, by omega⟩
        * scale := by
  unfold pairQ
  rw [lane_turned _ _ _ c s l (hC l) (hS l)]
  refine congrArg (fun z => turned c s z _ * scale) (funext fun d => ?_)
  have hp := p.isLt
  have hl := l.isLt
  have hd := d.isLt
  rw [← query_normed x gq wq hq i r Q hQ, hg]
  refine congr (congrArg HMul.hMul (congr (congrArg HMul.hMul ?_) ?_)) ?_
  · exact query_turned x gq wq i r Q hQ _ _ _ (by dsimp only; omega) (by dsimp only; omega)
  · split_ifs with h
    · exact congrArg (fun t => factor (sumQ Q r t)) (Fin.ext (by dsimp only at h ⊢; omega))
    · exact congrArg (fun t => factor (sumQ Q r t)) (Fin.ext (by dsimp only at h ⊢; omega))
  · exact congrArg (fun t => hq (ix1 t)) (Fin.ext (by dsimp only; omega))

end Query

section Key

variable (K : S512x2048.Idx → EReal) (hK : ∀ j, K (ix2 r j) = ∑ k : Fin 256, latKV x gkv i k * orderedKV wkv (ix2 k j))
include hK

theorem key_plain (h : Fin 8) (d : Fin 256) (j : Fin 2048) (hd : d.val < 128) (hj : j.val = h.val * 128 + d.val) :
    K (ix2 r j) = keyValue x gkv wkv i h d := by
  have hh := h.isLt
  rw [hK]
  refine Finset.sum_congr rfl fun k _ => congrArg (fun t => latKV x gkv i k * t) ?_
  rw [orderedKV_apply, dif_pos (by omega)]
  exact congrArg (fun t => wkv (ix2 k t)) (Fin.ext (by dsimp only; omega))

theorem value_eq (h : Fin 8) (d : Fin 256) (j : Fin 2048) (hd : 128 ≤ d.val) (hj : j.val = 1024 + h.val * 128 + (d.val - 128)) :
    K (ix2 r j) = keyValue x gkv wkv i h d := by
  have hh := h.isLt
  have hd' := d.isLt
  rw [hK]
  refine Finset.sum_congr rfl fun k _ => congrArg (fun t => latKV x gkv i k * t) ?_
  rw [orderedKV_apply, dif_neg (by omega)]
  exact congrArg (fun t => wkv (ix2 k t)) (Fin.ext (by dsimp only; omega))

variable (R : S512x128.Idx → EReal) (hR : ∀ d : Fin 64, R (ix2 r ⟨d.val, by omega⟩) = x (ix2 i (colR d)))
include hR

theorem sumK_eq (h : Fin 8) : sumK K R r h = ∑ d : Fin 192, key x gkv wkv i h d * key x gkv wkv i h d := by
  rw [sum_head]
  unfold sumK key
  refine congrArg₂ (fun a b : EReal => a + b) (Finset.sum_congr rfl fun l _ => sq_eq ?_) (Finset.sum_congr rfl fun d _ => sq_eq ?_)
  · rw [dif_pos l.isLt]
    exact key_plain x gkv wkv i r K hK h _ _ l.isLt rfl
  · rw [dif_neg (by dsimp only; omega), hR]
    exact congrArg (fun t => x (ix2 i (colR t))) (Fin.ext (by dsimp only; omega))

theorem key_normed (h : Fin 8) (d : Fin 192) : key x gkv wkv i h d * factor (sumK K R r h) * hk (ix1 d) = keyN x gkv wkv hk i h d := by
  rw [sumK_eq x gkv wkv i r K hK R hR h, factor_eq]
  rfl

/-- A pair of heads' turned keys. -/
theorem pairK_eq (C S : S512x128.Idx → EReal) (g : S1x128.Idx → EReal) (c s : Fin 32 → EReal)
    (hC : ∀ l : Fin 128, C (ix2 r l) = if h : l.val % 64 < 32 then c ⟨l.val % 64, h⟩ else c ⟨l.val % 64 - 32, by omega⟩)
    (hS : ∀ l : Fin 128, S (ix2 r l) = if h : l.val % 64 < 32 then - s ⟨l.val % 64, h⟩ else s ⟨l.val % 64 - 32, by omega⟩)
    (hg : ∀ l : Fin 128, g (ix2 0 l) = hk (ix1 ⟨128 + l.val % 64, by omega⟩)) (p : Fin 4) (l : Fin 128) :
    lane (fun l => C (ix2 r l)) (fun l => S (ix2 r l))
        (fun l => (if l.val < 64 then R (ix2 r l) else R (ix2 r ⟨(l.val + 128 - 64) % 128, by omega⟩)) * g (ix2 0 l)) l
      * (if l.val < 64 then factor (sumK K R r ⟨2 * p.val, by omega⟩) else factor (sumK K R r ⟨2 * p.val + 1, by omega⟩))
      = turned c s (fun d => keyN x gkv wkv hk i ⟨2 * p.val + l.val / 64, by omega⟩ ⟨128 + d.val, by omega⟩) ⟨l.val % 64, by omega⟩ := by
  have hp := p.isLt
  have hl := l.isLt
  have hf : (if l.val < 64 then factor (sumK K R r ⟨2 * p.val, by omega⟩) else factor (sumK K R r ⟨2 * p.val + 1, by omega⟩))
      = factor (sumK K R r ⟨2 * p.val + l.val / 64, by omega⟩) := by
    split_ifs with h
    · exact congrArg (fun t => factor (sumK K R r t)) (Fin.ext (by dsimp only; omega))
    · exact congrArg (fun t => factor (sumK K R r t)) (Fin.ext (by dsimp only; omega))
  have hb := factor_bounds (sumK K R r ⟨2 * p.val + l.val / 64, by omega⟩)
    (by
      rw [sumK_eq x gkv wkv i r K hK R hR]
      exact Finset.sum_nonneg fun d _ => square_nonneg _)
  rw [hf, lane_turned _ _ _ c s l (hC l) (hS l), turned_scale c s _ _ hb.1 hb.2]
  refine congrArg (fun z => turned c s z _) (funext fun d => ?_)
  have hd := d.isLt
  have e : (if l.val / 64 * 64 + d.val < 64 then R (ix2 r ⟨l.val / 64 * 64 + d.val, by omega⟩)
      else R (ix2 r ⟨(l.val / 64 * 64 + d.val + 128 - 64) % 128, by omega⟩)) = x (ix2 i (colR d)) := by
    rw [← hR]
    split_ifs with h
    · exact congrArg (fun t => R (ix2 r t)) (Fin.ext (by dsimp only; omega))
    · exact congrArg (fun t => R (ix2 r t)) (Fin.ext (by dsimp only; omega))
  rw [← key_normed x gkv wkv hk i r K hK R hR, mul_right_comm, hg]
  refine congr (congrArg HMul.hMul (congrArg (fun t => t * _) (e.trans ?_))) ?_
  · unfold key
    rw [dif_neg (by dsimp only; omega)]
    exact congrArg (fun t => x (ix2 i (colR t))) (Fin.ext (by dsimp only; omega))
  · exact congrArg (fun t => hk (ix1 t)) (Fin.ext (by dsimp only; omega))

end Key

end Cert.MlaPrep

end
-- ==== Proof.MlaOut.lean ====
/-
  What a point of the latent attention's call stores, entry by entry.
-/
module

public import proofs.«01_k».proof.Proof.MlaBlock
public import proofs.«01_k».proof.Proof.Gen.Kernel9Ideal.Value
public import Idealize.ShloMosaic.Lib.Pipeline.Frame
public import Idealize.ShloMosaic.Lib.Pipeline.ValueKit
public import Idealize.ShloMosaic.Lib.Pipeline.ReadBack
public import Idealize.ShloMosaic.Lib.Pointwise

@[expose] public section

noncomputable section

namespace Cert.MlaPrep

open Cert.Norm Cert.Kernel9Ideal Cert.Kernel9Ideal.Gen Cert.Kernel9Ideal.Value
open Idealize.ShloMosaic Idealize.ShloMosaic.TcCoe Idealize.SL.Sem
open scoped BigOperators

variable (x0 : S512x512.Idx → EReal) (x1 : S512x256.Idx → EReal) (x2 : S512x128.Idx → EReal) (x3 : S1x512.Idx → EReal)
  (x4 : S1x256.Idx → EReal) (x5 : S512x1536.Idx → EReal) (x6 : S256x2048.Idx → EReal) (x7 x8 x9 x10 : S1x128.Idx → EReal)
  (x11 x12 : S512x128.Idx → EReal)

/-- The values a point stores. -/
theorem out17 (r : Fin 512) (l : Fin 1024) :
    (out0_17 (F := Ideal) x0 x1 x2 x3 x4 x5 x6 x7 x8 x9 x10 x11 x12 : S512x1024.Idx → EReal) (ix2 r l) = kvBlk x1 x4 x6 (ix2 r ⟨1024 + l.val, by omega⟩) := by
  unfold_out out0_17
  frame_out
  unfold k0_pay7 kvBlk
  generalize k0_pay6 (F := Ideal) (k0_pay4 (F := Ideal) x1 x4) (k0_pay5 (F := Ideal) x6) (constant S512x2048 .f32 0x00000000#32) = K
  pointwise

/-- The queries' first lanes a point stores. -/
theorem out13 (r : Fin 512) (l : Fin 1024) :
    (out0_13 (F := Ideal) x0 x1 x2 x3 x4 x5 x6 x7 x8 x9 x10 x11 x12 : S512x1024.Idx → EReal) (ix2 r l)
      = k0_pay3 (F := Ideal) x0 x3 x5 (ix2 r ⟨l.val, by omega⟩) * factor (sumQ (k0_pay3 (F := Ideal) x0 x3 x5) r ⟨l.val / 128, by omega⟩)
          * x7 (ix2 0 ⟨l.val % 128, by omega⟩) * scale := by
  unfold_out out0_13
  frame_out
  refine (canon13_eq (F := Ideal) x0 x3 x5 x7 (ix2 r l)).trans ?_
  rw [← fam_q x0 x3 x5 x7]
  have i0 : ix13_0 (ix2 r l) = ix2 r ⟨l.val, by omega⟩ := funext fun a => match a with | ⟨0, _⟩ => rfl | ⟨1, _⟩ => rfl
  have i1 : ix13_1 (ix2 r l) = ix1 r := funext fun a => match a with | ⟨0, _⟩ => rfl
  have i2 : ix13_2 (ix2 r l) = ix2 0 ⟨l.val % 128, by omega⟩ := funext fun a => match a with | ⟨0, _⟩ => rfl | ⟨1, _⟩ => rfl
  unfold E13
  rw [i0, i1, i2]
  rfl

/-- The keys' first lanes a point stores. -/
theorem out15 (r : Fin 512) (l : Fin 1024) :
    (out0_15 (F := Ideal) x0 x1 x2 x3 x4 x5 x6 x7 x8 x9 x10 x11 x12 : S512x1024.Idx → EReal) (ix2 r l)
      = kvBlk x1 x4 x6 (ix2 r ⟨l.val, by omega⟩) * factor (sumK (kvBlk x1 x4 x6) x2 r ⟨l.val / 128, by omega⟩)
          * x9 (ix2 0 ⟨l.val % 128, by omega⟩) := by
  unfold_out out0_15
  frame_out
  refine (canon15_eq (F := Ideal) x1 x4 x6 x2 x9 (ix2 r l)).trans ?_
  rw [← fam_k x1 x4 x6 x2 x9]
  have i0 : ix15_0 (ix2 r l) = ix2 r ⟨l.val, by omega⟩ := funext fun a => match a with | ⟨0, _⟩ => rfl | ⟨1, _⟩ => rfl
  have i1 : ix15_1 (ix2 r l) = ix1 r := funext fun a => match a with | ⟨0, _⟩ => rfl
  have i2 : ix15_2 (ix2 r l) = ix2 0 ⟨l.val % 128, by omega⟩ := funext fun a => match a with | ⟨0, _⟩ => rfl | ⟨1, _⟩ => rfl
  unfold E15
  rw [i0, i1, i2]
  rfl

/-- The keys' turned lanes a point stores. -/
theorem out16 (r : Fin 512) (l : Fin 512) :
    (out0_16 (F := Ideal) x0 x1 x2 x3 x4 x5 x6 x7 x8 x9 x10 x11 x12 : S512x512.Idx → EReal) (ix2 r l)
      = lane (fun l => x11 (ix2 r l)) (fun l => x12 (ix2 r l))
          (fun l => (if l.val < 64 then x2 (ix2 r l) else x2 (ix2 r ⟨(l.val + 128 - 64) % 128, by omega⟩)) * x10 (ix2 0 l)) ⟨l.val % 128, by omega⟩
        * (if l.val % 128 < 64 then factor (sumK (kvBlk x1 x4 x6) x2 r ⟨2 * (l.val / 128), by omega⟩)
            else factor (sumK (kvBlk x1 x4 x6) x2 r ⟨2 * (l.val / 128) + 1, by omega⟩)) := by
  unfold_out out0_16
  frame_out
  refine (canon16_eq (F := Ideal) x11 x12 x10 x2 x1 x4 x6 (ix2 r l)).trans ?_
  have i0 : ix16_0 (ix2 r l) = ix2 r ⟨l.val % 128, by omega⟩ := funext fun a => match a with | ⟨0, _⟩ => rfl | ⟨1, _⟩ => rfl
  have i1 : ix16_1 (ix2 r l) = ix2 r ⟨l.val % 128, by omega⟩ := funext fun a => match a with | ⟨0, _⟩ => rfl | ⟨1, _⟩ => rfl
  have i2 : ix16_2 (ix2 r l) = ix1 r := funext fun a => match a with | ⟨0, _⟩ => rfl
  have i3 : ix16_3 (ix2 r l) = ix1 r := funext fun a => match a with | ⟨0, _⟩ => rfl
  rw [← pay18_apply, ← fam_first x11 x12 x10 x2 x1 x4 x6 ⟨l.val / 128, by omega⟩, ← fam_second x11 x12 x10 x2 x1 x4 x6 ⟨l.val / 128, by omega⟩]
  unfold E16
  rw [i0, i1, i2, i3, first_apply, choose]
  simp only [shapeCast_self]
  rfl

/-- Where a stored tile's entry lies in the block. -/
theorem tile_at {o : ℕ} (inb) (r : Fin 512) (l : Fin 128) (h : o + l.val < 512) :
    (Rect.unit (s := S512x512) ![0, o] ![512, 128] inb).emb (ix2 r l) = ix2 r ⟨o + l.val, h⟩ :=
  funext fun a => match a with
    | ⟨0, _⟩ => Fin.ext (show 0 + 1 * r.val = r.val by omega)
    | ⟨1, _⟩ => Fin.ext (show o + 1 * l.val = o + l.val by omega)

/-- A block of turned queries. -/
def turnedBlk (Q : S512x1536.Idx → EReal) (C S : S512x128.Idx → EReal) (g : S1x128.Idx → EReal) : S512x512.Idx → EReal := fun y =>
  pairQ Q C S g ⟨(y 1).val / 128, by have h := (y 1).isLt; change (y 1).val < 512 at h; omega⟩ (y 0) ⟨(y 1).val % 128, by omega⟩

theorem turned_tile (Q : S512x1536.Idx → EReal) (C S : S512x128.Idx → EReal) (g : S1x128.Idx → EReal) (p : Fin 4) {o : ℕ} (inb)
    (r : Fin 512) (l : Fin 128) (ho : o = p.val * 128) :
    turnedBlk Q C S g ((Rect.unit (s := S512x512) ![0, o] ![512, 128] inb).emb (ix2 r l)) = pairQ Q C S g p r l := by
  have hp := p.isLt
  have hl := l.isLt
  rw [tile_at inb r l (by omega)]
  refine congr (congr (congrArg (fun p => pairQ Q C S g p) (Fin.ext ?_)) rfl) (Fin.ext ?_)
  · show (o + l.val) / 128 = p.val
    omega
  · show (o + l.val) % 128 = l.val
    omega

/-- The queries' turned lanes a point stores. -/
theorem out14 (y : S512x512.Idx) :
    (out0_14 (F := Ideal) x0 x1 x2 x3 x4 x5 x6 x7 x8 x9 x10 x11 x12 : S512x512.Idx → EReal) y = turnedBlk (k0_pay3 (F := Ideal) x0 x3 x5) x11 x12 x8 y := by
  unfold_out out0_14
  frame_out
  generalize k0_pay3 (F := Ideal) x0 x3 x5 = Q
  refine (congrArg (fun K => View.canon K y) (List.append_nil _).symm).trans
    (View.canon_append_of_piecesOf (Val := Elt Ideal) (e := .bf16) _ [] [_, _, _, _] ⟨?_, ?_, ?_, ?_, trivial⟩ y
      (cover0_14 _ _ _ _ y))
  · intro x
    obtain ⟨r, l, rfl⟩ : ∃ (r : Fin 512) (l : Fin 128), x = ix2 r l := ⟨_, _, eq_ix2 x⟩
    exact (pair3 Q x11 x12 x8 r l).trans (turned_tile Q x11 x12 x8 3 inb_S512x512_S512x128_0_384 r l rfl).symm
  · intro x
    obtain ⟨r, l, rfl⟩ : ∃ (r : Fin 512) (l : Fin 128), x = ix2 r l := ⟨_, _, eq_ix2 x⟩
    exact (pair2 Q x11 x12 x8 r l).trans (turned_tile Q x11 x12 x8 2 inb_S512x512_S512x128_0_256 r l rfl).symm
  · intro x
    obtain ⟨r, l, rfl⟩ : ∃ (r : Fin 512) (l : Fin 128), x = ix2 r l := ⟨_, _, eq_ix2 x⟩
    exact (pair1 Q x11 x12 x8 r l).trans (turned_tile Q x11 x12 x8 1 inb_S512x512_S512x128_0_128 r l rfl).symm
  · intro x
    obtain ⟨r, l, rfl⟩ : ∃ (r : Fin 512) (l : Fin 128), x = ix2 r l := ⟨_, _, eq_ix2 x⟩
    exact (pair0 Q x11 x12 x8 r l).trans (turned_tile Q x11 x12 x8 0 inb_S512x512_S512x128_0_0 r l rfl).symm

end Cert.MlaPrep

end
-- ==== Proof.MlaArr.lean ====
/-
  The latent attention's call: what a point reads, and what the run leaves in the output arrays.
-/
module

public import proofs.«01_k».proof.Proof.MlaHead
public import proofs.«01_k».proof.Proof.MlaOut
public import proofs.«01_k».proof.Proof.Gen.Kernel9Ideal.Value
public import Idealize.ShloMosaic.Lib.Pipeline.Frame
public import Idealize.ShloMosaic.Lib.Pipeline.ValueKit
public import Idealize.ShloMosaic.Lib.Pointwise

@[expose] public section

noncomputable section

namespace Cert.MlaPrep

open Cert.Norm Cert.Kernel9Ideal Cert.Kernel9Ideal.Gen Cert.Kernel9Ideal.Value
open Idealize.ShloMosaic Idealize.ShloMosaic.TcCoe Idealize.SL.Sem
open scoped BigOperators

theorem index_0 : ∀ t : Fin cfg0.N, (cfg0.win 0).index t = ![t.val, 3] :=
  (by decide +kernel : ∀ t : Fin grid0.N, win0_0.index t = ![t.val, 3])
theorem index_1 : ∀ t : Fin cfg0.N, (cfg0.win 1).index t = ![t.val, 14] :=
  (by decide +kernel : ∀ t : Fin grid0.N, win0_1.index t = ![t.val, 14])
theorem index_2 : ∀ t : Fin cfg0.N, (cfg0.win 2).index t = ![t.val, 30] :=
  (by decide +kernel : ∀ t : Fin grid0.N, win0_2.index t = ![t.val, 30])
theorem index_3 : ∀ t : Fin cfg0.N, (cfg0.win 3).index t = ![0, 0] :=
  (by decide +kernel : ∀ t : Fin grid0.N, win0_3.index t = ![0, 0])
theorem index_4 : ∀ t : Fin cfg0.N, (cfg0.win 4).index t = ![0, 0] :=
  (by decide +kernel : ∀ t : Fin grid0.N, win0_4.index t = ![0, 0])
theorem index_5 : ∀ t : Fin cfg0.N, (cfg0.win 5).index t = ![0, 0] :=
  (by decide +kernel : ∀ t : Fin grid0.N, win0_5.index t = ![0, 0])
theorem index_6 : ∀ t : Fin cfg0.N, (cfg0.win 6).index t = ![0, 0] :=
  (by decide +kernel : ∀ t : Fin grid0.N, win0_6.index t = ![0, 0])
theorem index_7 : ∀ t : Fin cfg0.N, (cfg0.win 7).index t = ![0, 0] :=
  (by decide +kernel : ∀ t : Fin grid0.N, win0_7.index t = ![0, 0])
theorem index_8 : ∀ t : Fin cfg0.N, (cfg0.win 8).index t = ![0, 0] :=
  (by decide +kernel : ∀ t : Fin grid0.N, win0_8.index t = ![0, 0])
theorem index_9 : ∀ t : Fin cfg0.N, (cfg0.win 9).index t = ![0, 0] :=
  (by decide +kernel : ∀ t : Fin grid0.N, win0_9.index t = ![0, 0])
theorem index_10 : ∀ t : Fin cfg0.N, (cfg0.win 10).index t = ![0, 0] :=
  (by decide +kernel : ∀ t : Fin grid0.N, win0_10.index t = ![0, 0])
theorem index_11 : ∀ t : Fin cfg0.N, (cfg0.win 11).index t = ![t.val % 16, 0] :=
  (by decide +kernel : ∀ t : Fin grid0.N, win0_11.index t = ![t.val % 16, 0])
theorem index_12 : ∀ t : Fin cfg0.N, (cfg0.win 12).index t = ![t.val % 16, 0] :=
  (by decide +kernel : ∀ t : Fin grid0.N, win0_12.index t = ![t.val % 16, 0])
theorem index_13 : ∀ t : Fin cfg0.N, (cfg0.win 13).index t = ![t.val, 0] :=
  (by decide +kernel : ∀ t : Fin grid0.N, win0_13.index t = ![t.val, 0])
theorem index_14 : ∀ t : Fin cfg0.N, (cfg0.win 14).index t = ![t.val, 0] :=
  (by decide +kernel : ∀ t : Fin grid0.N, win0_14.index t = ![t.val, 0])
theorem index_15 : ∀ t : Fin cfg0.N, (cfg0.win 15).index t = ![t.val, 0] :=
  (by decide +kernel : ∀ t : Fin grid0.N, win0_15.index t = ![t.val, 0])
theorem index_16 : ∀ t : Fin cfg0.N, (cfg0.win 16).index t = ![t.val, 0] :=
  (by decide +kernel : ∀ t : Fin grid0.N, win0_16.index t = ![t.val, 0])
theorem index_17 : ∀ t : Fin cfg0.N, (cfg0.win 17).index t = ![t.val, 0] :=
  (by decide +kernel : ∀ t : Fin grid0.N, win0_17.index t = ![t.val, 0])

variable (m : (ℓ : Loc nD τ sig) → Buf (Elt Ideal) ℓ) (c : Dev nD)

theorem block_0 (t : Fin cfg0.N) (r : Fin 512) (k : Fin 512) (i : Fin 32768) (hi : i.val = t.val * 512 + r.val) :
    iblk m c 0 t (ix2 r k) = rows m c (ix2 i (colQ k)) := by
  refine Eq.trans ?_ (congrFun (V_main_arg0 m c) (ix2 i (colQ k)))
  blk_ext! [iblk, index_0 t]
theorem block_1 (t : Fin cfg0.N) (r : Fin 512) (k : Fin 256) (i : Fin 32768) (hi : i.val = t.val * 512 + r.val) :
    iblk m c 1 t (ix2 r k) = rows m c (ix2 i (colKV k)) := by
  refine Eq.trans ?_ (congrFun (V_main_arg0 m c) (ix2 i (colKV k)))
  blk_ext! [iblk, index_1 t]
theorem block_2 (t : Fin cfg0.N) (r : Fin 512) (d : Fin 64) (i : Fin 32768) (hi : i.val = t.val * 512 + r.val) :
    iblk m c 2 t (ix2 r ⟨d.val, by omega⟩) = rows m c (ix2 i (colR d)) := by
  refine Eq.trans ?_ (congrFun (V_main_arg0 m c) (ix2 i (colR d)))
  blk_ext! [iblk, index_2 t]
theorem block_3 (t : Fin cfg0.N) (k : Fin 512) : iblk m c 3 t (ix2 0 k) = gainQ m c (ix1 k) := by
  rw [← V_gainQ m c]
  blk_ext! [iblk, index_3 t]
theorem block_4 (t : Fin cfg0.N) (k : Fin 256) : iblk m c 4 t (ix2 0 k) = gainKV m c (ix1 k) := by
  rw [← V_gainKV m c]
  blk_ext! [iblk, index_4 t]
theorem block_5 (t : Fin cfg0.N) (k : Fin 512) (j : Fin 1536) : iblk m c 5 t (ix2 k j) = orderedQ (weightQ m c) (ix2 k j) := by
  rw [← V_orderedQ m c]
  blk_ext! [iblk, index_5 t]
theorem block_6 (t : Fin cfg0.N) (k : Fin 256) (j : Fin 2048) : iblk m c 6 t (ix2 k j) = orderedKV (weightKV m c) (ix2 k j) := by
  rw [← V_orderedKV m c]
  blk_ext! [iblk, index_6 t]
theorem block_7 (t : Fin cfg0.N) (l : Fin 128) : iblk m c 7 t (ix2 0 l) = headQ m c (ix1 ⟨l.val, by omega⟩) := by
  refine Eq.trans ?_ (plainGain_apply (headQ m c) l)
  rw [← V_plainQ m c]
  blk_ext! [iblk, index_7 t]
theorem block_8 (t : Fin cfg0.N) (l : Fin 128) : iblk m c 8 t (ix2 0 l) = headQ m c (ix1 ⟨128 + l.val % 64, by omega⟩) := by
  refine Eq.trans ?_ (turnedGain_apply (headQ m c) l)
  rw [← V_turnedQ m c]
  blk_ext! [iblk, index_8 t]
theorem block_9 (t : Fin cfg0.N) (l : Fin 128) : iblk m c 9 t (ix2 0 l) = headK m c (ix1 ⟨l.val, by omega⟩) := by
  refine Eq.trans ?_ (plainGain_apply (headK m c) l)
  rw [← V_plainK m c]
  blk_ext! [iblk, index_9 t]
theorem block_10 (t : Fin cfg0.N) (l : Fin 128) : iblk m c 10 t (ix2 0 l) = headK m c (ix1 ⟨128 + l.val % 64, by omega⟩) := by
  refine Eq.trans ?_ (turnedGain_apply (headK m c) l)
  rw [← V_turnedK m c]
  blk_ext! [iblk, index_10 t]
theorem block_11 (t : Fin cfg0.N) (r : Fin 512) (l : Fin 128) (n : Fin 8192) (hn : n.val = t.val % 16 * 512 + r.val) :
    iblk m c 11 t (ix2 r l) = if h : l.val % 64 < 32 then cosAt n ⟨l.val % 64, h⟩ else cosAt n ⟨l.val % 64 - 32, by omega⟩ := by
  refine Eq.trans ?_ (twice_apply (Cert.Reference9Ideal.Read.val_main_v80 (F := Ideal)) (Cert.Reference9Ideal.Read.val_main_v80 (F := Ideal)) n l)
  rw [← V_cos m c]
  blk_ext! [iblk, index_11 t]
theorem block_12 (t : Fin cfg0.N) (r : Fin 512) (l : Fin 128) (n : Fin 8192) (hn : n.val = t.val % 16 * 512 + r.val) :
    iblk m c 12 t (ix2 r l) = if h : l.val % 64 < 32 then - sinAt n ⟨l.val % 64, h⟩ else sinAt n ⟨l.val % 64 - 32, by omega⟩ := by
  refine Eq.trans ?_ (twice_apply (Host.negf (F := Ideal) (φ := .f32) (Cert.Reference9Ideal.Read.val_main_v82 (F := Ideal)))
    (Cert.Reference9Ideal.Read.val_main_v82 (F := Ideal)) n l)
  rw [← V_sin m c]
  blk_ext! [iblk, index_12 t]

/-- A point's queries are the rows'. -/
theorem queries (t : Fin cfg0.N) (r : Fin 512) (i : Fin 32768) (hi : i.val = t.val * 512 + r.val) (j : Fin 1536) :
    (k0_pay3 (F := Ideal) (iblk m c 0 t) (iblk m c 3 t) (iblk m c 5 t) : S512x1536.Idx → EReal) (ix2 r j)
      = ∑ k : Fin 512, latQ (rows m c) (gainQ m c) i k * orderedQ (weightQ m c) (ix2 k j) :=
  (pay3_apply _ _ _ r j).trans (Finset.sum_congr rfl fun k _ => congrArg₂ (fun a b : EReal => a * b)
    (congrArg₂ (fun a b => normed (Ideal.ofBits .f32 0x44000000#32) a b k) (funext fun k => block_0 m c t r k i hi)
      (funext fun k => block_3 m c t k)) (block_5 m c t k j))

/-- A point's keys and values are the rows'. -/
theorem keyValues (t : Fin cfg0.N) (r : Fin 512) (i : Fin 32768) (hi : i.val = t.val * 512 + r.val) (j : Fin 2048) :
    kvBlk (iblk m c 1 t) (iblk m c 4 t) (iblk m c 6 t) (ix2 r j)
      = ∑ k : Fin 256, latKV (rows m c) (gainKV m c) i k * orderedKV (weightKV m c) (ix2 k j) :=
  (kvBlk_apply _ _ _ r j).trans (Finset.sum_congr rfl fun k _ => congrArg₂ (fun a b : EReal => a * b)
    (congrArg₂ (fun a b => normed (Ideal.ofBits .f32 0x43800000#32) a b k) (funext fun k => block_1 m c t r k i hi)
      (funext fun k => block_4 m c t k)) (block_6 m c t k j))

/-- The queries' first lanes, scaled. -/
def qn : S32768x1024.Idx → EReal := fun y =>
  queryN (rows m c) (gainQ m c) (weightQ m c) (headQ m c) (y 0) ⟨(y 1).val / 128, by have h := (y 1).isLt; change (y 1).val < 1024 at h; omega⟩
    ⟨(y 1).val % 128, by omega⟩ * scale
/-- The queries' turned lanes, scaled. -/
def qr : S32768x512.Idx → EReal := fun y =>
  turned (cosAt (place (y 0))) (sinAt (place (y 0)))
    (fun d => queryN (rows m c) (gainQ m c) (weightQ m c) (headQ m c) (y 0)
      ⟨(y 1).val / 64, by have h := (y 1).isLt; change (y 1).val < 512 at h; omega⟩ ⟨128 + d.val, by omega⟩) ⟨(y 1).val % 64, by omega⟩ * scale
/-- The keys' first lanes. -/
def kn : S32768x1024.Idx → EReal := fun y =>
  keyN (rows m c) (gainKV m c) (weightKV m c) (headK m c) (y 0) ⟨(y 1).val / 128, by have h := (y 1).isLt; change (y 1).val < 1024 at h; omega⟩
    ⟨(y 1).val % 128, by omega⟩
/-- The keys' turned lanes. -/
def kr : S32768x512.Idx → EReal := fun y =>
  turned (cosAt (place (y 0))) (sinAt (place (y 0)))
    (fun d => keyN (rows m c) (gainKV m c) (weightKV m c) (headK m c) (y 0)
      ⟨(y 1).val / 64, by have h := (y 1).isLt; change (y 1).val < 512 at h; omega⟩ ⟨128 + d.val, by omega⟩) ⟨(y 1).val % 64, by omega⟩
/-- The values. -/
def vs : S32768x1024.Idx → EReal := fun y =>
  keyValue (rows m c) (gainKV m c) (weightKV m c) (y 0) ⟨(y 1).val / 128, by have h := (y 1).isLt; change (y 1).val < 1024 at h; omega⟩
    ⟨128 + (y 1).val % 128, by omega⟩

/-- The run leaves the values in the fifth output array. -/
theorem vs_arr : (dats m 0 c).arrAt 17 cfg0.N = vs m c := by
  refine (dats m 0 c).arrAt_eq_of_covers 17 _ (by decide +kernel) fun t hf y => ?_
  have ht : t.val < 64 := t.isLt
  obtain ⟨r, l, rfl⟩ : ∃ (r : Fin 512) (l : Fin 1024), y = (ix2 r l : S512x1024.Idx) := ⟨y (0 : Fin 2), y (1 : Fin 2), eq_ix2 _⟩
  blk_simp
  rw [after0_17]
  have hr := r.isLt
  have hl := l.isLt
  refine Eq.trans (b := vs m c (ix2 ⟨t.val * 512 + r.val, by omega⟩ l)) ?_ (congrArg (vs m c) ?_)
  · refine (out17 _ _ _ _ _ _ _ _ _ _ _ _ _ r l).trans ?_
    exact value_eq (rows m c) (gainKV m c) (weightKV m c) _ r (kvBlk (iblk m c 1 t) (iblk m c 4 t) (iblk m c 6 t)) (keyValues m c t r ⟨t.val * 512 + r.val, by omega⟩ rfl) ⟨l.val / 128, by omega⟩ ⟨128 + l.val % 128, by omega⟩ _ (by dsimp only; omega) (by dsimp only; omega)
  · blk_ext! [index_17 t]

/-- The run leaves the queries' first lanes in the first. -/
theorem qn_arr : (dats m 0 c).arrAt 13 cfg0.N = qn m c := by
  refine (dats m 0 c).arrAt_eq_of_covers 13 _ (by decide +kernel) fun t hf y => ?_
  have ht : t.val < 64 := t.isLt
  obtain ⟨r, l, rfl⟩ : ∃ (r : Fin 512) (l : Fin 1024), y = (ix2 r l : S512x1024.Idx) := ⟨y (0 : Fin 2), y (1 : Fin 2), eq_ix2 _⟩
  blk_simp
  rw [after0_13]
  have hr := r.isLt
  have hl := l.isLt
  refine Eq.trans (b := qn m c (ix2 ⟨t.val * 512 + r.val, by omega⟩ l)) ?_ (congrArg (qn m c) ?_)
  · refine (out13 _ _ _ _ _ _ _ _ _ _ _ _ _ r l).trans ?_
    rw [query_plain (rows m c) (gainQ m c) (weightQ m c) _ r (k0_pay3 (F := Ideal) (iblk m c 0 t) (iblk m c 3 t) (iblk m c 5 t)) (queries m c t r ⟨t.val * 512 + r.val, by omega⟩ rfl) ⟨l.val / 128, by omega⟩ ⟨l.val % 128, by omega⟩ ⟨l.val, by omega⟩ (by dsimp only; omega) (by dsimp only; omega), block_7]
    exact congrArg (fun a => a * scale) (query_normed (rows m c) (gainQ m c) (weightQ m c) (headQ m c) _ r (k0_pay3 (F := Ideal) (iblk m c 0 t) (iblk m c 3 t) (iblk m c 5 t)) (queries m c t r ⟨t.val * 512 + r.val, by omega⟩ rfl) ⟨l.val / 128, by omega⟩ ⟨l.val % 128, by omega⟩)
  · blk_ext! [index_13 t]

/-- The run leaves the keys' first lanes in the third. -/
theorem kn_arr : (dats m 0 c).arrAt 15 cfg0.N = kn m c := by
  refine (dats m 0 c).arrAt_eq_of_covers 15 _ (by decide +kernel) fun t hf y => ?_
  have ht : t.val < 64 := t.isLt
  obtain ⟨r, l, rfl⟩ : ∃ (r : Fin 512) (l : Fin 1024), y = (ix2 r l : S512x1024.Idx) := ⟨y (0 : Fin 2), y (1 : Fin 2), eq_ix2 _⟩
  blk_simp
  rw [after0_15]
  have hr := r.isLt
  have hl := l.isLt
  refine Eq.trans (b := kn m c (ix2 ⟨t.val * 512 + r.val, by omega⟩ l)) ?_ (congrArg (kn m c) ?_)
  · refine (out15 _ _ _ _ _ _ _ _ _ _ _ _ _ r l).trans ?_
    have e : kvBlk (iblk m c 1 t) (iblk m c 4 t) (iblk m c 6 t) (ix2 r ⟨l.val, by omega⟩)
        = key (rows m c) (gainKV m c) (weightKV m c) ⟨t.val * 512 + r.val, by omega⟩ ⟨l.val / 128, by omega⟩ ⟨l.val % 128, by omega⟩ := by
      unfold key
      rw [dif_pos (by dsimp only; omega)]
      exact key_plain (rows m c) (gainKV m c) (weightKV m c) _ r (kvBlk (iblk m c 1 t) (iblk m c 4 t) (iblk m c 6 t)) (keyValues m c t r ⟨t.val * 512 + r.val, by omega⟩ rfl) ⟨l.val / 128, by omega⟩ ⟨l.val % 128, by omega⟩ _ (by dsimp only; omega) (by dsimp only; omega)
    rw [e, block_9]
    exact key_normed (rows m c) (gainKV m c) (weightKV m c) (headK m c) _ r (kvBlk (iblk m c 1 t) (iblk m c 4 t) (iblk m c 6 t)) (keyValues m c t r ⟨t.val * 512 + r.val, by omega⟩ rfl) (iblk m c 2 t) (fun d => block_2 m c t r d ⟨t.val * 512 + r.val, by omega⟩ rfl) ⟨l.val / 128, by omega⟩ ⟨l.val % 128, by omega⟩
  · blk_ext! [index_15 t]

/-- The run leaves the keys' turned lanes in the fourth. -/
theorem kr_arr : (dats m 0 c).arrAt 16 cfg0.N = kr m c := by
  refine (dats m 0 c).arrAt_eq_of_covers 16 _ (by decide +kernel) fun t hf y => ?_
  have ht : t.val < 64 := t.isLt
  obtain ⟨r, l, rfl⟩ : ∃ (r : Fin 512) (l : Fin 512), y = (ix2 r l : S512x512.Idx) := ⟨y (0 : Fin 2), y (1 : Fin 2), eq_ix2 _⟩
  blk_simp
  rw [after0_16]
  have hr := r.isLt
  have hl := l.isLt
  refine Eq.trans (b := kr m c (ix2 ⟨t.val * 512 + r.val, by omega⟩ l)) ?_ (congrArg (kr m c) ?_)
  · refine (out16 _ _ _ _ _ _ _ _ _ _ _ _ _ r l).trans ?_
    refine (pairK_eq (rows m c) (gainKV m c) (weightKV m c) (headK m c) ⟨t.val * 512 + r.val, by omega⟩ r (kvBlk (iblk m c 1 t) (iblk m c 4 t) (iblk m c 6 t)) (keyValues m c t r ⟨t.val * 512 + r.val, by omega⟩ rfl) (iblk m c 2 t) (fun d => block_2 m c t r d ⟨t.val * 512 + r.val, by omega⟩ rfl) (iblk m c 11 t) (iblk m c 12 t) (iblk m c 10 t) _ _
      (fun l => block_11 m c t r l (place ⟨t.val * 512 + r.val, by omega⟩) (by show (t.val * 512 + r.val) % 8192 = _; omega))
      (fun l => block_12 m c t r l (place ⟨t.val * 512 + r.val, by omega⟩) (by show (t.val * 512 + r.val) % 8192 = _; omega))
      (fun l => block_10 m c t l) ⟨l.val / 128, by omega⟩ ⟨l.val % 128, by omega⟩).trans ?_
    exact congr (congrArg (turned _ _) (funext fun d => congrArg (fun h => keyN (rows m c) (gainKV m c) (weightKV m c) (headK m c) _ h _) (Fin.ext (show 2 * (l.val / 128) + l.val % 128 / 64 = l.val / 64 by omega))))
      (Fin.ext (show l.val % 128 % 64 = l.val % 64 by omega))
  · blk_ext! [index_16 t]

/-- The run leaves the queries' turned lanes in the second. -/
theorem qr_arr : (dats m 0 c).arrAt 14 cfg0.N = qr m c := by
  refine (dats m 0 c).arrAt_eq_of_covers 14 _ (by decide +kernel) fun t hf y => ?_
  have ht : t.val < 64 := t.isLt
  obtain ⟨r, l, rfl⟩ : ∃ (r : Fin 512) (l : Fin 512), y = (ix2 r l : S512x512.Idx) := ⟨y (0 : Fin 2), y (1 : Fin 2), eq_ix2 _⟩
  blk_simp
  rw [after0_14]
  have hr := r.isLt
  have hl := l.isLt
  refine Eq.trans (b := qr m c (ix2 ⟨t.val * 512 + r.val, by omega⟩ l)) ?_ (congrArg (qr m c) ?_)
  · refine (out14 _ _ _ _ _ _ _ _ _ _ _ _ _ (ix2 r l)).trans ?_
    refine (pairQ_eq (rows m c) (gainQ m c) (weightQ m c) (headQ m c) ⟨t.val * 512 + r.val, by omega⟩ r (k0_pay3 (F := Ideal) (iblk m c 0 t) (iblk m c 3 t) (iblk m c 5 t)) (queries m c t r ⟨t.val * 512 + r.val, by omega⟩ rfl) (iblk m c 11 t) (iblk m c 12 t) (iblk m c 8 t) _ _
      (fun l => block_11 m c t r l (place ⟨t.val * 512 + r.val, by omega⟩) (by show (t.val * 512 + r.val) % 8192 = _; omega))
      (fun l => block_12 m c t r l (place ⟨t.val * 512 + r.val, by omega⟩) (by show (t.val * 512 + r.val) % 8192 = _; omega))
      (fun l => block_8 m c t l) ⟨l.val / 128, by omega⟩ ⟨l.val % 128, by omega⟩).trans ?_
    exact congrArg (fun a => a * scale) (congr (congrArg (turned _ _) (funext fun d => congrArg (fun h => queryN (rows m c) (gainQ m c) (weightQ m c) (headQ m c) _ h _)
      (Fin.ext (show 2 * (l.val / 128) + l.val % 128 / 64 = l.val / 64 by omega)))) (Fin.ext (show l.val % 128 % 64 = l.val % 64 by omega)))
  · blk_ext! [index_14 t]

end Cert.MlaPrep

end
-- ==== Proof.MlaPrep.lean ====
/-
  The latent attention's preparation: the call ends with the reference's queries, keys and values.
-/
module

public import proofs.«01_k».proof.Defs
public import proofs.«01_k».proof.Proof.MlaArr
public import proofs.«01_k».proof.Proof.Gen.Kernel9.Frame
public import proofs.«01_k».proof.Proof.Gen.Reference9Ideal.Run

@[expose] public section

noncomputable section

namespace Cert.MlaPrep

open Cert.Norm Cert.Kernel9Ideal Cert.Kernel9Ideal.Gen
open Idealize.ShloMosaic Idealize.ShloMosaic.TcCoe Idealize.SL.Sem
open scoped BigOperators

/-- The kernel's frame, read on the machine. -/
theorem frame_p : Cert.quiescent_Kernel9 := fun m ρ _ => Cert.Kernel9.Gen.frame (F := Bits) m ρ

/-- The kernel's frame, read on the extended reals. -/
theorem frame_pi : Cert.quiescent_Kernel9Ideal := fun m ρ _ => Cert.Kernel9Ideal.Gen.frame (F := Ideal) m ρ

/-- The reference's frame: its run read at the arguments; it declares no semaphore. -/
theorem frame_ri : Cert.quiescent_Reference9Ideal := fun m ρ _ =>
  (θ_run Cert.Reference9Ideal.defs _ _).mono (fun r h => ⟨fun c => (h c).2.2.2.2.2,
      Idealize.ShloMosaic.sem_eq_zero_of_no_sems (by decide) r.2⟩)
    (Cert.Reference9Ideal.Value.run (F := Ideal) m ρ)

/-- The one replaced constant is the width's inverse. -/
theorem preserves : Cert.preserves_Kernel9_Kernel9Ideal :=
  IdealRules.named_const.statement Cert.Kernel9Ideal.κ "share" .f32 0x3BAAAAAB#32 ((192⁻¹ : ℝ) : EReal) rfl

open Cert.Reference9Ideal.Read in
/-- Both runs end with the same queries, keys and values. -/
theorem algebraic : Cert.algebraic_Kernel9Ideal_Reference9Ideal := by
  intro m g m' g' hpre hagree
  refine ⟨fun c => qn m c, fun c => qr m c, fun c => kn m c, fun c => kr m c, fun c => vs m c, ?_, ?_⟩
  · exact (θ_run Cert.Kernel9Ideal.defs _ _).mono (fun r h c => ⟨(h c).1.trans (qn_arr m c), (h c).2.1.trans (qr_arr m c),
        (h c).2.2.1.trans (kn_arr m c), (h c).2.2.2.1.trans (kr_arr m c), (h c).2.2.2.2.1.trans (vs_arr m c), (h c).2.2.2.2.2⟩)
      (Cert.Kernel9Ideal.Value.run_blocks (F := Ideal) m g)
  · refine (θ_run Cert.Reference9Ideal.defs _ _).mono (fun r h c => ?_) (Cert.Reference9Ideal.Value.run (F := Ideal) m' g')
    obtain ⟨h1, h2, h3, h4, h5, h6⟩ := h c
    obtain ⟨e0, e1, e2, e3, e4, e5, e6⟩ := hagree c
    refine ⟨h1.trans ?_, h2.trans ?_, h3.trans ?_, h4.trans ?_, h5.trans ?_, h6⟩
    · rw [val_main_v139_eq, e0, e1, e3, e5]
      funext y
      exact (congrArg _ (eq_ix2 y)).trans (ref_qn (rows m c) (gainQ m c) (weightQ m c) (headQ m c) (y 0) (y 1))
    · rw [val_main_v143_eq, e0, e1, e3, e5]
      funext y
      exact (congrArg _ (eq_ix2 y)).trans (ref_qr (rows m c) (gainQ m c) (weightQ m c) (headQ m c) (y 0) (y 1))
    · rw [val_main_v146_eq, e0, e2, e4, e6]
      funext y
      exact (congrArg _ (eq_ix2 y)).trans (ref_kn (rows m c) (gainKV m c) (weightKV m c) (headK m c) (y 0) (y 1))
    · rw [val_main_v148_eq, e0, e2, e4, e6]
      funext y
      exact (congrArg _ (eq_ix2 y)).trans (ref_kr (rows m c) (gainKV m c) (weightKV m c) (headK m c) (y 0) (y 1))
    · rw [val_main_v150_eq, e0, e2, e4]
      funext y
      exact (congrArg _ (eq_ix2 y)).trans (ref_v (rows m c) (gainKV m c) (weightKV m c) (y 0) (y 1))

end Cert.MlaPrep

end
-- ==== Proof.lean ====
module

public import proofs.«01_k».proof.Defs
public import proofs.«01_k».proof.Proof.FlashClaim
public import proofs.«01_k».proof.Proof.ExpertsClaim
public import proofs.«01_k».proof.Proof.ProjIn
public import proofs.«01_k».proof.Proof.ProjOut
public import proofs.«01_k».proof.Proof.DenseClaim
public import proofs.«01_k».proof.Proof.AddNorm
public import proofs.«01_k».proof.Proof.MixNorm
public import proofs.«01_k».proof.Proof.ShortConv
public import proofs.«01_k».proof.Proof.MlaPrep
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_experts_named
public import proofs.«01_k».proof.Proof.Gen.Kernel3
public import proofs.«01_k».proof.Proof.Gen.Kernel3.Skeleton
public import proofs.«01_k».proof.Proof.Gen.Kernel3.Launch
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Flash.preFacts, Cert.Pre_experts_named.Gen.facts,
    Cert.Flash.frame_p, Cert.Flash.frame_pi, Cert.Flash.frame_pi_pre, Cert.Flash.frame_ri, Cert.Flash.frame_ri_pre,
    Cert.Experts.quiet_bits, Cert.Experts.quiet, Cert.Experts.frame_ref, Cert.Experts.frame_ref_pre,
    Cert.ProjIn.frame_p, Cert.ProjIn.frame_pi, Cert.ProjIn.frame_ri,
    Cert.ProjOut.frame_p, Cert.ProjOut.frame_pi, Cert.ProjOut.frame_ri,
    Cert.Dense.frame_p, Cert.Dense.frame_pi, Cert.Dense.frame_ri,
    Cert.AddNorm.frame_p, Cert.AddNorm.frame_pi, Cert.AddNorm.frame_ri,
    Cert.MixNorm.frame_p, Cert.MixNorm.frame_pi, Cert.MixNorm.frame_ri,
    Cert.ShortConv.frame_p, Cert.ShortConv.frame_pi, Cert.ShortConv.frame_ri,
    Cert.MlaPrep.frame_p, Cert.MlaPrep.frame_pi, Cert.MlaPrep.frame_ri,
    trivial, Cert.Flash.algebraic, trivial, Cert.Experts.algebraic, trivial, Cert.ProjIn.algebraic, trivial, Cert.ProjOut.algebraic,
    trivial, Cert.Dense.algebraic, trivial, Cert.AddNorm.algebraic, trivial, Cert.MixNorm.algebraic, trivial, Cert.ShortConv.algebraic,
    Cert.MlaPrep.preserves, Cert.MlaPrep.algebraic⟩

end Cert.Proof

end
